-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_and_router [hPre_finite_tokens_and_router : Cert.Pre_finite_tokens_and_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_and_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_tokens_and_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_and_router [hPre_finite_tokens_and_router : Cert.Pre_finite_tokens_and_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_and_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_tokens_and_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_tokens_and_router [hKernelIdeal : Cert.KernelIdeal.Facts] [hPre_finite_tokens_and_router : Cert.Pre_finite_tokens_and_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_and_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_tokens_and_router [hReferenceIdeal : Cert.ReferenceIdeal.Facts] [hPre_finite_tokens_and_router : Cert.Pre_finite_tokens_and_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_and_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_tokens_and_router [hKernelIdeal : Cert.KernelIdeal.Facts] [hReferenceIdeal : Cert.ReferenceIdeal.Facts] [hPre_finite_tokens_and_router : Cert.Pre_finite_tokens_and_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_and_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v17)) (v1 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_v19) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v99)) (v1 : (c : Dev Cert.Kernel5Ideal.nD) → Buf (Elt Ideal) ((c.tc : Thread Cert.Kernel5Ideal.nD Cert.Kernel5Ideal.τ).loc Cert.Kernel5Ideal.main_v103)) (v2 : (c : Dev Cert.Kernel5Ideal.nD) → Buf (Elt Ideal) ((c.tc : Thread Cert.Kernel5Ideal.nD Cert.Kernel5Ideal.τ).loc Cert.Kernel5Ideal.main_v104)) (v3 : (c : Dev Cert.Kernel5Ideal.nD) → Buf (Elt Ideal) ((c.tc : Thread Cert.Kernel5Ideal.nD Cert.Kernel5Ideal.τ).loc Cert.Kernel5Ideal.main_v107)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v99) = v0 c
          ∧ r.2.mem ((c.tc : Thread Cert.Kernel5Ideal.nD Cert.Kernel5Ideal.τ).loc Cert.Kernel5Ideal.main_v103) = v1 c
          ∧ r.2.mem ((c.tc : Thread Cert.Kernel5Ideal.nD Cert.Kernel5Ideal.τ).loc Cert.Kernel5Ideal.main_v104) = v2 c
          ∧ r.2.mem ((c.tc : Thread Cert.Kernel5Ideal.nD Cert.Kernel5Ideal.τ).loc Cert.Kernel5Ideal.main_v107) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_v116) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_tokens_and_router : Cert.Pre_finite_tokens_and_router.Facts),
    quiescent_Kernel (hKernel := hKernel)
    ∧ quiescent_KernelIdeal (hKernelIdeal := hKernelIdeal)
    ∧ quiescent_KernelIdeal_pre_finite_tokens_and_router (hKernelIdeal := hKernelIdeal) (hPre_finite_tokens_and_router := hPre_finite_tokens_and_router)
    ∧ quiescent_ReferenceIdeal (hReferenceIdeal := hReferenceIdeal)
    ∧ quiescent_ReferenceIdeal_pre_finite_tokens_and_router (hReferenceIdeal := hReferenceIdeal) (hPre_finite_tokens_and_router := hPre_finite_tokens_and_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_tokens_and_router (hKernelIdeal := hKernelIdeal) (hReferenceIdeal := hReferenceIdeal) (hPre_finite_tokens_and_router := hPre_finite_tokens_and_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_tokens_and_router.lean ====
abbrev S32x2048x1024 : Shape := ⟨3, ![32, 2048, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S32x2048x1024 : S_.BroadcastsInDim S32x2048x1024 (![] : Fin 0 → Fin S32x2048x1024.rank)
  bcast_S_S1024x8 : S_.BroadcastsInDim S1024x8 (![] : Fin 0 → Fin S1024x8.rank)

variable [Facts]

def fn {F : FTy → Type} [FloatOps F] (main_arg0 : FVec F S32x2048x1024 .f32) (main_arg1 : FVec F S1024x8 .f32) (main_arg2 : FVec F S8x1024x2816 .f32) (main_arg3 : FVec F S8x1024x2816 .f32) (main_arg4 : FVec F S8x2816x1024 .f32) : IVec S32x2048x1024 1 × IVec S1024x8 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S32x2048x1024 : Shape := ⟨3, ![32, 2048, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S65536x1024 : Shape := ⟨2, ![65536, 1024]⟩
abbrev S_ : Shape := ⟨0, ![]⟩
abbrev S1024x128 : Shape := ⟨2, ![1024, 128]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩
abbrev S384x1024 : Shape := ⟨2, ![384, 1024]⟩
abbrev S384x256 : Shape := ⟨2, ![384, 256]⟩

abbrev nBuf : Space → Nat
  | .hbm => 16
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S1024x8, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S65536x1024, .f32⟩
  | .hbm, ⟨6, _⟩ => ⟨S65536x1024, .bf16⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S8x1024x2816, .bf16⟩
  | .hbm, ⟨12, _⟩ => ⟨S8x1024x2816, .bf16⟩
  | .hbm, ⟨13, _⟩ => ⟨S8x2816x1024, .bf16⟩
  | .hbm, ⟨14, _⟩ => ⟨S65536x1024, .f32⟩
  | .hbm, ⟨15, _⟩ => ⟨S32x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x2816x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S128x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 8], ![false, false]⟩

def k0_off1 (i : grid0.Coords) : Fin 2 → Nat :=
  let arg1 : BitVec 32 := BitVec.ofNat 32 (i 1).val
  let v11 : Index := Scalar.indexCast arg1
  let c0_3 : Index := 0#32
  ![v11.toNat, 0]
@[reducible] def k0_t1_loop (v30 : BitVec 32) : Scf.Loop 32 :=
  let c0_i32_22 : BitVec 32 := 0#32
  let c384_i32 : BitVec 32 := 384#32
  let v31 : BitVec 32 := Scalar.subi v30 c384_i32
  let c0_i32_13 : BitVec 32 := 0#32
  let v32 : BitVec 32 := Scalar.maxsi v31 c0_i32_13
  let c256_i32 : BitVec 32 := 256#32
  let v33 : BitVec 32 := Scalar.addi v32 c256_i32
  let c1_i32 : BitVec 32 := 1#32
  let v34 : BitVec 32 := Scalar.subi v33 c1_i32
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c256_i32_14 : BitVec 32 := 256#32
  let c0_i32_17 : BitVec 32 := 0#32
  let v41 : BitVec 1 := Scalar.cmpi .sgt c256_i32_14 c0_i32_17
  let v42 : BitVec 32 := Scalar.extui v41
  let c0_i32_18 : BitVec 32 := 0#32
  let v43 : BitVec 1 := Scalar.cmpi .slt c256_i32_14 c0_i32_18
  let v44 : BitVec 32 := Scalar.extui v43
  let v45 : BitVec 32 := Scalar.subi v42 v44
  let v46 : BitVec 1 := Scalar.cmpi .ne v40 v45
  let v47 : BitVec 32 := Scalar.remsi v34 c256_i32_14
  let c0_i32_19 : BitVec 32 := 0#32
  let v48 : BitVec 1 := Scalar.cmpi .ne v47 c0_i32_19
  let v49 : BitVec 1 := Scalar.andi v46 v48
  let v35 : BitVec 32 := Scalar.divsi v34 c256_i32_14
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_24 : BitVec 32 := 1#32
  ⟨c0_i32_22, v56, c1_i32_24⟩

@[reducible] def k0_t2_loop (v30 : BitVec 32) : Scf.Loop 32 :=
  let c0_i32_22 : BitVec 32 := 0#32
  let c384_i32 : BitVec 32 := 384#32
  let v31 : BitVec 32 := Scalar.subi v30 c384_i32
  let c0_i32_13 : BitVec 32 := 0#32
  let v32 : BitVec 32 := Scalar.maxsi v31 c0_i32_13
  let c256_i32 : BitVec 32 := 256#32
  let v33 : BitVec 32 := Scalar.addi v32 c256_i32
  let c1_i32 : BitVec 32 := 1#32
  let v34 : BitVec 32 := Scalar.subi v33 c1_i32
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c256_i32_14 : BitVec 32 := 256#32
  let c0_i32_17 : BitVec 32 := 0#32
  let v41 : BitVec 1 := Scalar.cmpi .sgt c256_i32_14 c0_i32_17
  let v42 : BitVec 32 := Scalar.extui v41
  let c0_i32_18 : BitVec 32 := 0#32
  let v43 : BitVec 1 := Scalar.cmpi .slt c256_i32_14 c0_i32_18
  let v44 : BitVec 32 := Scalar.extui v43
  let v45 : BitVec 32 := Scalar.subi v42 v44
  let v46 : BitVec 1 := Scalar.cmpi .ne v40 v45
  let v47 : BitVec 32 := Scalar.remsi v34 c256_i32_14
  let c0_i32_19 : BitVec 32 := 0#32
  let v48 : BitVec 1 := Scalar.cmpi .ne v47 c0_i32_19
  let v49 : BitVec 1 := Scalar.andi v46 v48
  let v35 : BitVec 32 := Scalar.divsi v34 c256_i32_14
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let v53 : BitVec 32 := Scalar.addi c0_i32_22 v52
  let c1_i32_25 : BitVec 32 := 1#32
  ⟨v56, v53, c1_i32_25⟩

def k0_chk1 (v30 : BitVec 32) : Prop :=
  ((k0_t1_loop v30).OK) ∧
  ((k0_t2_loop v30).OK)
theorem k0_t1_ok : ∀ (v30 : BitVec 32) (k0_hw1 : k0_chk1 v30), (k0_t1_loop v30).OK := fun v30 k0_hw1 => k0_hw1.1
theorem k0_t2_ok : ∀ (v30 : BitVec 32) (k0_hw1 : k0_chk1 v30), (k0_t2_loop v30).OK := fun v30 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2816x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32x2048x1024 : Shape := ⟨3, ![32, 2048, 1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S32x2048x8 : Shape := ⟨3, ![32, 2048, 8]⟩
abbrev S32x2048x2 : Shape := ⟨3, ![32, 2048, 2]⟩
abbrev S_ : Shape := ⟨0, ![]⟩
abbrev S32x2048 : Shape := ⟨2, ![32, 2048]⟩
abbrev S32x2048x1 : Shape := ⟨3, ![32, 2048, 1]⟩
abbrev S32x2048x2x1 : Shape := ⟨4, ![32, 2048, 2, 1]⟩
abbrev S1x1x1x8 : Shape := ⟨4, ![1, 1, 1, 8]⟩
abbrev S32x2048x2x8 : Shape := ⟨4, ![32, 2048, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32x2048x2816 : Shape := ⟨3, ![32, 2048, 2816]⟩

abbrev nBuf : Space → Nat
  | .hbm => 219
  | .vmem => 0
  | .smem => 0
  | _ => 0

abbrev hbmTy0_0 (i : Nat) : BufTy := match i % 128 with
  | 0 => ⟨S32x2048x1024, .f32⟩
  | 1 => ⟨S1024x8, .f32⟩
  | 2 => ⟨S8x1024x2816, .f32⟩
  | 3 => ⟨S8x1024x2816, .f32⟩
  | 4 => ⟨S8x2816x1024, .f32⟩
  | 5 => ⟨S32x2048x8, .f32⟩
  | 6 => ⟨S32x2048x2, .f32⟩
  | 7 => ⟨S32x2048x2, .i32⟩
  | 8 => ⟨S_, .f32⟩
  | 9 => ⟨S32x2048, .f32⟩
  | 10 => ⟨S_, .f32⟩
  | 11 => ⟨S32x2048, .f32⟩
  | 12 => ⟨S32x2048, .f32⟩
  | 13 => ⟨S32x2048x1, .f32⟩
  | 14 => ⟨S32x2048x2, .f32⟩
  | 15 => ⟨S32x2048x2, .f32⟩
  | 16 => ⟨S32x2048x2, .f32⟩
  | 17 => ⟨S_, .f32⟩
  | 18 => ⟨S32x2048, .f32⟩
  | 19 => ⟨S32x2048x1, .f32⟩
  | 20 => ⟨S32x2048x2, .f32⟩
  | 21 => ⟨S32x2048x2, .f32⟩
  | 22 => ⟨S32x2048x2x1, .i32⟩
  | 23 => ⟨S1x1x1x8, .i32⟩
  | 24 => ⟨S32x2048x2x8, .i32⟩
  | 25 => ⟨S32x2048x2x8, .i32⟩
  | 26 => ⟨S32x2048x2x8, .i1⟩
  | 27 => ⟨S32x2048x2x8, .f32⟩
  | 28 => ⟨S32x2048x2x1, .f32⟩
  | 29 => ⟨S32x2048x2x8, .f32⟩
  | 30 => ⟨S32x2048x2x8, .f32⟩
  | 31 => ⟨S_, .f32⟩
  | 32 => ⟨S32x2048x8, .f32⟩
  | 33 => ⟨S_, .f32⟩
  | 34 => ⟨S32x2048x1024, .f32⟩
  | 35 => ⟨S32x2048x1, .f32⟩
  | 36 => ⟨S1x1024x2816, .f32⟩
  | 37 => ⟨S1024x2816, .f32⟩
  | 38 => ⟨S1x1024x2816, .f32⟩
  | 39 => ⟨S1024x2816, .f32⟩
  | 40 => ⟨S1x2816x1024, .f32⟩
  | 41 => ⟨S2816x1024, .f32⟩
  | 42 => ⟨S32x2048x2816, .f32⟩
  | 43 => ⟨S32x2048x2816, .f32⟩
  | 44 => ⟨S32x2048x2816, .f32⟩
  | 45 => ⟨S_, .f32⟩
  | 46 => ⟨S32x2048x2816, .f32⟩
  | 47 => ⟨S32x2048x2816, .f32⟩
  | 48 => ⟨S_, .f32⟩
  | 49 => ⟨S32x2048x2816, .f32⟩
  | 50 => ⟨S32x2048x2816, .f32⟩
  | 51 => ⟨S32x2048x2816, .f32⟩
  | 52 => ⟨S32x2048x2816, .f32⟩
  | 53 => ⟨S32x2048x2816, .f32⟩
  | 54 => ⟨S32x2048x1024, .f32⟩
  | 55 => ⟨S32x2048x1024, .f32⟩
  | 56 => ⟨S32x2048x1024, .f32⟩
  | 57 => ⟨S32x2048x1024, .f32⟩
  | 58 => ⟨S32x2048x1, .f32⟩
  | 59 => ⟨S1x1024x2816, .f32⟩
  | 60 => ⟨S1024x2816, .f32⟩
  | 61 => ⟨S1x1024x2816, .f32⟩
  | 62 => ⟨S1024x2816, .f32⟩
  | 63 => ⟨S1x2816x1024, .f32⟩
  | 64 => ⟨S2816x1024, .f32⟩
  | 65 => ⟨S32x2048x2816, .f32⟩
  | 66 => ⟨S32x2048x2816, .f32⟩
  | 67 => ⟨S32x2048x2816, .f32⟩
  | 68 => ⟨S_, .f32⟩
  | 69 => ⟨S32x2048x2816, .f32⟩
  | 70 => ⟨S32x2048x2816, .f32⟩
  | 71 => ⟨S_, .f32⟩
  | 72 => ⟨S32x2048x2816, .f32⟩
  | 73 => ⟨S32x2048x2816, .f32⟩
  | 74 => ⟨S32x2048x2816, .f32⟩
  | 75 => ⟨S32x2048x2816, .f32⟩
  | 76 => ⟨S32x2048x2816, .f32⟩
  | 77 => ⟨S32x2048x1024, .f32⟩
  | 78 => ⟨S32x2048x1024, .f32⟩
  | 79 => ⟨S32x2048x1024, .f32⟩
  | 80 => ⟨S32x2048x1024, .f32⟩
  | 81 => ⟨S32x2048x1, .f32⟩
  | 82 => ⟨S1x1024x2816, .f32⟩
  | 83 => ⟨S1024x2816, .f32⟩
  | 84 => ⟨S1x1024x2816, .f32⟩
  | 85 => ⟨S1024x2816, .f32⟩
  | 86 => ⟨S1x2816x1024, .f32⟩
  | 87 => ⟨S2816x1024, .f32⟩
  | 88 => ⟨S32x2048x2816, .f32⟩
  | 89 => ⟨S32x2048x2816, .f32⟩
  | 90 => ⟨S32x2048x2816, .f32⟩
  | 91 => ⟨S_, .f32⟩
  | 92 => ⟨S32x2048x2816, .f32⟩
  | 93 => ⟨S32x2048x2816, .f32⟩
  | 94 => ⟨S_, .f32⟩
  | 95 => ⟨S32x2048x2816, .f32⟩
  | 96 => ⟨S32x2048x2816, .f32⟩
  | 97 => ⟨S32x2048x2816, .f32⟩
  | 98 => ⟨S32x2048x2816, .f32⟩
  | 99 => ⟨S32x2048x2816, .f32⟩
  | 100 => ⟨S32x2048x1024, .f32⟩
  | 101 => ⟨S32x2048x1024, .f32⟩
  | 102 => ⟨S32x2048x1024, .f32⟩
  | 103 => ⟨S32x2048x1024, .f32⟩
  | 104 => ⟨S32x2048x1, .f32⟩
  | 105 => ⟨S1x1024x2816, .f32⟩
  | 106 => ⟨S1024x2816, .f32⟩
  | 107 => ⟨S1x1024x2816, .f32⟩
  | 108 => ⟨S1024x2816, .f32⟩
  | 109 => ⟨S1x2816x1024, .f32⟩
  | 110 => ⟨S2816x1024, .f32⟩
  | 111 => ⟨S32x2048x2816, .f32⟩
  | 112 => ⟨S32x2048x2816, .f32⟩
  | 113 => ⟨S32x2048x2816, .f32⟩
  | 114 => ⟨S_, .f32⟩
  | 115 => ⟨S32x2048x2816, .f32⟩
  | 116 => ⟨S32x2048x2816, .f32⟩
  | 117 => ⟨S_, .f32⟩
  | 118 => ⟨S32x2048x2816, .f32⟩
  | 119 => ⟨S32x2048x2816, .f32⟩
  | 120 => ⟨S32x2048x2816, .f32⟩
  | 121 => ⟨S32x2048x2816, .f32⟩
  | 122 => ⟨S32x2048x2816, .f32⟩
  | 123 => ⟨S32x2048x1024, .f32⟩
  | 124 => ⟨S32x2048x1024, .f32⟩
  | 125 => ⟨S32x2048x1024, .f32⟩
  | 126 => ⟨S32x2048x1024, .f32⟩
  | 127 => ⟨S32x2048x1, .f32⟩
  | _ => ⟨S32x2048x1024, .f32⟩

abbrev hbmTy0_1 (i : Nat) : BufTy := match i % 128 with
  | 0 => ⟨S1x1024x2816, .f32⟩
  | 1 => ⟨S1024x2816, .f32⟩
  | 2 => ⟨S1x1024x2816, .f32⟩
  | 3 => ⟨S1024x2816, .f32⟩
  | 4 => ⟨S1x2816x1024, .f32⟩
  | 5 => ⟨S2816x1024, .f32⟩
  | 6 => ⟨S32x2048x2816, .f32⟩
  | 7 => ⟨S32x2048x2816, .f32⟩
  | 8 => ⟨S32x2048x2816, .f32⟩
  | 9 => ⟨S_, .f32⟩
  | 10 => ⟨S32x2048x2816, .f32⟩
  | 11 => ⟨S32x2048x2816, .f32⟩
  | 12 => ⟨S_, .f32⟩
  | 13 => ⟨S32x2048x2816, .f32⟩
  | 14 => ⟨S32x2048x2816, .f32⟩
  | 15 => ⟨S32x2048x2816, .f32⟩
  | 16 => ⟨S32x2048x2816, .f32⟩
  | 17 => ⟨S32x2048x2816, .f32⟩
  | 18 => ⟨S32x2048x1024, .f32⟩
  | 19 => ⟨S32x2048x1024, .f32⟩
  | 20 => ⟨S32x2048x1024, .f32⟩
  | 21 => ⟨S32x2048x1024, .f32⟩
  | 22 => ⟨S32x2048x1, .f32⟩
  | 23 => ⟨S1x1024x2816, .f32⟩
  | 24 => ⟨S1024x2816, .f32⟩
  | 25 => ⟨S1x1024x2816, .f32⟩
  | 26 => ⟨S1024x2816, .f32⟩
  | 27 => ⟨S1x2816x1024, .f32⟩
  | 28 => ⟨S2816x1024, .f32⟩
  | 29 => ⟨S32x2048x2816, .f32⟩
  | 30 => ⟨S32x2048x2816, .f32⟩
  | 31 => ⟨S32x2048x2816, .f32⟩
  | 32 => ⟨S_, .f32⟩
  | 33 => ⟨S32x2048x2816, .f32⟩
  | 34 => ⟨S32x2048x2816, .f32⟩
  | 35 => ⟨S_, .f32⟩
  | 36 => ⟨S32x2048x2816, .f32⟩
  | 37 => ⟨S32x2048x2816, .f32⟩
  | 38 => ⟨S32x2048x2816, .f32⟩
  | 39 => ⟨S32x2048x2816, .f32⟩
  | 40 => ⟨S32x2048x2816, .f32⟩
  | 41 => ⟨S32x2048x1024, .f32⟩
  | 42 => ⟨S32x2048x1024, .f32⟩
  | 43 => ⟨S32x2048x1024, .f32⟩
  | 44 => ⟨S32x2048x1024, .f32⟩
  | 45 => ⟨S32x2048x1, .f32⟩
  | 46 => ⟨S1x1024x2816, .f32⟩
  | 47 => ⟨S1024x2816, .f32⟩
  | 48 => ⟨S1x1024x2816, .f32⟩
  | 49 => ⟨S1024x2816, .f32⟩
  | 50 => ⟨S1x2816x1024, .f32⟩
  | 51 => ⟨S2816x1024, .f32⟩
  | 52 => ⟨S32x2048x2816, .f32⟩
  | 53 => ⟨S32x2048x2816, .f32⟩
  | 54 => ⟨S32x2048x2816, .f32⟩
  | 55 => ⟨S_, .f32⟩
  | 56 => ⟨S32x2048x2816, .f32⟩
  | 57 => ⟨S32x2048x2816, .f32⟩
  | 58 => ⟨S_, .f32⟩
  | 59 => ⟨S32x2048x2816, .f32⟩
  | 60 => ⟨S32x2048x2816, .f32⟩
  | 61 => ⟨S32x2048x2816, .f32⟩
  | 62 => ⟨S32x2048x2816, .f32⟩
  | 63 => ⟨S32x2048x2816, .f32⟩
  | 64 => ⟨S32x2048x1024, .f32⟩
  | 65 => ⟨S32x2048x1024, .f32⟩
  | 66 => ⟨S32x2048x1024, .f32⟩
  | 67 => ⟨S32x2048x1024, .f32⟩
  | 68 => ⟨S32x2048x1, .f32⟩
  | 69 => ⟨S1x1024x2816, .f32⟩
  | 70 => ⟨S1024x2816, .f32⟩
  | 71 => ⟨S1x1024x2816, .f32⟩
  | 72 => ⟨S1024x2816, .f32⟩
  | 73 => ⟨S1x2816x1024, .f32⟩
  | 74 => ⟨S2816x1024, .f32⟩
  | 75 => ⟨S32x2048x2816, .f32⟩
  | 76 => ⟨S32x2048x2816, .f32⟩
  | 77 => ⟨S32x2048x2816, .f32⟩
  | 78 => ⟨S_, .f32⟩
  | 79 => ⟨S32x2048x2816, .f32⟩
  | 80 => ⟨S32x2048x2816, .f32⟩
  | 81 => ⟨S_, .f32⟩
  | 82 => ⟨S32x2048x2816, .f32⟩
  | 83 => ⟨S32x2048x2816, .f32⟩
  | 84 => ⟨S32x2048x2816, .f32⟩
  | 85 => ⟨S32x2048x2816, .f32⟩
  | 86 => ⟨S32x2048x2816, .f32⟩
  | 87 => ⟨S32x2048x1024, .f32⟩
  | 88 => ⟨S32x2048x1024, .f32⟩
  | 89 => ⟨S32x2048x1024, .f32⟩
  | 90 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_call6_v0 : Ref sig .tc := ⟨.hbm, 158, rfl⟩
abbrev main_call6_v1 : Ref sig .tc := ⟨.hbm, 159, rfl⟩
abbrev main_call6_cst : Ref sig .tc := ⟨.hbm, 160, rfl⟩
abbrev main_call6_v2 : Ref sig .tc := ⟨.hbm, 161, rfl⟩
abbrev main_call6_v3 : Ref sig .tc := ⟨.hbm, 162, rfl⟩
abbrev main_call6_cst_0 : Ref sig .tc := ⟨.hbm, 163, rfl⟩
abbrev main_call6_v4 : Ref sig .tc := ⟨.hbm, 164, rfl⟩
abbrev main_call6_v5 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_call7_v0 : Ref sig .tc := ⟨.hbm, 181, rfl⟩
abbrev main_call7_v1 : Ref sig .tc := ⟨.hbm, 182, rfl⟩
abbrev main_call7_cst : Ref sig .tc := ⟨.hbm, 183, rfl⟩
abbrev main_call7_v2 : Ref sig .tc := ⟨.hbm, 184, rfl⟩
abbrev main_call7_v3 : Ref sig .tc := ⟨.hbm, 185, rfl⟩
abbrev main_call7_cst_0 : Ref sig .tc := ⟨.hbm, 186, rfl⟩
abbrev main_call7_v4 : Ref sig .tc := ⟨.hbm, 187, rfl⟩
abbrev main_call7_v5 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_call8_v0 : Ref sig .tc := ⟨.hbm, 204, rfl⟩
abbrev main_call8_v1 : Ref sig .tc := ⟨.hbm, 205, rfl⟩
abbrev main_call8_cst : Ref sig .tc := ⟨.hbm, 206, rfl⟩
abbrev main_call8_v2 : Ref sig .tc := ⟨.hbm, 207, rfl⟩
abbrev main_call8_v3 : Ref sig .tc := ⟨.hbm, 208, rfl⟩
abbrev main_call8_cst_0 : Ref sig .tc := ⟨.hbm, 209, rfl⟩
abbrev main_call8_v4 : Ref sig .tc := ⟨.hbm, 210, rfl⟩
abbrev main_call8_v5 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩

abbrev nD : Nat := 1
abbrev τ : Topo := Topo.v7x

variable {F : FTy → Type} [FloatOps F]
-- ==== Kernel2.lean ====
abbrev S32x2048x1024 : Shape := ⟨3, ![32, 2048, 1024]⟩
abbrev S40x6144 : Shape := ⟨2, ![40, 6144]⟩
abbrev S1024 : Shape := ⟨1, ![1024]⟩
abbrev S1024x2816 : Shape := ⟨2, ![1024, 2816]⟩
abbrev S2816x1024 : Shape := ⟨2, ![2816, 1024]⟩
abbrev S40x1x6144 : Shape := ⟨3, ![40, 1, 6144]⟩
abbrev S65536x1024 : Shape := ⟨2, ![65536, 1024]⟩
abbrev S1x1024 : Shape := ⟨2, ![1, 1024]⟩
abbrev S512x1024 : Shape := ⟨2, ![512, 1024]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S40x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S40x1x6144, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S65536x1024, .f32⟩
  | .hbm, ⟨12, _⟩ => ⟨S65536x1024, .bf16⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S32x2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32x2048x1024 : Shape := ⟨3, ![32, 2048, 1024]⟩
abbrev S40x6144 : Shape := ⟨2, ![40, 6144]⟩
abbrev S1024 : Shape := ⟨1, ![1024]⟩
abbrev S1024x2816 : Shape := ⟨2, ![1024, 2816]⟩
abbrev S2816x1024 : Shape := ⟨2, ![2816, 1024]⟩
abbrev S32x6144 : Shape := ⟨2, ![32, 6144]⟩
abbrev S32x1x6144 : Shape := ⟨3, ![32, 1, 6144]⟩
abbrev S32x1x1024 : Shape := ⟨3, ![32, 1, 1024]⟩
abbrev S32x2048x2816 : Shape := ⟨3, ![32, 2048, 2816]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S40x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32x6144, .f32⟩
  | .hbm, ⟨8, _⟩ => ⟨S32x1x6144, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x2048x2816, .f32⟩
  | .hbm, ⟨16, _⟩ => ⟨S32x2048x2816, .f32⟩
  | .hbm, ⟨17, _⟩ => ⟨S32x2048x2816, .f32⟩
  | .hbm, ⟨18, _⟩ => ⟨S_, .f32⟩
  | .hbm, ⟨19, _⟩ => ⟨S32x2048x2816, .f32⟩
  | .hbm, ⟨20, _⟩ => ⟨S32x2048x2816, .f32⟩
  | .hbm, ⟨21, _⟩ => ⟨S_, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S32x2048x2816, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x7168 : Shape := ⟨3, ![32, 2048, 7168]⟩
abbrev S32x2048x1024 : Shape := ⟨3, ![32, 2048, 1024]⟩
abbrev S40x6144 : Shape := ⟨2, ![40, 6144]⟩
abbrev S1024 : Shape := ⟨1, ![1024]⟩
abbrev S512x1024 : Shape := ⟨2, ![512, 1024]⟩
abbrev S1024x1024 : Shape := ⟨2, ![1024, 1024]⟩
abbrev S40x1x6144 : Shape := ⟨3, ![40, 1, 6144]⟩
abbrev S65536x512 : Shape := ⟨2, ![65536, 512]⟩
abbrev S65536x7168 : Shape := ⟨2, ![65536, 7168]⟩
abbrev S65536x1024 : Shape := ⟨2, ![65536, 1024]⟩
abbrev S1x1024 : Shape := ⟨2, ![1, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 33
  | .vmem => 30
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x7168, .f32⟩
  | .hbm, ⟨4, _⟩ => ⟨S32x2048x1024, .f32⟩
  | .hbm, ⟨5, _⟩ => ⟨S40x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S40x1x6144, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S65536x512, .f32⟩
  | .hbm, ⟨18, _⟩ => ⟨S65536x512, .bf16⟩
  | .hbm, ⟨19, _⟩ => ⟨S65536x512, .f32⟩
  | .hbm, ⟨20, _⟩ => ⟨S65536x512, .bf16⟩
  | .hbm, ⟨21, _⟩ => ⟨S65536x512, .f32⟩
  | .hbm, ⟨22, _⟩ => ⟨S65536x512, .bf16⟩
  | .hbm, ⟨23, _⟩ => ⟨S65536x7168, .f32⟩
  | .hbm, ⟨24, _⟩ => ⟨S65536x7168, .bf16⟩
  | .hbm, ⟨25, _⟩ => ⟨S65536x1024, .f32⟩
  | .hbm, ⟨26, _⟩ => ⟨S1x1024, .f32⟩
  | .hbm, ⟨27, _⟩ => ⟨S1x1024, .f32⟩
  | .hbm, ⟨28, _⟩ => ⟨S65536x1024, .f32⟩
  | .hbm, ⟨29, _⟩ => ⟨S65536x1024, .bf16⟩
  | .hbm, ⟨30, _⟩ => ⟨S32x2048x1024, .f32⟩
  | .hbm, ⟨31, _⟩ => ⟨S32x2048x1024, .bf16⟩
  | .hbm, ⟨32, _⟩ => ⟨S32x2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c3_i32 : BitVec 32 := 3#32
  let c0_i32_6 : BitVec 32 := 0#32
  ![v17.toNat, c0_i32_5.toNat, c3_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c4_i32_6 : BitVec 32 := 4#32
  let c0_i32_7 : BitVec 32 := 0#32
  ![v17.toNat, c0_i32_5.toNat, c4_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S32x2048x512 : Shape := ⟨3, ![32, 2048, 512]⟩
abbrev S32x2048x7168 : Shape := ⟨3, ![32, 2048, 7168]⟩
abbrev S32x2048x1024 : Shape := ⟨3, ![32, 2048, 1024]⟩
abbrev S40x6144 : Shape := ⟨2, ![40, 6144]⟩
abbrev S1024 : Shape := ⟨1, ![1024]⟩
abbrev S512x1024 : Shape := ⟨2, ![512, 1024]⟩
abbrev S1024x1024 : Shape := ⟨2, ![1024, 1024]⟩
abbrev S32x6144 : Shape := ⟨2, ![32, 6144]⟩
abbrev S32x1x6144 : Shape := ⟨3, ![32, 1, 6144]⟩
abbrev S32x1x1024 : Shape := ⟨3, ![32, 1, 1024]⟩
abbrev S32x2048x3072 : Shape := ⟨3, ![32, 2048, 3072]⟩
abbrev S32x2048x3x1024 : Shape := ⟨4, ![32, 2048, 3, 1024]⟩
abbrev S_ : Shape := ⟨0, ![]⟩
abbrev S32x2048x1x1024 : Shape := ⟨4, ![32, 2048, 1, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x7168, .f32⟩
  | .hbm, ⟨4, _⟩ => ⟨S32x2048x1024, .f32⟩
  | .hbm, ⟨5, _⟩ => ⟨S40x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S32x6144, .f32⟩
  | .hbm, ⟨13, _⟩ => ⟨S32x1x6144, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x3072, .f32⟩
  | .hbm, ⟨24, _⟩ => ⟨S32x2048x3x1024, .f32⟩
  | .hbm, ⟨25, _⟩ => ⟨S32x2048x3x1024, .f32⟩
  | .hbm, ⟨26, _⟩ => ⟨S32x2048x3x1024, .f32⟩
  | .hbm, ⟨27, _⟩ => ⟨S_, .f32⟩
  | .hbm, ⟨28, _⟩ => ⟨S32x2048x3x1024, .f32⟩
  | .hbm, ⟨29, _⟩ => ⟨S32x2048x3x1024, .f32⟩
  | .hbm, ⟨30, _⟩ => ⟨S_, .f32⟩
  | .hbm, ⟨31, _⟩ => ⟨S32x2048x3x1024, .f32⟩
  | .hbm, ⟨32, _⟩ => ⟨S32x2048x3x1024, .f32⟩
  | .hbm, ⟨33, _⟩ => ⟨S32x2048x1x1024, .f32⟩
  | .hbm, ⟨34, _⟩ => ⟨S32x2048x1024, .f32⟩
  | .hbm, ⟨35, _⟩ => ⟨S32x2048x1024, .f32⟩
  | .hbm, ⟨36, _⟩ => ⟨S32x2048x1x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | .hbm, ⟨80, _⟩ => ⟨S_, .f32⟩
  | .hbm, ⟨81, _⟩ => ⟨S32x1x1024, .f32⟩
  | .hbm, ⟨82, _⟩ => ⟨S32x1x1024, .f32⟩
  | .hbm, ⟨83, _⟩ => ⟨S32x2048x1024, .f32⟩
  | .hbm, ⟨84, _⟩ => ⟨S32x2048x1024, .f32⟩
  | .hbm, ⟨85, _⟩ => ⟨S32x2048x1024, .f32⟩
  | .hbm, ⟨86, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel4.lean ====
abbrev S32x2048x1024 : Shape := ⟨3, ![32, 2048, 1024]⟩
abbrev S40x6144 : Shape := ⟨2, ![40, 6144]⟩
abbrev S1024 : Shape := ⟨1, ![1024]⟩
abbrev S40x1x6144 : Shape := ⟨3, ![40, 1, 6144]⟩
abbrev S65536x1024 : Shape := ⟨2, ![65536, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S40x6144, .f32⟩
  | .hbm, ⟨3, _⟩ => ⟨S1024, .f32⟩
  | .hbm, ⟨4, _⟩ => ⟨S40x1x6144, .f32⟩
  | .hbm, ⟨5, _⟩ => ⟨S65536x1024, .f32⟩
  | .hbm, ⟨6, _⟩ => ⟨S65536x1024, .f32⟩
  | .hbm, ⟨7, _⟩ => ⟨S1x1024, .f32⟩
  | .hbm, ⟨8, _⟩ => ⟨S65536x1024, .f32⟩
  | .hbm, ⟨9, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32x2048x1024 : Shape := ⟨3, ![32, 2048, 1024]⟩
abbrev S40x6144 : Shape := ⟨2, ![40, 6144]⟩
abbrev S1024 : Shape := ⟨1, ![1024]⟩
abbrev S32x6144 : Shape := ⟨2, ![32, 6144]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S40x6144, .f32⟩
  | .hbm, ⟨3, _⟩ => ⟨S1024, .f32⟩
  | .hbm, ⟨4, _⟩ => ⟨S32x6144, .f32⟩
  | .hbm, ⟨5, _⟩ => ⟨S32x1x6144, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S32x2048x1024 : Shape := ⟨3, ![32, 2048, 1024]⟩
abbrev S40x6144 : Shape := ⟨2, ![40, 6144]⟩
abbrev S1024 : Shape := ⟨1, ![1024]⟩
abbrev S1024x7200 : Shape := ⟨2, ![1024, 7200]⟩
abbrev S40x1x6144 : Shape := ⟨3, ![40, 1, 6144]⟩
abbrev S4 : Shape := ⟨1, ![4]⟩
abbrev S4x1 : Shape := ⟨2, ![4, 1]⟩
abbrev S_ : Shape := ⟨0, ![]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1024x512 : Shape := ⟨2, ![1024, 512]⟩
abbrev S512x1 : Shape := ⟨2, ![512, 1]⟩
abbrev S1024x1024 : Shape := ⟨2, ![1024, 1024]⟩
abbrev S1024x256 : Shape := ⟨2, ![1024, 256]⟩
abbrev S1024x3072 : Shape := ⟨2, ![1024, 3072]⟩
abbrev S1024x7168 : Shape := ⟨2, ![1024, 7168]⟩
abbrev S1024x32 : Shape := ⟨2, ![1024, 32]⟩
abbrev S1024x128 : Shape := ⟨2, ![1024, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S65536x1024 : Shape := ⟨2, ![65536, 1024]⟩
abbrev S1x1024 : Shape := ⟨2, ![1, 1024]⟩
abbrev S65536x7168 : Shape := ⟨2, ![65536, 7168]⟩
abbrev S65536x128 : Shape := ⟨2, ![65536, 128]⟩
abbrev S2048x1024 : Shape := ⟨2, ![2048, 1024]⟩
abbrev S1x1x1024 : Shape := ⟨3, ![1, 1, 1024]⟩
abbrev S32x2048x7168 : Shape := ⟨3, ![32, 2048, 7168]⟩
abbrev S32x2048x512 : Shape := ⟨3, ![32, 2048, 512]⟩
abbrev S32x2048x4x2x2x2x16 : Shape := ⟨7, ![32, 2048, 4, 2, 2, 2, 16]⟩
abbrev S32x2048x4x2x64 : Shape := ⟨5, ![32, 2048, 4, 2, 64]⟩
abbrev S32x2048x6144 : Shape := ⟨3, ![32, 2048, 6144]⟩
abbrev S32x2048x128 : Shape := ⟨3, ![32, 2048, 128]⟩
abbrev S32x2048x32 : Shape := ⟨3, ![32, 2048, 32]⟩

abbrev nBuf : Space → Nat
  | .hbm => 279
  | .vmem => 19
  | .smem => 0
  | _ => 0

abbrev hbmTy0_0 (i : Nat) : BufTy := match i % 128 with
  | 0 => ⟨S32x2048x1024, .f32⟩
  | 1 => ⟨S40x6144, .f32⟩
  | 2 => ⟨S1024, .f32⟩
  | 3 => ⟨S1024x7200, .f32⟩
  | 4 => ⟨S40x1x6144, .f32⟩
  | 5 => ⟨S4, .i32⟩
  | 6 => ⟨S4x1, .i32⟩
  | 7 => ⟨S_, .i32⟩
  | 8 => ⟨S4x1, .i32⟩
  | 9 => ⟨S4x1, .i32⟩
  | 10 => ⟨S128, .i32⟩
  | 11 => ⟨S_, .i32⟩
  | 12 => ⟨S_, .i32⟩
  | 13 => ⟨S128, .i32⟩
  | 14 => ⟨S128, .i32⟩
  | 15 => ⟨S128, .i32⟩
  | 16 => ⟨S_, .i32⟩
  | 17 => ⟨S128, .i32⟩
  | 18 => ⟨S128, .i1⟩
  | 19 => ⟨S128, .i32⟩
  | 20 => ⟨S128, .i32⟩
  | 21 => ⟨S_, .i32⟩
  | 22 => ⟨S128, .i32⟩
  | 23 => ⟨S128, .i1⟩
  | 24 => ⟨S128, .i1⟩
  | 25 => ⟨S_, .i32⟩
  | 26 => ⟨S128, .i32⟩
  | 27 => ⟨S128, .i32⟩
  | 28 => ⟨S128, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S128, .i32⟩
  | 36 => ⟨S128, .i32⟩
  | 37 => ⟨S_, .i32⟩
  | 38 => ⟨S128, .i32⟩
  | 39 => ⟨S128, .i1⟩
  | 40 => ⟨S_, .i32⟩
  | 41 => ⟨S128, .i32⟩
  | 42 => ⟨S128, .i1⟩
  | 43 => ⟨S_, .i32⟩
  | 44 => ⟨S_, .i1⟩
  | 45 => ⟨S128, .i1⟩
  | 46 => ⟨S128, .i1⟩
  | 47 => ⟨S128, .i1⟩
  | 48 => ⟨S128, .i32⟩
  | 49 => ⟨S128, .i32⟩
  | 50 => ⟨S128, .i32⟩
  | 51 => ⟨S_, .i32⟩
  | 52 => ⟨S_, .i32⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S128, .i32⟩
  | 60 => ⟨S128, .i32⟩
  | 61 => ⟨S_, .i32⟩
  | 62 => ⟨S128, .i32⟩
  | 63 => ⟨S128, .i1⟩
  | 64 => ⟨S128, .i1⟩
  | 65 => ⟨S_, .i32⟩
  | 66 => ⟨S128, .i32⟩
  | 67 => ⟨S128, .i32⟩
  | 68 => ⟨S128, .i32⟩
  | 69 => ⟨S_, .i32⟩
  | 70 => ⟨S128, .i32⟩
  | 71 => ⟨S128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128, .i32⟩
  | 79 => ⟨S128, .i32⟩
  | 80 => ⟨S_, .i32⟩
  | 81 => ⟨S128, .i32⟩
  | 82 => ⟨S128, .i1⟩
  | 83 => ⟨S_, .i32⟩
  | 84 => ⟨S128, .i32⟩
  | 85 => ⟨S128, .i1⟩
  | 86 => ⟨S_, .i32⟩
  | 87 => ⟨S_, .i1⟩
  | 88 => ⟨S128, .i1⟩
  | 89 => ⟨S128, .i1⟩
  | 90 => ⟨S128, .i1⟩
  | 91 => ⟨S128, .i32⟩
  | 92 => ⟨S128, .i32⟩
  | 93 => ⟨S128, .i32⟩
  | 94 => ⟨S_, .i32⟩
  | 95 => ⟨S_, .i32⟩
  | 96 => ⟨S128, .i32⟩
  | 97 => ⟨S128, .i32⟩
  | 98 => ⟨S128, .i32⟩
  | 99 => ⟨S_, .i32⟩
  | 100 => ⟨S128, .i32⟩
  | 101 => ⟨S128, .i1⟩
  | 102 => ⟨S128, .i32⟩
  | 103 => ⟨S128, .i32⟩
  | 104 => ⟨S_, .i32⟩
  | 105 => ⟨S128, .i32⟩
  | 106 => ⟨S128, .i1⟩
  | 107 => ⟨S128, .i1⟩
  | 108 => ⟨S_, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S128, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S128, .i32⟩
  | 127 => ⟨S128, .i32⟩
  | _ => ⟨S32x2048x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i1⟩
  | 6 => ⟨S_, .i32⟩
  | 7 => ⟨S_, .i1⟩
  | 8 => ⟨S128, .i1⟩
  | 9 => ⟨S128, .i1⟩
  | 10 => ⟨S128, .i1⟩
  | 11 => ⟨S128, .i32⟩
  | 12 => ⟨S128, .i32⟩
  | 13 => ⟨S128, .i32⟩
  | 14 => ⟨S128, .i32⟩
  | 15 => ⟨S1x128, .i32⟩
  | 16 => ⟨S4x128, .i32⟩
  | 17 => ⟨S4x128, .i32⟩
  | 18 => ⟨S4x128, .i32⟩
  | 19 => ⟨S512, .i32⟩
  | 20 => ⟨S1024x512, .f32⟩
  | 21 => ⟨S_, .i32⟩
  | 22 => ⟨S512, .i32⟩
  | 23 => ⟨S512, .i1⟩
  | 24 => ⟨S_, .i32⟩
  | 25 => ⟨S512, .i32⟩
  | 26 => ⟨S512, .i32⟩
  | 27 => ⟨S512, .i32⟩
  | 28 => ⟨S512x1, .i32⟩
  | 29 => ⟨S1024x512, .f32⟩
  | 30 => ⟨S1024x512, .f32⟩
  | 31 => ⟨S_, .i32⟩
  | 32 => ⟨S512, .i32⟩
  | 33 => ⟨S512, .i1⟩
  | 34 => ⟨S_, .i32⟩
  | 35 => ⟨S512, .i32⟩
  | 36 => ⟨S512, .i32⟩
  | 37 => ⟨S512, .i32⟩
  | 38 => ⟨S512x1, .i32⟩
  | 39 => ⟨S1024x512, .f32⟩
  | 40 => ⟨S1024x512, .f32⟩
  | 41 => ⟨S1024x512, .f32⟩
  | 42 => ⟨S1024x1024, .f32⟩
  | 43 => ⟨S1024x512, .f32⟩
  | 44 => ⟨S1024x256, .f32⟩
  | 45 => ⟨S1024x256, .f32⟩
  | 46 => ⟨S1024x3072, .f32⟩
  | 47 => ⟨S1024x7168, .f32⟩
  | 48 => ⟨S1024x32, .f32⟩
  | 49 => ⟨S_, .i32⟩
  | 50 => ⟨S_, .f32⟩
  | 51 => ⟨S1024x128, .f32⟩
  | 52 => ⟨S1024x7168, .bf16⟩
  | 53 => ⟨S1024x128, .bf16⟩
  | 54 => ⟨S2048, .i32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .i32⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S2048, .i32⟩
  | 72 => ⟨S2048, .i32⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i32⟩
  | 80 => ⟨S2048, .i32⟩
  | 81 => ⟨S2048, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i1⟩
  | 98 => ⟨S_, .i32⟩
  | 99 => ⟨S2048, .i32⟩
  | 100 => ⟨S2048, .i1⟩
  | 101 => ⟨S_, .i32⟩
  | 102 => ⟨S_, .i1⟩
  | 103 => ⟨S2048, .i1⟩
  | 104 => ⟨S2048, .i1⟩
  | 105 => ⟨S2048, .i1⟩
  | 106 => ⟨S2048, .i32⟩
  | 107 => ⟨S2048, .i32⟩
  | 108 => ⟨S2048, .i32⟩
  | 109 => ⟨S2048, .f32⟩
  | 110 => ⟨S2048x1, .f32⟩
  | 111 => ⟨S1x16, .f32⟩
  | 112 => ⟨S2048x16, .f32⟩
  | 113 => ⟨S2048x16, .f32⟩
  | 114 => ⟨S2048x16, .f32⟩
  | 115 => ⟨S2048x16, .f32⟩
  | 116 => ⟨S2048x16, .f32⟩
  | 117 => ⟨S2048x32, .f32⟩
  | 118 => ⟨S2048x16, .f32⟩
  | 119 => ⟨S2048x16, .f32⟩
  | 120 => ⟨S2048x32, .f32⟩
  | 121 => ⟨S1x2048x1x32, .f32⟩
  | 122 => ⟨S1x2048x4x32, .f32⟩
  | 123 => ⟨S2048x128, .f32⟩
  | 124 => ⟨S2048x32, .f32⟩
  | 125 => ⟨S2048x32, .f32⟩
  | 126 => ⟨S2048x128, .f32⟩
  | 127 => ⟨S_, .f32⟩
  | _ => ⟨S32x2048x1024, .f32⟩

abbrev hbmTy0_2 (i : Nat) : BufTy := match i % 128 with
  | 0 => ⟨S2048x128, .f32⟩
  | 1 => ⟨S2048x128, .f32⟩
  | 2 => ⟨S_, .f32⟩
  | 3 => ⟨S2048x128, .f32⟩
  | 4 => ⟨S2048x128, .f32⟩
  | 5 => ⟨S65536x1024, .f32⟩
  | 6 => ⟨S1x1024, .f32⟩
  | 7 => ⟨S65536x7168, .bf16⟩
  | 8 => ⟨S65536x128, .bf16⟩
  | 9 => ⟨S32x2048x7168, .bf16⟩
  | 10 => ⟨S32x2048x7168, .f32⟩
  | 11 => ⟨S32x2048x512, .f32⟩
  | 12 => ⟨S32x2048x4x2x2x2x16, .f32⟩
  | 13 => ⟨S32x2048x4x2x2x2x16, .f32⟩
  | 14 => ⟨S32x2048x4x2x64, .f32⟩
  | 15 => ⟨S32x2048x512, .f32⟩
  | 16 => ⟨S32x2048x4x2x2x2x16, .f32⟩
  | 17 => ⟨S32x2048x4x2x2x2x16, .f32⟩
  | 18 => ⟨S32x2048x4x2x64, .f32⟩
  | 19 => ⟨S32x2048x6144, .f32⟩
  | 20 => ⟨S32x2048x128, .bf16⟩
  | 21 => ⟨S32x2048x32, .bf16⟩
  | 22 => ⟨S32x2048x32, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x1024, .bf16⟩
  | .local _ .vmem, ⟨15, _⟩ => ⟨S2048x1024, .bf16⟩
  | .local _ .vmem, ⟨16, _⟩ => ⟨S2048x128, .bf16⟩
  | .local _ .vmem, ⟨17, _⟩ => ⟨S2048x128, .bf16⟩
  | .local _ .vmem, ⟨18, _⟩ => ⟨S2048x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v7 : Ref sig .tc := ⟨.hbm, 50, rfl⟩
abbrev main_c_2 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v8 : Ref sig .tc := ⟨.hbm, 68, rfl⟩
abbrev main_c_3 : Ref sig .tc := ⟨.hbm, 69, rfl⟩
abbrev main_v9 : Ref sig .tc := ⟨.hbm, 70, rfl⟩
abbrev main_v10 : Ref sig .tc := ⟨.hbm, 71, rfl⟩
abbrev main_c_4 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v11 : Ref sig .tc := ⟨.hbm, 93, rfl⟩
abbrev main_c_5 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_c : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_0 : Ref sig .tc := ⟨.hbm, 108, rfl⟩
abbrev main_call4_v12 : Ref sig .tc := ⟨.hbm, 109, rfl⟩
abbrev main_call4_v13 : Ref sig .tc := ⟨.hbm, 110, rfl⟩
abbrev main_v12 : Ref sig .tc := ⟨.hbm, 111, rfl⟩
abbrev main_c_6 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_c_7 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_c_8 : Ref sig .tc := ⟨.hbm, 120, rfl⟩
abbrev main_call5_v0 : Ref sig .tc := ⟨.hbm, 121, rfl⟩
abbrev main_call5_c : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_c_1 : Ref sig .tc := ⟨.hbm, 128, rfl⟩
abbrev main_call5_v5 : Ref sig .tc := ⟨.hbm, 129, rfl⟩
abbrev main_call5_v6 : Ref sig .tc := ⟨.hbm, 130, rfl⟩
abbrev main_call5_c_2 : Ref sig .tc := ⟨.hbm, 131, rfl⟩
abbrev main_call5_v7 : Ref sig .tc := ⟨.hbm, 132, rfl⟩
abbrev main_call5_v8 : Ref sig .tc := ⟨.hbm, 133, rfl⟩
abbrev main_call5_c_3 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_v12 : Ref sig .tc := ⟨.hbm, 138, rfl⟩
abbrev main_call5_v13 : Ref sig .tc := ⟨.hbm, 139, rfl⟩
abbrev main_call5_v14 : Ref sig .tc := ⟨.hbm, 140, rfl⟩
abbrev main_v19 : Ref sig .tc := ⟨.hbm, 141, rfl⟩
abbrev main_v20 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_v24 : Ref sig .tc := ⟨.hbm, 146, rfl⟩
abbrev main_v25 : Ref sig .tc := ⟨.hbm, 147, rfl⟩
abbrev main_v26 : Ref sig .tc := ⟨.hbm, 148, rfl⟩
abbrev main_c_9 : Ref sig .tc := ⟨.hbm, 149, rfl⟩
abbrev main_v27 : Ref sig .tc := ⟨.hbm, 150, rfl⟩
abbrev main_v28 : Ref sig .tc := ⟨.hbm, 151, rfl⟩
abbrev main_c_10 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_c_11 : Ref sig .tc := ⟨.hbm, 159, rfl⟩
abbrev main_v35 : Ref sig .tc := ⟨.hbm, 160, rfl⟩
abbrev main_v36 : Ref sig .tc := ⟨.hbm, 161, rfl⟩
abbrev main_c_12 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_c_13 : Ref sig .tc := ⟨.hbm, 177, rfl⟩
abbrev main_call6_v0 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_cst : Ref sig .tc := ⟨.hbm, 185, rfl⟩
abbrev main_v57 : Ref sig .tc := ⟨.hbm, 186, rfl⟩
abbrev main_v58 : Ref sig .tc := ⟨.hbm, 187, rfl⟩
abbrev main_cst_14 : Ref sig .tc := ⟨.hbm, 188, rfl⟩
abbrev main_v59 : Ref sig .tc := ⟨.hbm, 189, rfl⟩
abbrev main_v60 : Ref sig .tc := ⟨.hbm, 190, rfl⟩
abbrev main_c_15 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_v6 : Ref sig .tc := ⟨.hbm, 198, rfl⟩
abbrev main_call7_v7 : Ref sig .tc := ⟨.hbm, 199, rfl⟩
abbrev main_call7_v8 : Ref sig .tc := ⟨.hbm, 200, rfl⟩
abbrev main_call7_c : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_0 : Ref sig .tc := ⟨.hbm, 205, rfl⟩
abbrev main_call7_v12 : Ref sig .tc := ⟨.hbm, 206, rfl⟩
abbrev main_call7_v13 : Ref sig .tc := ⟨.hbm, 207, rfl⟩
abbrev main_v61 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_v65 : Ref sig .tc := ⟨.hbm, 212, rfl⟩
abbrev main_v66 : Ref sig .tc := ⟨.hbm, 213, rfl⟩
abbrev main_v67 : Ref sig .tc := ⟨.hbm, 214, rfl⟩
abbrev main_c_16 : Ref sig .tc := ⟨.hbm, 215, rfl⟩
abbrev main_call8_v0 : Ref sig .tc := ⟨.hbm, 216, rfl⟩
abbrev main_call8_c : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_c_1 : Ref sig .tc := ⟨.hbm, 223, rfl⟩
abbrev main_call8_v5 : Ref sig .tc := ⟨.hbm, 224, rfl⟩
abbrev main_call8_v6 : Ref sig .tc := ⟨.hbm, 225, rfl⟩
abbrev main_call8_c_2 : Ref sig .tc := ⟨.hbm, 226, rfl⟩
abbrev main_call8_v7 : Ref sig .tc := ⟨.hbm, 227, rfl⟩
abbrev main_call8_v8 : Ref sig .tc := ⟨.hbm, 228, rfl⟩
abbrev main_call8_c_3 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_v12 : Ref sig .tc := ⟨.hbm, 233, rfl⟩
abbrev main_call8_v13 : Ref sig .tc := ⟨.hbm, 234, rfl⟩
abbrev main_call8_v14 : Ref sig .tc := ⟨.hbm, 235, rfl⟩
abbrev main_v68 : Ref sig .tc := ⟨.hbm, 236, rfl⟩
abbrev main_v69 : Ref sig .tc := ⟨.hbm, 237, rfl⟩
abbrev main_v70 : Ref sig .tc := ⟨.hbm, 238, rfl⟩
abbrev main_v71 : Ref sig .tc := ⟨.hbm, 239, rfl⟩
abbrev main_v72 : Ref sig .tc := ⟨.hbm, 240, rfl⟩
abbrev main_v73 : Ref sig .tc := ⟨.hbm, 241, rfl⟩
abbrev main_v74 : Ref sig .tc := ⟨.hbm, 242, rfl⟩
abbrev main_v75 : Ref sig .tc := ⟨.hbm, 243, rfl⟩
abbrev main_v76 : Ref sig .tc := ⟨.hbm, 244, rfl⟩
abbrev main_v77 : Ref sig .tc := ⟨.hbm, 245, rfl⟩
abbrev main_v78 : Ref sig .tc := ⟨.hbm, 246, rfl⟩
abbrev main_v79 : Ref sig .tc := ⟨.hbm, 247, rfl⟩
abbrev main_v80 : Ref sig .tc := ⟨.hbm, 248, rfl⟩
abbrev main_v81 : Ref sig .tc := ⟨.hbm, 249, rfl⟩
abbrev main_v82 : Ref sig .tc := ⟨.hbm, 250, rfl⟩
abbrev main_v83 : Ref sig .tc := ⟨.hbm, 251, rfl⟩
abbrev main_v84 : Ref sig .tc := ⟨.hbm, 252, rfl⟩
abbrev main_v85 : Ref sig .tc := ⟨.hbm, 253, rfl⟩
abbrev main_v86 : Ref sig .tc := ⟨.hbm, 254, rfl⟩
abbrev main_cst_17 : Ref sig .tc := ⟨.hbm, 255, rfl⟩
abbrev main_v87 : Ref sig .tc := ⟨.hbm, 256, rfl⟩
abbrev main_v88 : Ref sig .tc := ⟨.hbm, 257, rfl⟩
abbrev main_cst_18 : Ref sig .tc := ⟨.hbm, 258, rfl⟩
abbrev main_v89 : Ref sig .tc := ⟨.hbm, 259, rfl⟩
abbrev main_v90 : Ref sig .tc := ⟨.hbm, 260, rfl⟩
abbrev main_v91 : Ref sig .tc := ⟨.hbm, 261, rfl⟩
abbrev main_v92 : Ref sig .tc := ⟨.hbm, 262, rfl⟩
abbrev main_v93_0 : Ref sig .tc := ⟨.hbm, 263, rfl⟩
abbrev main_v93_1 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩
abbrev main_v104 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c0_i32_6 : BitVec 32 := 0#32
  let v10 : BitVec 1 := Scalar.cmpi .ne arg1 c0_i32_6
  let v11 : BitVec 32 := Scalar.extui v10
  let c0_i32_7 : BitVec 32 := 0#32
  let v12 : BitVec 1 := Scalar.cmpi .ne v11 c0_i32_7
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c1_i32_7 : BitVec 32 := 1#32
  let c0_i32_8 : BitVec 32 := 0#32
  ![v17.toNat, c0_i32_6.toNat, c1_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference5Ideal.lean ====
abbrev S32x2048x1024 : Shape := ⟨3, ![32, 2048, 1024]⟩
abbrev S40x6144 : Shape := ⟨2, ![40, 6144]⟩
abbrev S1024 : Shape := ⟨1, ![1024]⟩
abbrev S1024x7200 : Shape := ⟨2, ![1024, 7200]⟩
abbrev S32x6144 : Shape := ⟨2, ![32, 6144]⟩
abbrev S32x1x6144 : Shape := ⟨3, ![32, 1, 6144]⟩
abbrev S32x1x1024 : Shape := ⟨3, ![32, 1, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S2048x2 : Shape := ⟨2, ![2048, 2]⟩
abbrev S2048x2x1 : Shape := ⟨3, ![2048, 2, 1]⟩
abbrev S1x1x16 : Shape := ⟨3, ![1, 1, 16]⟩
abbrev S2048x2x16 : Shape := ⟨3, ![2048, 2, 16]⟩
abbrev S32x2048 : Shape := ⟨2, ![32, 2048]⟩
abbrev S32x2048x1 : Shape := ⟨3, ![32, 2048, 1]⟩
abbrev S1x1x1024 : Shape := ⟨3, ![1, 1, 1024]⟩
abbrev S32x2048x7200 : Shape := ⟨3, ![32, 2048, 7200]⟩
abbrev S32x2048x512 : Shape := ⟨3, ![32, 2048, 512]⟩
abbrev S32x2048x256 : Shape := ⟨3, ![32, 2048, 256]⟩
abbrev S32x2048x32 : Shape := ⟨3, ![32, 2048, 32]⟩
abbrev S32x2048x3072 : Shape := ⟨3, ![32, 2048, 3072]⟩
abbrev S32x2048x4x2x64 : Shape := ⟨5, ![32, 2048, 4, 2, 64]⟩
abbrev S32x2048x4x2x2x2x16 : Shape := ⟨7, ![32, 2048, 4, 2, 2, 2, 16]⟩
abbrev S32x2048x4x2x2x1x16 : Shape := ⟨7, ![32, 2048, 4, 2, 2, 1, 16]⟩
abbrev S32x2048x4x2x2x16 : Shape := ⟨6, ![32, 2048, 4, 2, 2, 16]⟩
abbrev S2048x1x1x2x16 : Shape := ⟨5, ![2048, 1, 1, 2, 16]⟩
abbrev S1x2048x1x1x2x16 : Shape := ⟨6, ![1, 2048, 1, 1, 2, 16]⟩
abbrev S32x2048x6144 : Shape := ⟨3, ![32, 2048, 6144]⟩

abbrev nBuf : Space → Nat
  | .hbm => 128
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S40x6144, .f32⟩
  | .hbm, ⟨2, _⟩ => ⟨S1024, .f32⟩
  | .hbm, ⟨3, _⟩ => ⟨S1024x7200, .f32⟩
  | .hbm, ⟨4, _⟩ => ⟨S32x6144, .f32⟩
  | .hbm, ⟨5, _⟩ => ⟨S32x1x6144, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32, .i32⟩
  | .hbm, ⟨13, _⟩ => ⟨S32x64, .i32⟩
  | .hbm, ⟨14, _⟩ => ⟨S2048, .i32⟩
  | .hbm, ⟨15, _⟩ => ⟨S64, .i32⟩
  | .hbm, ⟨16, _⟩ => ⟨S1x64, .i32⟩
  | .hbm, ⟨17, _⟩ => ⟨S32x64, .i32⟩
  | .hbm, ⟨18, _⟩ => ⟨S2048, .i32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S2048x1, .i32⟩
  | .hbm, ⟨28, _⟩ => ⟨S2048x1, .i32⟩
  | .hbm, ⟨29, _⟩ => ⟨S2048x2, .i32⟩
  | .hbm, ⟨30, _⟩ => ⟨S2048x2, .f32⟩
  | .hbm, ⟨31, _⟩ => ⟨S2048x2x1, .f32⟩
  | .hbm, ⟨32, _⟩ => ⟨S1x1x16, .f32⟩
  | .hbm, ⟨33, _⟩ => ⟨S2048x2x16, .f32⟩
  | .hbm, ⟨34, _⟩ => ⟨S2048x2x16, .f32⟩
  | .hbm, ⟨35, _⟩ => ⟨S2048x2x16, .f32⟩
  | .hbm, ⟨36, _⟩ => ⟨S2048x2x16, .f32⟩
  | .hbm, ⟨37, _⟩ => ⟨S2048x2x16, .f32⟩
  | .hbm, ⟨38, _⟩ => ⟨S32x2048x1024, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S32x2048x1, .f32⟩
  | .hbm, ⟨49, _⟩ => ⟨S32x2048x1024, .f32⟩
  | .hbm, ⟨50, _⟩ => ⟨S32x2048x1024, .f32⟩
  | .hbm, ⟨51, _⟩ => ⟨S1x1x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x1x1024, .f32⟩
  | .hbm, ⟨56, _⟩ => ⟨S32x1x1024, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S32x2048x7200, .f32⟩
  | .hbm, ⟨62, _⟩ => ⟨S32x2048x512, .f32⟩
  | .hbm, ⟨63, _⟩ => ⟨S32x2048x512, .f32⟩
  | .hbm, ⟨64, _⟩ => ⟨S32x2048x512, .f32⟩
  | .hbm, ⟨65, _⟩ => ⟨S32x2048x1024, .f32⟩
  | .hbm, ⟨66, _⟩ => ⟨S32x2048x256, .f32⟩
  | .hbm, ⟨67, _⟩ => ⟨S32x2048x256, .f32⟩
  | .hbm, ⟨68, _⟩ => ⟨S32x2048x512, .f32⟩
  | .hbm, ⟨69, _⟩ => ⟨S32x2048x512, .f32⟩
  | .hbm, ⟨70, _⟩ => ⟨S32x2048x32, .f32⟩
  | .hbm, ⟨71, _⟩ => ⟨S32x2048x3072, .f32⟩
  | .hbm, ⟨72, _⟩ => ⟨S32x2048x4x2x64, .f32⟩
  | .hbm, ⟨73, _⟩ => ⟨S32x2048x4x2x2x2x16, .f32⟩
  | .hbm, ⟨74, _⟩ => ⟨S32x2048x4x2x2x1x16, .f32⟩
  | .hbm, ⟨75, _⟩ => ⟨S32x2048x4x2x2x16, .f32⟩
  | .hbm, ⟨76, _⟩ => ⟨S32x2048x4x2x2x1x16, .f32⟩
  | .hbm, ⟨77, _⟩ => ⟨S32x2048x4x2x2x16, .f32⟩
  | .hbm, ⟨78, _⟩ => ⟨S2048x1x1x2x16, .f32⟩
  | .hbm, ⟨79, _⟩ => ⟨S2048x1x1x2x16, .f32⟩
  | .hbm, ⟨80, _⟩ => ⟨S1x2048x1x1x2x16, .f32⟩
  | .hbm, ⟨81, _⟩ => ⟨S32x2048x4x2x2x16, .f32⟩
  | .hbm, ⟨82, _⟩ => ⟨S32x2048x4x2x2x16, .f32⟩
  | .hbm, ⟨83, _⟩ => ⟨S1x2048x1x1x2x16, .f32⟩
  | .hbm, ⟨84, _⟩ => ⟨S32x2048x4x2x2x16, .f32⟩
  | .hbm, ⟨85, _⟩ => ⟨S32x2048x4x2x2x16, .f32⟩
  | .hbm, ⟨86, _⟩ => ⟨S32x2048x4x2x2x16, .f32⟩
  | .hbm, ⟨87, _⟩ => ⟨S1x2048x1x1x2x16, .f32⟩
  | .hbm, ⟨88, _⟩ => ⟨S32x2048x4x2x2x16, .f32⟩
  | .hbm, ⟨89, _⟩ => ⟨S32x2048x4x2x2x16, .f32⟩
  | .hbm, ⟨90, _⟩ => ⟨S1x2048x1x1x2x16, .f32⟩
  | .hbm, ⟨91, _⟩ => ⟨S32x2048x4x2x2x16, .f32⟩
  | .hbm, ⟨92, _⟩ => ⟨S32x2048x4x2x2x16, .f32⟩
  | .hbm, ⟨93, _⟩ => ⟨S32x2048x4x2x2x16, .f32⟩
  | .hbm, ⟨94, _⟩ => ⟨S32x2048x4x2x2x1x16, .f32⟩
  | .hbm, ⟨95, _⟩ => ⟨S32x2048x4x2x2x1x16, .f32⟩
  | .hbm, ⟨96, _⟩ => ⟨S32x2048x4x2x2x2x16, .f32⟩
  | .hbm, ⟨97, _⟩ => ⟨S32x2048x4x2x64, .f32⟩
  | .hbm, ⟨98, _⟩ => ⟨S32x2048x4x2x64, .f32⟩
  | .hbm, ⟨99, _⟩ => ⟨S32x2048x4x2x2x2x16, .f32⟩
  | .hbm, ⟨100, _⟩ => ⟨S32x2048x4x2x2x1x16, .f32⟩
  | .hbm, ⟨101, _⟩ => ⟨S32x2048x4x2x2x16, .f32⟩
  | .hbm, ⟨102, _⟩ => ⟨S32x2048x4x2x2x1x16, .f32⟩
  | .hbm, ⟨103, _⟩ => ⟨S32x2048x4x2x2x16, .f32⟩
  | .hbm, ⟨104, _⟩ => ⟨S2048x1x1x2x16, .f32⟩
  | .hbm, ⟨105, _⟩ => ⟨S2048x1x1x2x16, .f32⟩
  | .hbm, ⟨106, _⟩ => ⟨S1x2048x1x1x2x16, .f32⟩
  | .hbm, ⟨107, _⟩ => ⟨S32x2048x4x2x2x16, .f32⟩
  | .hbm, ⟨108, _⟩ => ⟨S32x2048x4x2x2x16, .f32⟩
  | .hbm, ⟨109, _⟩ => ⟨S1x2048x1x1x2x16, .f32⟩
  | .hbm, ⟨110, _⟩ => ⟨S32x2048x4x2x2x16, .f32⟩
  | .hbm, ⟨111, _⟩ => ⟨S32x2048x4x2x2x16, .f32⟩
  | .hbm, ⟨112, _⟩ => ⟨S32x2048x4x2x2x16, .f32⟩
  | .hbm, ⟨113, _⟩ => ⟨S1x2048x1x1x2x16, .f32⟩
  | .hbm, ⟨114, _⟩ => ⟨S32x2048x4x2x2x16, .f32⟩
  | .hbm, ⟨115, _⟩ => ⟨S32x2048x4x2x2x16, .f32⟩
  | .hbm, ⟨116, _⟩ => ⟨S1x2048x1x1x2x16, .f32⟩
  | .hbm, ⟨117, _⟩ => ⟨S32x2048x4x2x2x16, .f32⟩
  | .hbm, ⟨118, _⟩ => ⟨S32x2048x4x2x2x16, .f32⟩
  | .hbm, ⟨119, _⟩ => ⟨S32x2048x4x2x2x16, .f32⟩
  | .hbm, ⟨120, _⟩ => ⟨S32x2048x4x2x2x1x16, .f32⟩
  | .hbm, ⟨121, _⟩ => ⟨S32x2048x4x2x2x1x16, .f32⟩
  | .hbm, ⟨122, _⟩ => ⟨S32x2048x4x2x2x2x16, .f32⟩
  | .hbm, ⟨123, _⟩ => ⟨S32x2048x4x2x64, .f32⟩
  | .hbm, ⟨124, _⟩ => ⟨S_, .f32⟩
  | .hbm, ⟨125, _⟩ => ⟨S32x2048x4x2x64, .f32⟩
  | .hbm, ⟨126, _⟩ => ⟨S32x2048x4x2x64, .f32⟩
  | .hbm, ⟨127, _⟩ => ⟨S32x2048x6144, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_cst_5 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩

abbrev nD : Nat := 1
abbrev τ : Topo := Topo.v7x

variable {F : FTy → Type} [FloatOps F]
-- ==== Proof.Pass.lean ====
module

public import proofs.«01_k».proof.Proof.Gen.KernelIdeal.Frame
public import proofs.«01_k».proof.Proof.Gen.KernelIdeal.Loops

/-! What one pass of one expert leaves in the block it accumulates into, at each of the two
    row widths, and what the first visit of a block leaves in the gates and the ranks. -/

@[expose] public section

set_option maxRecDepth 65536

noncomputable section

namespace Proof.Moe

open Cert.KernelIdeal Cert.KernelIdeal.Gen
open Idealize.ShloMosaic Idealize.ShloMosaic.TcCoe

variable {F : FTy → Type} [FloatOps F]

/-- The pass over the first 256 ranks: gather, the gated feed-forward in eleven chunks, scatter, accumulate. -/
def pass256 (v10 : FVec F S1024x1 .f32) (v12 : Vec F S1x1024 .f32) (H : Vec F S1024x1024 .bf16)
    (W1 W3 : Vec F S1x1024x2816 .bf16) (W2 : Vec F S1x2816x1024 .bf16) (A : Vec F S1024x1024 .f32) : Vec F S1024x1024 .f32 :=
  have v67 : Vec F S1024x1024 .bf16 := View.ld H (Rect.unit (s := S1024x1024) ![0, 0] S1024x1024.size inb_S1024x1024_S1024x1024_0_0)
  have v72 : Vec F S1x1024x256 .bf16 := View.ld W1 (Rect.unit (s := S1x1024x2816) ![0, 0, 0] S1x1024x256.size inb_S1x1024x2816_S1x1024x256_0_0_0)
  have v75 : Vec F S1x1024x256 .bf16 := View.ld W3 (Rect.unit (s := S1x1024x2816) ![0, 0, 0] S1x1024x256.size inb_S1x1024x2816_S1x1024x256_0_0_0)
  have v88 : Vec F S1x256x1024 .bf16 := View.ld W2 (Rect.unit (s := S1x2816x1024) ![0, 0, 0] S1x256x1024.size inb_S1x2816x1024_S1x256x1024_0_0_0)
  have v66 : FVec F S256x1024 .bf16 := k0_pay14 v12
  have v70 : FVec F S256x1024 .bf16 := k0_pay15 v12 v67
  have v91 : FVec F S256x1024 .f32 := k0_pay16 v12 v67 v72 v75 v88
  have v92 : Vec F S1x1024x256 .bf16 := View.ld W1 (Rect.unit (s := S1x1024x2816) ![0, 0, 256] S1x1024x256.size inb_S1x1024x2816_S1x1024x256_0_0_256)
  have v95 : Vec F S1x1024x256 .bf16 := View.ld W3 (Rect.unit (s := S1x1024x2816) ![0, 0, 256] S1x1024x256.size inb_S1x1024x2816_S1x1024x256_0_0_256)
  have v108 : Vec F S1x256x1024 .bf16 := View.ld W2 (Rect.unit (s := S1x2816x1024) ![0, 256, 0] S1x256x1024.size inb_S1x2816x1024_S1x256x1024_0_256_0)
  have v112 : Vec F S1x1024x256 .bf16 := View.ld W1 (Rect.unit (s := S1x1024x2816) ![0, 0, 512] S1x1024x256.size inb_S1x1024x2816_S1x1024x256_0_0_512)
  have v115 : Vec F S1x1024x256 .bf16 := View.ld W3 (Rect.unit (s := S1x1024x2816) ![0, 0, 512] S1x1024x256.size inb_S1x1024x2816_S1x1024x256_0_0_512)
  have v111 : FVec F S256x1024 .f32 := k0_pay17 v70 v91 v92 v95 v108
  have v127 : FVec F S256x256 .bf16 := k0_pay18 v70 v112 v115
  have v128 : Vec F S1x256x1024 .bf16 := View.ld W2 (Rect.unit (s := S1x2816x1024) ![0, 512, 0] S1x256x1024.size inb_S1x2816x1024_S1x256x1024_0_512_0)
  have v132 : Vec F S1x1024x256 .bf16 := View.ld W1 (Rect.unit (s := S1x1024x2816) ![0, 0, 768] S1x1024x256.size inb_S1x1024x2816_S1x1024x256_0_0_768)
  have v135 : Vec F S1x1024x256 .bf16 := View.ld W3 (Rect.unit (s := S1x1024x2816) ![0, 0, 768] S1x1024x256.size inb_S1x1024x2816_S1x1024x256_0_0_768)
  have v148 : Vec F S1x256x1024 .bf16 := View.ld W2 (Rect.unit (s := S1x2816x1024) ![0, 768, 0] S1x256x1024.size inb_S1x2816x1024_S1x256x1024_0_768_0)
  have v152 : Vec F S1x1024x256 .bf16 := View.ld W1 (Rect.unit (s := S1x1024x2816) ![0, 0, 1024] S1x1024x256.size inb_S1x1024x2816_S1x1024x256_0_0_1024)
  have v155 : Vec F S1x1024x256 .bf16 := View.ld W3 (Rect.unit (s := S1x1024x2816) ![0, 0, 1024] S1x1024x256.size inb_S1x1024x2816_S1x1024x256_0_0_1024)
  have v151 : FVec F S256x1024 .f32 := k0_pay19 v70 v111 v127 v128 v132 v135 v148
  have v154 : FVec F S256x256 .f32 := k0_pay20 v70 v152
  have v157 : FVec F S256x256 .f32 := k0_pay21 v70 v155
  have v160 : FVec F S256x256 .f32 := k0_pay22 v70 v152
  have v168 : Vec F S1x256x1024 .bf16 := View.ld W2 (Rect.unit (s := S1x2816x1024) ![0, 1024, 0] S1x256x1024.size inb_S1x2816x1024_S1x256x1024_0_1024_0)
  have v172 : Vec F S1x1024x256 .bf16 := View.ld W1 (Rect.unit (s := S1x1024x2816) ![0, 0, 1280] S1x1024x256.size inb_S1x1024x2816_S1x1024x256_0_0_1280)
  have v175 : Vec F S1x1024x256 .bf16 := View.ld W3 (Rect.unit (s := S1x1024x2816) ![0, 0, 1280] S1x1024x256.size inb_S1x1024x2816_S1x1024x256_0_0_1280)
  have v188 : Vec F S1x256x1024 .bf16 := View.ld W2 (Rect.unit (s := S1x2816x1024) ![0, 1280, 0] S1x256x1024.size inb_S1x2816x1024_S1x256x1024_0_1280_0)
  have v192 : Vec F S1x1024x256 .bf16 := View.ld W1 (Rect.unit (s := S1x1024x2816) ![0, 0, 1536] S1x1024x256.size inb_S1x1024x2816_S1x1024x256_0_0_1536)
  have v191 : FVec F S256x1024 .f32 := k0_pay23 v70 v151 v154 v157 v160 v168 v172 v175 v188
  have v194 : FVec F S256x256 .f32 := k0_pay24 v70 v192
  have v195 : Vec F S1x1024x256 .bf16 := View.ld W3 (Rect.unit (s := S1x1024x2816) ![0, 0, 1536] S1x1024x256.size inb_S1x1024x2816_S1x1024x256_0_0_1536)
  have v208 : Vec F S1x256x1024 .bf16 := View.ld W2 (Rect.unit (s := S1x2816x1024) ![0, 1536, 0] S1x256x1024.size inb_S1x2816x1024_S1x256x1024_0_1536_0)
  have v212 : Vec F S1x1024x256 .bf16 := View.ld W1 (Rect.unit (s := S1x1024x2816) ![0, 0, 1792] S1x1024x256.size inb_S1x1024x2816_S1x1024x256_0_0_1792)
  have v215 : Vec F S1x1024x256 .bf16 := View.ld W3 (Rect.unit (s := S1x1024x2816) ![0, 0, 1792] S1x1024x256.size inb_S1x1024x2816_S1x1024x256_0_0_1792)
  have v228 : Vec F S1x256x1024 .bf16 := View.ld W2 (Rect.unit (s := S1x2816x1024) ![0, 1792, 0] S1x256x1024.size inb_S1x2816x1024_S1x256x1024_0_1792_0)
  have cst_145 : FVec F S256x1024 .f32 := constant S256x1024 .f32 0x00000000#32
  have v211 : FVec F S256x1024 .f32 := k0_pay25 v70 v191 v194 v195 v208
  have v227 : FVec F S256x256 .bf16 := k0_pay26 v70 v212 v215
  have v229 : FVec F S256x1024 .bf16 := k0_pay27 v228
  have v232 : Vec F S1x1024x256 .bf16 := View.ld W1 (Rect.unit (s := S1x1024x2816) ![0, 0, 2048] S1x1024x256.size inb_S1x1024x2816_S1x1024x256_0_0_2048)
  have v235 : Vec F S1x1024x256 .bf16 := View.ld W3 (Rect.unit (s := S1x1024x2816) ![0, 0, 2048] S1x1024x256.size inb_S1x1024x2816_S1x1024x256_0_0_2048)
  have v248 : Vec F S1x256x1024 .bf16 := View.ld W2 (Rect.unit (s := S1x2816x1024) ![0, 2048, 0] S1x256x1024.size inb_S1x2816x1024_S1x256x1024_0_2048_0)
  have v252 : Vec F S1x1024x256 .bf16 := View.ld W1 (Rect.unit (s := S1x1024x2816) ![0, 0, 2304] S1x1024x256.size inb_S1x1024x2816_S1x1024x256_0_0_2304)
  have v255 : Vec F S1x1024x256 .bf16 := View.ld W3 (Rect.unit (s := S1x1024x2816) ![0, 0, 2304] S1x1024x256.size inb_S1x1024x2816_S1x1024x256_0_0_2304)
  have v251 : FVec F S256x1024 .f32 := k0_pay28 v70 v211 v227 v229 cst_145 v232 v235 v248
  have v254 : FVec F S256x256 .f32 := k0_pay29 v70 v252
  have v257 : FVec F S256x256 .f32 := k0_pay30 v70 v255
  have v262 : FVec F S256x256 .f32 := k0_pay31 v70 v252
  have v263 : FVec F S256x256 .f32 := k0_pay32 (F := F)
  have v268 : Vec F S1x256x1024 .bf16 := View.ld W2 (Rect.unit (s := S1x2816x1024) ![0, 2304, 0] S1x256x1024.size inb_S1x2816x1024_S1x256x1024_0_2304_0)
  have v272 : Vec F S1x1024x256 .bf16 := View.ld W1 (Rect.unit (s := S1x1024x2816) ![0, 0, 2560] S1x1024x256.size inb_S1x1024x2816_S1x1024x256_0_0_2560)
  have v275 : Vec F S1x1024x256 .bf16 := View.ld W3 (Rect.unit (s := S1x1024x2816) ![0, 0, 2560] S1x1024x256.size inb_S1x1024x2816_S1x1024x256_0_0_2560)
  have v288 : Vec F S1x256x1024 .bf16 := View.ld W2 (Rect.unit (s := S1x2816x1024) ![0, 2560, 0] S1x256x1024.size inb_S1x2816x1024_S1x256x1024_0_2560_0)
  have v294 : Vec F S1024x1024 .f32 := View.ld A (Rect.unit (s := S1024x1024) ![0, 0] S1024x1024.size inb_S1024x1024_S1024x1024_0_0)
  have v299 : Vec F S1024x1024 .f32 := View.ld A (Rect.unit (s := S1024x1024) ![0, 0] S1024x1024.size inb_S1024x1024_S1024x1024_0_0)
  have v298 : FVec F S1024x1024 .f32 := (k0_pay33 v10 v66 v70 v251 v254 v257 v262 v263 v268 v272 v275 v288 v294)
  v298

/-- The pass over the first 384 ranks. -/
def pass384 (v10 : FVec F S1024x1 .f32) (v12 : Vec F S1x1024 .f32) (H : Vec F S1024x1024 .bf16)
    (W1 W3 : Vec F S1x1024x2816 .bf16) (W2 : Vec F S1x2816x1024 .bf16) (A : Vec F S1024x1024 .f32) : Vec F S1024x1024 .f32 :=
  have v67 : Vec F S1024x1024 .bf16 := View.ld H (Rect.unit (s := S1024x1024) ![0, 0] S1024x1024.size inb_S1024x1024_S1024x1024_0_0)
  have v72 : Vec F S1x1024x256 .bf16 := View.ld W1 (Rect.unit (s := S1x1024x2816) ![0, 0, 0] S1x1024x256.size inb_S1x1024x2816_S1x1024x256_0_0_0)
  have v75 : Vec F S1x1024x256 .bf16 := View.ld W3 (Rect.unit (s := S1x1024x2816) ![0, 0, 0] S1x1024x256.size inb_S1x1024x2816_S1x1024x256_0_0_0)
  have v88 : Vec F S1x256x1024 .bf16 := View.ld W2 (Rect.unit (s := S1x2816x1024) ![0, 0, 0] S1x256x1024.size inb_S1x2816x1024_S1x256x1024_0_0_0)
  have v66 : FVec F S384x1024 .bf16 := k0_pay34 v12
  have v70 : FVec F S384x1024 .bf16 := k0_pay35 v12 v67
  have v91 : FVec F S384x1024 .f32 := k0_pay36 v12 v67 v72 v75 v88
  have v92 : Vec F S1x1024x256 .bf16 := View.ld W1 (Rect.unit (s := S1x1024x2816) ![0, 0, 256] S1x1024x256.size inb_S1x1024x2816_S1x1024x256_0_0_256)
  have v95 : Vec F S1x1024x256 .bf16 := View.ld W3 (Rect.unit (s := S1x1024x2816) ![0, 0, 256] S1x1024x256.size inb_S1x1024x2816_S1x1024x256_0_0_256)
  have v108 : Vec F S1x256x1024 .bf16 := View.ld W2 (Rect.unit (s := S1x2816x1024) ![0, 256, 0] S1x256x1024.size inb_S1x2816x1024_S1x256x1024_0_256_0)
  have v112 : Vec F S1x1024x256 .bf16 := View.ld W1 (Rect.unit (s := S1x1024x2816) ![0, 0, 512] S1x1024x256.size inb_S1x1024x2816_S1x1024x256_0_0_512)
  have v115 : Vec F S1x1024x256 .bf16 := View.ld W3 (Rect.unit (s := S1x1024x2816) ![0, 0, 512] S1x1024x256.size inb_S1x1024x2816_S1x1024x256_0_0_512)
  have v111 : FVec F S384x1024 .f32 := k0_pay37 v70 v91 v92 v95 v108
  have v127 : FVec F S384x256 .bf16 := k0_pay38 v70 v112 v115
  have v128 : Vec F S1x256x1024 .bf16 := View.ld W2 (Rect.unit (s := S1x2816x1024) ![0, 512, 0] S1x256x1024.size inb_S1x2816x1024_S1x256x1024_0_512_0)
  have v132 : Vec F S1x1024x256 .bf16 := View.ld W1 (Rect.unit (s := S1x1024x2816) ![0, 0, 768] S1x1024x256.size inb_S1x1024x2816_S1x1024x256_0_0_768)
  have v135 : Vec F S1x1024x256 .bf16 := View.ld W3 (Rect.unit (s := S1x1024x2816) ![0, 0, 768] S1x1024x256.size inb_S1x1024x2816_S1x1024x256_0_0_768)
  have v148 : Vec F S1x256x1024 .bf16 := View.ld W2 (Rect.unit (s := S1x2816x1024) ![0, 768, 0] S1x256x1024.size inb_S1x2816x1024_S1x256x1024_0_768_0)
  have v152 : Vec F S1x1024x256 .bf16 := View.ld W1 (Rect.unit (s := S1x1024x2816) ![0, 0, 1024] S1x1024x256.size inb_S1x1024x2816_S1x1024x256_0_0_1024)
  have v155 : Vec F S1x1024x256 .bf16 := View.ld W3 (Rect.unit (s := S1x1024x2816) ![0, 0, 1024] S1x1024x256.size inb_S1x1024x2816_S1x1024x256_0_0_1024)
  have v151 : FVec F S384x1024 .f32 := k0_pay39 v70 v111 v127 v128 v132 v135 v148
  have v154 : FVec F S384x256 .f32 := k0_pay40 v70 v152
  have v157 : FVec F S384x256 .f32 := k0_pay41 v70 v155
  have v160 : FVec F S384x256 .f32 := k0_pay42 v70 v152
  have v168 : Vec F S1x256x1024 .bf16 := View.ld W2 (Rect.unit (s := S1x2816x1024) ![0, 1024, 0] S1x256x1024.size inb_S1x2816x1024_S1x256x1024_0_1024_0)
  have v172 : Vec F S1x1024x256 .bf16 := View.ld W1 (Rect.unit (s := S1x1024x2816) ![0, 0, 1280] S1x1024x256.size inb_S1x1024x2816_S1x1024x256_0_0_1280)
  have v175 : Vec F S1x1024x256 .bf16 := View.ld W3 (Rect.unit (s := S1x1024x2816) ![0, 0, 1280] S1x1024x256.size inb_S1x1024x2816_S1x1024x256_0_0_1280)
  have v188 : Vec F S1x256x1024 .bf16 := View.ld W2 (Rect.unit (s := S1x2816x1024) ![0, 1280, 0] S1x256x1024.size inb_S1x2816x1024_S1x256x1024_0_1280_0)
  have v192 : Vec F S1x1024x256 .bf16 := View.ld W1 (Rect.unit (s := S1x1024x2816) ![0, 0, 1536] S1x1024x256.size inb_S1x1024x2816_S1x1024x256_0_0_1536)
  have v191 : FVec F S384x1024 .f32 := k0_pay43 v70 v151 v154 v157 v160 v168 v172 v175 v188
  have v194 : FVec F S384x256 .f32 := k0_pay44 v70 v192
  have v195 : Vec F S1x1024x256 .bf16 := View.ld W3 (Rect.unit (s := S1x1024x2816) ![0, 0, 1536] S1x1024x256.size inb_S1x1024x2816_S1x1024x256_0_0_1536)
  have v208 : Vec F S1x256x1024 .bf16 := View.ld W2 (Rect.unit (s := S1x2816x1024) ![0, 1536, 0] S1x256x1024.size inb_S1x2816x1024_S1x256x1024_0_1536_0)
  have v212 : Vec F S1x1024x256 .bf16 := View.ld W1 (Rect.unit (s := S1x1024x2816) ![0, 0, 1792] S1x1024x256.size inb_S1x1024x2816_S1x1024x256_0_0_1792)
  have v215 : Vec F S1x1024x256 .bf16 := View.ld W3 (Rect.unit (s := S1x1024x2816) ![0, 0, 1792] S1x1024x256.size inb_S1x1024x2816_S1x1024x256_0_0_1792)
  have v228 : Vec F S1x256x1024 .bf16 := View.ld W2 (Rect.unit (s := S1x2816x1024) ![0, 1792, 0] S1x256x1024.size inb_S1x2816x1024_S1x256x1024_0_1792_0)
  have cst_145 : FVec F S384x1024 .f32 := constant S384x1024 .f32 0x00000000#32
  have v211 : FVec F S384x1024 .f32 := k0_pay45 v70 v191 v194 v195 v208
  have v227 : FVec F S384x256 .bf16 := k0_pay46 v70 v212 v215
  have v229 : FVec F S256x1024 .bf16 := k0_pay47 v228
  have v232 : Vec F S1x1024x256 .bf16 := View.ld W1 (Rect.unit (s := S1x1024x2816) ![0, 0, 2048] S1x1024x256.size inb_S1x1024x2816_S1x1024x256_0_0_2048)
  have v235 : Vec F S1x1024x256 .bf16 := View.ld W3 (Rect.unit (s := S1x1024x2816) ![0, 0, 2048] S1x1024x256.size inb_S1x1024x2816_S1x1024x256_0_0_2048)
  have v248 : Vec F S1x256x1024 .bf16 := View.ld W2 (Rect.unit (s := S1x2816x1024) ![0, 2048, 0] S1x256x1024.size inb_S1x2816x1024_S1x256x1024_0_2048_0)
  have v252 : Vec F S1x1024x256 .bf16 := View.ld W1 (Rect.unit (s := S1x1024x2816) ![0, 0, 2304] S1x1024x256.size inb_S1x1024x2816_S1x1024x256_0_0_2304)
  have v255 : Vec F S1x1024x256 .bf16 := View.ld W3 (Rect.unit (s := S1x1024x2816) ![0, 0, 2304] S1x1024x256.size inb_S1x1024x2816_S1x1024x256_0_0_2304)
  have v251 : FVec F S384x1024 .f32 := k0_pay48 v70 v211 v227 v229 cst_145 v232 v235 v248
  have v254 : FVec F S384x256 .f32 := k0_pay49 v70 v252
  have v257 : FVec F S384x256 .f32 := k0_pay50 v70 v255
  have v262 : FVec F S384x256 .f32 := k0_pay51 v70 v252
  have v263 : FVec F S384x256 .f32 := k0_pay52 (F := F)
  have v268 : Vec F S1x256x1024 .bf16 := View.ld W2 (Rect.unit (s := S1x2816x1024) ![0, 2304, 0] S1x256x1024.size inb_S1x2816x1024_S1x256x1024_0_2304_0)
  have v272 : Vec F S1x1024x256 .bf16 := View.ld W1 (Rect.unit (s := S1x1024x2816) ![0, 0, 2560] S1x1024x256.size inb_S1x1024x2816_S1x1024x256_0_0_2560)
  have v275 : Vec F S1x1024x256 .bf16 := View.ld W3 (Rect.unit (s := S1x1024x2816) ![0, 0, 2560] S1x1024x256.size inb_S1x1024x2816_S1x1024x256_0_0_2560)
  have v288 : Vec F S1x256x1024 .bf16 := View.ld W2 (Rect.unit (s := S1x2816x1024) ![0, 2560, 0] S1x256x1024.size inb_S1x2816x1024_S1x256x1024_0_2560_0)
  have v294 : Vec F S1024x1024 .f32 := View.ld A (Rect.unit (s := S1024x1024) ![0, 0] S1024x1024.size inb_S1024x1024_S1024x1024_0_0)
  have v299 : Vec F S1024x1024 .f32 := View.ld A (Rect.unit (s := S1024x1024) ![0, 0] S1024x1024.size inb_S1024x1024_S1024x1024_0_0)
  have v298 : FVec F S1024x1024 .f32 := (k0_pay53 v10 v66 v70 v251 v254 v257 v262 v263 v268 v272 v275 v288 v294)
  v298

/-- Trip `k0_t1` of the passes over the ranks from 384 on, 256 at a time. -/
def passTail (v30 : BitVec 32) (k0_t1 : Fin (k0_t1_loop v30).trips) (v10 : FVec F S1024x1 .f32) (v12 : Vec F S1x1024 .f32) (H : Vec F S1024x1024 .bf16)
    (W1 W3 : Vec F S1x1024x2816 .bf16) (W2 : Vec F S1x2816x1024 .bf16) (A : Vec F S1024x1024 .f32) : Vec F S1024x1024 .f32 :=
  have c0_i32_22 : BitVec 32 := 0#32
  have c1_i32_24 : BitVec 32 := 1#32
  have v70 : Vec F S1024x1024 .bf16 := View.ld H (Rect.unit (s := S1024x1024) ![0, 0] S1024x1024.size inb_S1024x1024_S1024x1024_0_0)
  have v75 : Vec F S1x1024x256 .bf16 := View.ld W1 (Rect.unit (s := S1x1024x2816) ![0, 0, 0] S1x1024x256.size inb_S1x1024x2816_S1x1024x256_0_0_0)
  have v78 : Vec F S1x1024x256 .bf16 := View.ld W3 (Rect.unit (s := S1x1024x2816) ![0, 0, 0] S1x1024x256.size inb_S1x1024x2816_S1x1024x256_0_0_0)
  have v91 : Vec F S1x256x1024 .bf16 := View.ld W2 (Rect.unit (s := S1x2816x1024) ![0, 0, 0] S1x256x1024.size inb_S1x2816x1024_S1x256x1024_0_0_0)
  have cst_48 : FVec F S256x1024 .f32 := constant S256x1024 .f32 0x00000000#32
  have v69 : FVec F S256x1024 .bf16 := k0_pay54 v12 v30 c0_i32_22 c1_i32_24 k0_t1
  have v73 : FVec F S256x1024 .bf16 := k0_pay55 v12 v30 c0_i32_22 c1_i32_24 k0_t1 v70
  have v74 : FVec F S256x1024 .f32 := k0_pay56 (F := F)
  have v90 : FVec F S256x256 .bf16 := k0_pay57 v12 v30 c0_i32_22 c1_i32_24 k0_t1 v70 v75 v78
  have v92 : FVec F S256x1024 .bf16 := k0_pay58 v91
  have v95 : Vec F S1x1024x256 .bf16 := View.ld W1 (Rect.unit (s := S1x1024x2816) ![0, 0, 256] S1x1024x256.size inb_S1x1024x2816_S1x1024x256_0_0_256)
  have v98 : Vec F S1x1024x256 .bf16 := View.ld W3 (Rect.unit (s := S1x1024x2816) ![0, 0, 256] S1x1024x256.size inb_S1x1024x2816_S1x1024x256_0_0_256)
  have v111 : Vec F S1x256x1024 .bf16 := View.ld W2 (Rect.unit (s := S1x2816x1024) ![0, 256, 0] S1x256x1024.size inb_S1x2816x1024_S1x256x1024_0_256_0)
  have v115 : Vec F S1x1024x256 .bf16 := View.ld W1 (Rect.unit (s := S1x1024x2816) ![0, 0, 512] S1x1024x256.size inb_S1x1024x2816_S1x1024x256_0_0_512)
  have v118 : Vec F S1x1024x256 .bf16 := View.ld W3 (Rect.unit (s := S1x1024x2816) ![0, 0, 512] S1x1024x256.size inb_S1x1024x2816_S1x1024x256_0_0_512)
  have v114 : FVec F S256x1024 .f32 := k0_pay59 v73 v74 v90 v92 cst_48 v95 v98 v111
  have v117 : FVec F S256x256 .f32 := k0_pay60 v73 v115
  have v120 : FVec F S256x256 .f32 := k0_pay61 v73 v118
  have v125 : FVec F S256x256 .f32 := k0_pay62 v73 v115
  have v126 : FVec F S256x256 .f32 := k0_pay63 (F := F)
  have v131 : Vec F S1x256x1024 .bf16 := View.ld W2 (Rect.unit (s := S1x2816x1024) ![0, 512, 0] S1x256x1024.size inb_S1x2816x1024_S1x256x1024_0_512_0)
  have v135 : Vec F S1x1024x256 .bf16 := View.ld W1 (Rect.unit (s := S1x1024x2816) ![0, 0, 768] S1x1024x256.size inb_S1x1024x2816_S1x1024x256_0_0_768)
  have v138 : Vec F S1x1024x256 .bf16 := View.ld W3 (Rect.unit (s := S1x1024x2816) ![0, 0, 768] S1x1024x256.size inb_S1x1024x2816_S1x1024x256_0_0_768)
  have v151 : Vec F S1x256x1024 .bf16 := View.ld W2 (Rect.unit (s := S1x2816x1024) ![0, 768, 0] S1x256x1024.size inb_S1x2816x1024_S1x256x1024_0_768_0)
  have v155 : Vec F S1x1024x256 .bf16 := View.ld W1 (Rect.unit (s := S1x1024x2816) ![0, 0, 1024] S1x1024x256.size inb_S1x1024x2816_S1x1024x256_0_0_1024)
  have v158 : Vec F S1x1024x256 .bf16 := View.ld W3 (Rect.unit (s := S1x1024x2816) ![0, 0, 1024] S1x1024x256.size inb_S1x1024x2816_S1x1024x256_0_0_1024)
  have cst_97 : FVec F S256x256 .f32 := constant S256x256 .f32 0x00000000#32
  have v154 : FVec F S256x1024 .f32 := k0_pay64 v73 v114 v117 v120 v125 v126 v131 v135 v138 v151
  have v157 : FVec F S256x256 .f32 := k0_pay65 v73 v155
  have v159 : FVec F S1024x256 .bf16 := k0_pay66 v158
  have v171 : Vec F S1x256x1024 .bf16 := View.ld W2 (Rect.unit (s := S1x2816x1024) ![0, 1024, 0] S1x256x1024.size inb_S1x2816x1024_S1x256x1024_0_1024_0)
  have v175 : Vec F S1x1024x256 .bf16 := View.ld W1 (Rect.unit (s := S1x1024x2816) ![0, 0, 1280] S1x1024x256.size inb_S1x1024x2816_S1x1024x256_0_0_1280)
  have v178 : Vec F S1x1024x256 .bf16 := View.ld W3 (Rect.unit (s := S1x1024x2816) ![0, 0, 1280] S1x1024x256.size inb_S1x1024x2816_S1x1024x256_0_0_1280)
  have v191 : Vec F S1x256x1024 .bf16 := View.ld W2 (Rect.unit (s := S1x2816x1024) ![0, 1280, 0] S1x256x1024.size inb_S1x2816x1024_S1x256x1024_0_1280_0)
  have v194 : FVec F S256x1024 .f32 := (k0_pay67 v73 v154 v157 v159 cst_97 v171 v175 v178 v191)
  have v195 : Vec F S1x1024x256 .bf16 := View.ld W1 (Rect.unit (s := S1x1024x2816) ![0, 0, 1536] S1x1024x256.size inb_S1x1024x2816_S1x1024x256_0_0_1536)
  have v198 : Vec F S1x1024x256 .bf16 := View.ld W3 (Rect.unit (s := S1x1024x2816) ![0, 0, 1536] S1x1024x256.size inb_S1x1024x2816_S1x1024x256_0_0_1536)
  have v211 : Vec F S1x256x1024 .bf16 := View.ld W2 (Rect.unit (s := S1x2816x1024) ![0, 1536, 0] S1x256x1024.size inb_S1x2816x1024_S1x256x1024_0_1536_0)
  have v215 : Vec F S1x1024x256 .bf16 := View.ld W1 (Rect.unit (s := S1x1024x2816) ![0, 0, 1792] S1x1024x256.size inb_S1x1024x2816_S1x1024x256_0_0_1792)
  have v218 : Vec F S1x1024x256 .bf16 := View.ld W3 (Rect.unit (s := S1x1024x2816) ![0, 0, 1792] S1x1024x256.size inb_S1x1024x2816_S1x1024x256_0_0_1792)
  have v214 : FVec F S256x1024 .f32 := k0_pay68 v73 v194 v195 v198 v211
  have v230 : FVec F S256x256 .bf16 := k0_pay69 v73 v215 v218
  have v231 : Vec F S1x256x1024 .bf16 := View.ld W2 (Rect.unit (s := S1x2816x1024) ![0, 1792, 0] S1x256x1024.size inb_S1x2816x1024_S1x256x1024_0_1792_0)
  have v235 : Vec F S1x1024x256 .bf16 := View.ld W1 (Rect.unit (s := S1x1024x2816) ![0, 0, 2048] S1x1024x256.size inb_S1x1024x2816_S1x1024x256_0_0_2048)
  have v238 : Vec F S1x1024x256 .bf16 := View.ld W3 (Rect.unit (s := S1x1024x2816) ![0, 0, 2048] S1x1024x256.size inb_S1x1024x2816_S1x1024x256_0_0_2048)
  have v251 : Vec F S1x256x1024 .bf16 := View.ld W2 (Rect.unit (s := S1x2816x1024) ![0, 2048, 0] S1x256x1024.size inb_S1x2816x1024_S1x256x1024_0_2048_0)
  have v255 : Vec F S1x1024x256 .bf16 := View.ld W1 (Rect.unit (s := S1x1024x2816) ![0, 0, 2304] S1x1024x256.size inb_S1x1024x2816_S1x1024x256_0_0_2304)
  have v258 : Vec F S1x1024x256 .bf16 := View.ld W3 (Rect.unit (s := S1x1024x2816) ![0, 0, 2304] S1x1024x256.size inb_S1x1024x2816_S1x1024x256_0_0_2304)
  have v254 : FVec F S256x1024 .f32 := k0_pay70 v73 v214 v230 v231 v235 v238 v251
  have v257 : FVec F S256x256 .f32 := k0_pay71 v73 v255
  have v260 : FVec F S256x256 .f32 := k0_pay72 v73 v258
  have v263 : FVec F S256x256 .f32 := k0_pay73 v73 v255
  have v271 : Vec F S1x256x1024 .bf16 := View.ld W2 (Rect.unit (s := S1x2816x1024) ![0, 2304, 0] S1x256x1024.size inb_S1x2816x1024_S1x256x1024_0_2304_0)
  have v275 : Vec F S1x1024x256 .bf16 := View.ld W1 (Rect.unit (s := S1x1024x2816) ![0, 0, 2560] S1x1024x256.size inb_S1x1024x2816_S1x1024x256_0_0_2560)
  have v278 : Vec F S1x1024x256 .bf16 := View.ld W3 (Rect.unit (s := S1x1024x2816) ![0, 0, 2560] S1x1024x256.size inb_S1x1024x2816_S1x1024x256_0_0_2560)
  have v291 : Vec F S1x256x1024 .bf16 := View.ld W2 (Rect.unit (s := S1x2816x1024) ![0, 2560, 0] S1x256x1024.size inb_S1x2816x1024_S1x256x1024_0_2560_0)
  have v297 : Vec F S1024x1024 .f32 := View.ld A (Rect.unit (s := S1024x1024) ![0, 0] S1024x1024.size inb_S1024x1024_S1024x1024_0_0)
  have v296 : FVec F S1024x1024 .f32 := k0_pay74 v69 v73 v254 v257 v260 v263 v271 v275 v278 v291
  have v298 : FVec F S1024x1024 .f32 := k0_pay75 v297
  have v299 : FVec F S1024x1024 .f32 := k0_pay76 v10
  k0_pay1 v296 v298 v299

/-- The gates of a block of tokens. -/
def gates (H : Vec F S1024x1024 .bf16) (R : Vec F S1024x128 .bf16) : Vec F S1024x128 .f32 :=
  have H := View.ld H (Rect.unit (s := S1024x1024) ![0, 0] S1024x1024.size inb_S1024x1024_S1024x1024_0_0)
  have R := View.ld R (Rect.unit (s := S1024x128) ![0, 0] S1024x128.size inb_S1024x128_S1024x128_0_0)
  k0_pay100 (k0_pay10 H R) (k0_pay11 H R) (k0_pay12 H R) (Scalar.ofBits .f32 0x00000000#32) (k0_pay13 H R)

/-- The rank of each token of a block within each expert, minus one where the expert is not taken. -/
def ranks (H : Vec F S1024x1024 .bf16) (R : Vec F S1024x128 .bf16) : Vec F S128x1024 .f32 :=
  have H := View.ld H (Rect.unit (s := S1024x1024) ![0, 0] S1024x1024.size inb_S1024x1024_S1024x1024_0_0)
  have R := View.ld R (Rect.unit (s := S1024x128) ![0, 0] S1024x128.size inb_S1024x128_S1024x128_0_0)
  k0_pay101 (F := F) (iota .tc S1024x128 32 [1] iota_S1024x128_d1_w32) (k0_pay5 H R) (k0_pay8 H R)

end Proof.Moe

end
-- ==== Proof.TripRun.lean ====
module

public import proofs.«01_k».proof.Proof.Pass
public import Idealize.ShloMosaic.Lib.Pipeline.Value

/-! The run of one trip of the loop over the passes from rank 384 on. -/

@[expose] public section

set_option maxRecDepth 65536
set_option maxHeartbeats 400000

noncomputable section

namespace Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104

/-- What a pass reads and the block it accumulates into, at their contents. -/
def Blocks (c : Dev nD) (arg2 : Memref sig .tc .vmem S1024x1024 .bf16) (arg4 arg5 : Memref sig .tc .vmem S1x1024x2816 .bf16) (arg6 : Memref sig .tc .vmem S1x2816x1024 .bf16)
    (arg7 : Memref sig .tc .vmem S1024x1024 .f32) (H : Vec F S1024x1024 .bf16) (W1 W3 : Vec F S1x1024x2816 .bf16) (W2 : Vec F S1x2816x1024 .bf16) (A : Vec F S1024x1024 .f32) : sProp 𝕄 :=
  iprop((owns (c : Thread nD τ) arg2 fullShare H) ∗ (owns (c : Thread nD τ) arg4 fullShare W1) ∗ (owns (c : Thread nD τ) arg5 fullShare W3) ∗ (owns (c : Thread nD τ) arg6 fullShare W2) ∗ (owns (c : Thread nD τ) arg7 fullShare A))

theorem hz2 : (![0, 0] : Fin 2 → Nat) = fun _ => 0 := funext fun a => by fin_cases a <;> rfl

/-- Every index lies in the rectangle of a whole block. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store over a whole block leaves what it stores. -/
theorem read_store {κ : Kind} {sp : Space} {S : Shape} {e : EltTy} {off : Fin S.rank → Nat} (h : off = fun _ => 0) (inb : ∀ a, off a + S.size a ≤ S.size a)
    (v : View sig κ sp S e) (f : v.ty.Contents (Elt F)) (w : S.Idx → Elt F e) :
    v.read (Elt F) (v.writes (Elt F) f [(⟨Rect.unit off S.size inb, w⟩ : View.Piece (Elt F) S e)]) = w :=
  (View.read_writes_eq_canon v f _ fun y => ⟨⟨Rect.unit off S.size inb, w⟩, List.mem_singleton_self _, mem_unit_zero h inb y⟩).trans
    (View.canon_unit_zero h inb w)

theorem trip_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole)
    (v10 : FVec F S1024x1 .f32) (v12 : Vec F S1x1024 .f32) (v30 : BitVec 32) (k0_hw1 : k0_chk1 v30) (k : Fin (k0_t1_loop v30).trips)
    (H : Vec F S1024x1024 .bf16) (W1 W3 : Vec F S1x1024x2816 .bf16) (W2 : Vec F S1x2816x1024 .bf16) (A : Vec F S1024x1024 .f32) :
    (Blocks c arg2 arg4 arg5 arg6 arg7 H W1 W3 W2 A : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 v10 v12 v30 k0_hw1 k ())
        (fun _ => Blocks c arg2 arg4 arg5 arg6 arg7 H W1 W3 W2 (passTail v30 k v10 v12 H W1 W3 W2 A)) := by
  unfold Blocks owns
  iintro ⟨⟨%f2, %h2, H2⟩, ⟨%f4, %h4, H4⟩, ⟨%f5, %h5, H5⟩, ⟨%f6, %h6, H6⟩, ⟨%f7, %h7, H7⟩⟩
  subst h2 h4 h5 h6 h7
  unfold k0_t1_body
  sl_exec
  sl_step
  isplitl [H2]; · iexists _; isplitr; swap; · iexact H2
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  refine (read_store hz2 _ _ _ _).trans ?_
  rfl

end Proof.Moe

end
-- ==== Proof.BranchRun.lean ====
module

public import proofs.«01_k».proof.Proof.TripRun

/-! The runs of the three conditional parts of the body: the first visit of a block, the pass over
    256 ranks, the pass over 384. -/

@[expose] public section

set_option maxRecDepth 65536
set_option maxHeartbeats 400000

noncomputable section

namespace Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104

/-- The part of the body under its condition. -/
def branch256 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) :
    Prog (TpuEff nD τ sig (Elt F) Λ₀ .tc) PUnit := do
  let ⟨v66, v70, v91⟩ : Σ' (v66 : FVec F S256x1024 .bf16) (v70 : FVec F S256x1024 .bf16), FVec F S256x1024 .f32 ← k0_part2 i arg2 harg2 arg3 harg3 arg4 harg4 arg5 harg5 arg6 harg6 arg7 harg7 arg8 harg8 arg9 harg9 v12
  let ⟨v111, v127⟩ : Σ' (v111 : FVec F S256x1024 .f32), FVec F S256x256 .bf16 ← k0_part3 i arg2 harg2 arg3 harg3 arg4 harg4 arg5 harg5 arg6 harg6 arg7 harg7 arg8 harg8 arg9 harg9 v70 v91
  let ⟨v151, v154, v157, v160⟩ : Σ' (v151 : FVec F S256x1024 .f32) (v154 : FVec F S256x256 .f32) (v157 : FVec F S256x256 .f32), FVec F S256x256 .f32 ← k0_part4 i arg2 harg2 arg3 harg3 arg4 harg4 arg5 harg5 arg6 harg6 arg7 harg7 arg8 harg8 arg9 harg9 v70 v111 v127
  let ⟨v191, v194⟩ : Σ' (v191 : FVec F S256x1024 .f32), FVec F S256x256 .f32 ← k0_part5 i arg2 harg2 arg3 harg3 arg4 harg4 arg5 harg5 arg6 harg6 arg7 harg7 arg8 harg8 arg9 harg9 v70 v151 v154 v157 v160
  let ⟨v211, v227, v229, cst_145⟩ : Σ' (v211 : FVec F S256x1024 .f32) (v227 : FVec F S256x256 .bf16) (v229 : FVec F S256x1024 .bf16), FVec F S256x1024 .f32 ← k0_part6 i arg2 harg2 arg3 harg3 arg4 harg4 arg5 harg5 arg6 harg6 arg7 harg7 arg8 harg8 arg9 harg9 v70 v191 v194
  let ⟨v251, v254, v257, v262, v263⟩ : Σ' (v251 : FVec F S256x1024 .f32) (v254 : FVec F S256x256 .f32) (v257 : FVec F S256x256 .f32) (v262 : FVec F S256x256 .f32), FVec F S256x256 .f32 ← k0_part7 i arg2 harg2 arg3 harg3 arg4 harg4 arg5 harg5 arg6 harg6 arg7 harg7 arg8 harg8 arg9 harg9 v70 v211 v227 v229 cst_145
  let v298 : FVec F S1024x1024 .f32 ← k0_part8 i arg2 harg2 arg3 harg3 arg4 harg4 arg5 harg5 arg6 harg6 arg7 harg7 arg8 harg8 arg9 harg9 v10 v66 v70 v251 v254 v257 v262 v263
  Prog.lift (.store arg7 (Rect.unit (s := S1024x1024) ![0, 0] S1024x1024.size inb_S1024x1024_S1024x1024_0_0) v298 Finset.univ (View.stores_vmem_bits_univ h_S1024x1024 rfl) (.inl rfl))
  pure ⟨⟩

/-- The part of the body under its condition. -/
def branch384 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) :
    Prog (TpuEff nD τ sig (Elt F) Λ₀ .tc) PUnit := do
  let ⟨v66, v70, v91⟩ : Σ' (v66 : FVec F S384x1024 .bf16) (v70 : FVec F S384x1024 .bf16), FVec F S384x1024 .f32 ← k0_part9 i arg2 harg2 arg3 harg3 arg4 harg4 arg5 harg5 arg6 harg6 arg7 harg7 arg8 harg8 arg9 harg9 v12
  let ⟨v111, v127⟩ : Σ' (v111 : FVec F S384x1024 .f32), FVec F S384x256 .bf16 ← k0_part10 i arg2 harg2 arg3 harg3 arg4 harg4 arg5 harg5 arg6 harg6 arg7 harg7 arg8 harg8 arg9 harg9 v70 v91
  let ⟨v151, v154, v157, v160⟩ : Σ' (v151 : FVec F S384x1024 .f32) (v154 : FVec F S384x256 .f32) (v157 : FVec F S384x256 .f32), FVec F S384x256 .f32 ← k0_part11 i arg2 harg2 arg3 harg3 arg4 harg4 arg5 harg5 arg6 harg6 arg7 harg7 arg8 harg8 arg9 harg9 v70 v111 v127
  let ⟨v191, v194⟩ : Σ' (v191 : FVec F S384x1024 .f32), FVec F S384x256 .f32 ← k0_part12 i arg2 harg2 arg3 harg3 arg4 harg4 arg5 harg5 arg6 harg6 arg7 harg7 arg8 harg8 arg9 harg9 v70 v151 v154 v157 v160
  let ⟨v211, v227, v229, cst_145⟩ : Σ' (v211 : FVec F S384x1024 .f32) (v227 : FVec F S384x256 .bf16) (v229 : FVec F S256x1024 .bf16), FVec F S384x1024 .f32 ← k0_part13 i arg2 harg2 arg3 harg3 arg4 harg4 arg5 harg5 arg6 harg6 arg7 harg7 arg8 harg8 arg9 harg9 v70 v191 v194
  let ⟨v251, v254, v257, v262, v263⟩ : Σ' (v251 : FVec F S384x1024 .f32) (v254 : FVec F S384x256 .f32) (v257 : FVec F S384x256 .f32) (v262 : FVec F S384x256 .f32), FVec F S384x256 .f32 ← k0_part14 i arg2 harg2 arg3 harg3 arg4 harg4 arg5 harg5 arg6 harg6 arg7 harg7 arg8 harg8 arg9 harg9 v70 v211 v227 v229 cst_145
  let v298 : FVec F S1024x1024 .f32 ← k0_part15 i arg2 harg2 arg3 harg3 arg4 harg4 arg5 harg5 arg6 harg6 arg7 harg7 arg8 harg8 arg9 harg9 v10 v66 v70 v251 v254 v257 v262 v263
  Prog.lift (.store arg7 (Rect.unit (s := S1024x1024) ![0, 0] S1024x1024.size inb_S1024x1024_S1024x1024_0_0) v298 Finset.univ (View.stores_vmem_bits_univ h_S1024x1024 rfl) (.inl rfl))
  pure ⟨⟩

/-- The part of the body at the first visit of a block. -/
def first (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) :
    Prog (TpuEff nD τ sig (Elt F) Λ₀ .tc) PUnit := do
  let ⟨v62, v74, v86, v92, v94, v96, cst_40, v99⟩ : Σ' (v62 : IVec S1024x128 32) (v74 : IVec S1024x1 32) (v86 : IVec S1024x1 32) (v92 : FVec F S1024x1 .f32) (v94 : IVec S1024x128 1) (v96 : IVec S1024x128 1) (cst_40 : F .f32), FVec F S1024x128 .f32 ← k0_part1 i arg2 harg2 arg3 harg3 arg4 harg4 arg5 harg5 arg6 harg6 arg7 harg7 arg8 harg8 arg9 harg9
  let v114 : Vec F S1024x128 .f32 ← Prog.lift (.load arg8 (Rect.unit (s := S1024x128) ![0, 0] S1024x128.size inb_S1024x128_S1024x128_0_0).toLoadRect (View.loadsAt_vmem h_S1024x128))
  Prog.lift (.store arg8 (Rect.unit (s := S1024x128) ![0, 0] S1024x128.size inb_S1024x128_S1024x128_0_0) (k0_pay100 v92 v94 v96 cst_40 v99) Finset.univ (View.stores_vmem_bits_univ h_S1024x128 rfl) (.inl rfl))
  let v131 : Vec F S128x1024 .f32 ← Prog.lift (.load arg9 (Rect.unit (s := S128x1024) ![0, 0] S128x1024.size inb_S128x1024_S128x1024_0_0).toLoadRect (View.loadsAt_vmem h_S128x1024))
  Prog.lift (.store arg9 (Rect.unit (s := S128x1024) ![0, 0] S128x1024.size inb_S128x1024_S128x1024_0_0) (k0_pay101 (F := F) v62 v74 v86) Finset.univ (View.stores_vmem_bits_univ h_S128x1024 rfl) (.inl rfl))
  let v135 : Vec F S1024x1024 .f32 ← Prog.lift (.load arg7 (Rect.unit (s := S1024x1024) ![0, 0] S1024x1024.size inb_S1024x1024_S1024x1024_0_0).toLoadRect (View.loadsAt_vmem h_S1024x1024))
  Prog.lift (.store arg7 (Rect.unit (s := S1024x1024) ![0, 0] S1024x1024.size inb_S1024x1024_S1024x1024_0_0) (k0_pay102 (F := F)) Finset.univ (View.stores_vmem_bits_univ h_S1024x1024 rfl) (.inl rfl))
  pure ⟨⟩

theorem branch256_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole)
    (v10 : FVec F S1024x1 .f32) (v12 : Vec F S1x1024 .f32)
    (H : Vec F S1024x1024 .bf16) (W1 W3 : Vec F S1x1024x2816 .bf16) (W2 : Vec F S1x2816x1024 .bf16) (A : Vec F S1024x1024 .f32) :
    (Blocks c arg2 arg4 arg5 arg6 arg7 H W1 W3 W2 A : sProp 𝕄)
      ⊢ wp frame (wpE (defs₀ (F := F)) 𝒱 (c : Thread nD τ) bd) E (branch256 (F := F) i arg2 harg2 arg3 harg3 arg4 harg4 arg5 harg5 arg6 harg6 arg7 harg7 arg8 harg8 arg9 harg9 v10 v12)
        (fun _ => Blocks c arg2 arg4 arg5 arg6 arg7 H W1 W3 W2 (pass256 v10 v12 H W1 W3 W2 A)) := by
  unfold Blocks owns
  iintro ⟨⟨%f2, %h2, H2⟩, ⟨%f4, %h4, H4⟩, ⟨%f5, %h5, H5⟩, ⟨%f6, %h6, H6⟩, ⟨%f7, %h7, H7⟩⟩
  subst h2 h4 h5 h6 h7
  unfold branch256
  sl_exec
  sl_step
  isplitl [H2]; · iexists _; isplitr; swap; · iexact H2
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  refine (read_store hz2 _ _ _ _).trans ?_
  rfl

theorem branch384_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole)
    (v10 : FVec F S1024x1 .f32) (v12 : Vec F S1x1024 .f32)
    (H : Vec F S1024x1024 .bf16) (W1 W3 : Vec F S1x1024x2816 .bf16) (W2 : Vec F S1x2816x1024 .bf16) (A : Vec F S1024x1024 .f32) :
    (Blocks c arg2 arg4 arg5 arg6 arg7 H W1 W3 W2 A : sProp 𝕄)
      ⊢ wp frame (wpE (defs₀ (F := F)) 𝒱 (c : Thread nD τ) bd) E (branch384 (F := F) i arg2 harg2 arg3 harg3 arg4 harg4 arg5 harg5 arg6 harg6 arg7 harg7 arg8 harg8 arg9 harg9 v10 v12)
        (fun _ => Blocks c arg2 arg4 arg5 arg6 arg7 H W1 W3 W2 (pass384 v10 v12 H W1 W3 W2 A)) := by
  unfold Blocks owns
  iintro ⟨⟨%f2, %h2, H2⟩, ⟨%f4, %h4, H4⟩, ⟨%f5, %h5, H5⟩, ⟨%f6, %h6, H6⟩, ⟨%f7, %h7, H7⟩⟩
  subst h2 h4 h5 h6 h7
  unfold branch384
  sl_exec
  sl_step
  isplitl [H2]; · iexists _; isplitr; swap; · iexact H2
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  refine (read_store hz2 _ _ _ _).trans ?_
  rfl

theorem first_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole)
    (H : Vec F S1024x1024 .bf16) (R : Vec F S1024x128 .bf16) (A : Vec F S1024x1024 .f32) (G : Vec F S1024x128 .f32) (K : Vec F S128x1024 .f32) :
    (iprop((owns (c : Thread nD τ) arg2 fullShare H) ∗ (owns (c : Thread nD τ) arg3 fullShare R) ∗ (owns (c : Thread nD τ) arg7 fullShare A) ∗ (owns (c : Thread nD τ) arg8 fullShare G) ∗ (owns (c : Thread nD τ) arg9 fullShare K)) : sProp 𝕄)
      ⊢ wp frame (wpE (defs₀ (F := F)) 𝒱 (c : Thread nD τ) bd) E (first (F := F) i arg2 harg2 arg3 harg3 arg4 harg4 arg5 harg5 arg6 harg6 arg7 harg7 arg8 harg8 arg9 harg9)
        (fun _ => iprop((owns (c : Thread nD τ) arg2 fullShare H) ∗ (owns (c : Thread nD τ) arg3 fullShare R) ∗ (owns (c : Thread nD τ) arg7 fullShare (k0_pay102 (F := F))) ∗ (owns (c : Thread nD τ) arg8 fullShare (gates H R)) ∗ (owns (c : Thread nD τ) arg9 fullShare (ranks H R)))) := by
  unfold first owns
  iintro ⟨⟨%f2, %h2, H2⟩, ⟨%f3, %h3, H3⟩, ⟨%f7, %h7, H7⟩, ⟨%f8, %h8, H8⟩, ⟨%f9, %h9, H9⟩⟩
  subst h2 h3 h7 h8 h9
  sl_exec
  sl_step
  isplitl [H2]; · iexists _; isplitr; swap; · iexact H2
                  ipureintro; rfl
  isplitl [H3]; · iexists _; isplitr; swap; · iexact H3
                  ipureintro; rfl
  isplitl [H7]; · iexists _; isplitr; swap; · iexact H7
                  ipureintro; exact read_store hz2 _ _ _ _
  isplitl [H8]; · iexists _; isplitr; swap; · iexact H8
                  ipureintro; exact (read_store hz2 _ _ _ _).trans rfl
  iexists _; isplitr; swap; · iexact H9
  ipureintro
  exact (read_store hz2 _ _ _ _).trans rfl

end Proof.Moe

end
-- ==== Proof.Half.lean ====
module

public import proofs.«01_k».proof.Proof.BranchRun

/-! The body as its conditional parts in sequence. -/

@[expose] public section

set_option maxRecDepth 65536
set_option maxHeartbeats 400000

noncomputable section

namespace Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a grid point is the first of its block. -/
abbrev visits (i : grid0.Coords) : BitVec 1 :=
  Scalar.cmpi .ne (Scalar.extui (Scalar.cmpi .eq (BitVec.ofNat 32 (i 1).val) 0#32) : BitVec 32) 0#32

/-- Whether an expert has some tokens of the block, and at most 256. -/
abbrev few (v12 : Vec F S1x1024 .f32) : BitVec 1 :=
  Scalar.cmpi .ne (Scalar.extui (Scalar.andi (Scalar.cmpf .ogt (k0_pay104 v12) (Scalar.ofBits .f32 0x00000000#32))
    (Scalar.cmpf .ole (k0_pay104 v12) (Scalar.ofBits .f32 0x43800000#32))) : BitVec 32) 0#32

/-- Whether an expert has more than 256 tokens of the block. -/
abbrev many (v12 : Vec F S1x1024 .f32) : BitVec 1 :=
  Scalar.cmpi .ne (Scalar.extui (Scalar.cmpf .ogt (k0_pay104 v12) (Scalar.ofBits .f32 0x43800000#32)) : BitVec 32) 0#32

/-- The two reads of what the first visit left. -/
def reads (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) : Prog (TpuEff nD τ sig (Elt F) Λ₀ .tc) (Vec F S1024x128 .f32 × Vec F S1x1024 .f32) := do
  let v6 : Vec F S1024x128 .f32 ← Prog.lift (.load arg8 (Rect.unit (s := S1024x128) ![0, 0] S1024x128.size inb_S1024x128_S1024x128_0_0).toLoadRect (View.loadsAt_vmem h_S1024x128))
  let v12 : Vec F S1x1024 .f32 ← Prog.lift (.load arg9 (Rect.unit (s := S128x1024) (k0_off1 i) S1x1024.size (k0_off1_inb i)).toLoadRect (View.loadsAt_vmem h_S1x1024))
  pure (v6, v12)

/-- What the loop over the passes from rank 384 on needs, assumed and handed on. -/
def owes (i : grid0.Coords) (v6 : Vec F S1024x128 .f32) (v12 : Vec F S1x1024 .f32) :
    Prog (TpuEff nD τ sig (Elt F) Λ₀ .tc) (Σ' (v10 : FVec F S1024x1 .f32) (v12 : Vec F S1x1024 .f32) (v30 : BitVec 32) (k0_hw1 : k0_chk1 v30) (v33 : BitVec 32), BitVec 32) := do
  let v30 : BitVec 32 := Scalar.fptosi 32 (k0_pay104 v12)
  have k0_hw1 : k0_chk1 v30 := (← Prog.lift (TpuEff.assume (k0_chk1 v30) (k0_chk1.dec v30))).down
  let v31 : BitVec 32 := Scalar.subi v30 384#32
  let v32 : BitVec 32 := Scalar.maxsi v31 0#32
  let v33 : BitVec 32 := Scalar.addi v32 256#32
  pure ⟨k0_pay103 i v6, v12, v30, k0_hw1, v33, 1#32⟩

/-- The first visit's part, then `k`. -/
def thenFirst (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) {α : Type} (k : Prog (TpuEff nD τ sig (Elt F) Λ₀ .tc) α) : Prog (TpuEff nD τ sig (Elt F) Λ₀ .tc) α := do
  let ⟨v62, v74, v86, v92, v94, v96, cst_40, v99⟩ : Σ' (v62 : IVec S1024x128 32) (v74 : IVec S1024x1 32) (v86 : IVec S1024x1 32) (v92 : FVec F S1024x1 .f32) (v94 : IVec S1024x128 1) (v96 : IVec S1024x128 1) (cst_40 : F .f32), FVec F S1024x128 .f32 ← k0_part1 i arg2 harg2 arg3 harg3 arg4 harg4 arg5 harg5 arg6 harg6 arg7 harg7 arg8 harg8 arg9 harg9
  let v114 : Vec F S1024x128 .f32 ← Prog.lift (.load arg8 (Rect.unit (s := S1024x128) ![0, 0] S1024x128.size inb_S1024x128_S1024x128_0_0).toLoadRect (View.loadsAt_vmem h_S1024x128))
  Prog.lift (.store arg8 (Rect.unit (s := S1024x128) ![0, 0] S1024x128.size inb_S1024x128_S1024x128_0_0) (k0_pay100 v92 v94 v96 cst_40 v99) Finset.univ (View.stores_vmem_bits_univ h_S1024x128 rfl) (.inl rfl))
  let v131 : Vec F S128x1024 .f32 ← Prog.lift (.load arg9 (Rect.unit (s := S128x1024) ![0, 0] S128x1024.size inb_S128x1024_S128x1024_0_0).toLoadRect (View.loadsAt_vmem h_S128x1024))
  Prog.lift (.store arg9 (Rect.unit (s := S128x1024) ![0, 0] S128x1024.size inb_S128x1024_S128x1024_0_0) (k0_pay101 (F := F) v62 v74 v86) Finset.univ (View.stores_vmem_bits_univ h_S128x1024 rfl) (.inl rfl))
  let v135 : Vec F S1024x1024 .f32 ← Prog.lift (.load arg7 (Rect.unit (s := S1024x1024) ![0, 0] S1024x1024.size inb_S1024x1024_S1024x1024_0_0).toLoadRect (View.loadsAt_vmem h_S1024x1024))
  Prog.lift (.store arg7 (Rect.unit (s := S1024x1024) ![0, 0] S1024x1024.size inb_S1024x1024_S1024x1024_0_0) (k0_pay102 (F := F)) Finset.univ (View.stores_vmem_bits_univ h_S1024x1024 rfl) (.inl rfl))
  k

/-- The pass over 256 ranks, then `k`. -/
def then256 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) {α : Type} (k : Prog (TpuEff nD τ sig (Elt F) Λ₀ .tc) α) : Prog (TpuEff nD τ sig (Elt F) Λ₀ .tc) α := do
  let ⟨v66, v70, v91⟩ : Σ' (v66 : FVec F S256x1024 .bf16) (v70 : FVec F S256x1024 .bf16), FVec F S256x1024 .f32 ← k0_part2 i arg2 harg2 arg3 harg3 arg4 harg4 arg5 harg5 arg6 harg6 arg7 harg7 arg8 harg8 arg9 harg9 v12
  let ⟨v111, v127⟩ : Σ' (v111 : FVec F S256x1024 .f32), FVec F S256x256 .bf16 ← k0_part3 i arg2 harg2 arg3 harg3 arg4 harg4 arg5 harg5 arg6 harg6 arg7 harg7 arg8 harg8 arg9 harg9 v70 v91
  let ⟨v151, v154, v157, v160⟩ : Σ' (v151 : FVec F S256x1024 .f32) (v154 : FVec F S256x256 .f32) (v157 : FVec F S256x256 .f32), FVec F S256x256 .f32 ← k0_part4 i arg2 harg2 arg3 harg3 arg4 harg4 arg5 harg5 arg6 harg6 arg7 harg7 arg8 harg8 arg9 harg9 v70 v111 v127
  let ⟨v191, v194⟩ : Σ' (v191 : FVec F S256x1024 .f32), FVec F S256x256 .f32 ← k0_part5 i arg2 harg2 arg3 harg3 arg4 harg4 arg5 harg5 arg6 harg6 arg7 harg7 arg8 harg8 arg9 harg9 v70 v151 v154 v157 v160
  let ⟨v211, v227, v229, cst_145⟩ : Σ' (v211 : FVec F S256x1024 .f32) (v227 : FVec F S256x256 .bf16) (v229 : FVec F S256x1024 .bf16), FVec F S256x1024 .f32 ← k0_part6 i arg2 harg2 arg3 harg3 arg4 harg4 arg5 harg5 arg6 harg6 arg7 harg7 arg8 harg8 arg9 harg9 v70 v191 v194
  let ⟨v251, v254, v257, v262, v263⟩ : Σ' (v251 : FVec F S256x1024 .f32) (v254 : FVec F S256x256 .f32) (v257 : FVec F S256x256 .f32) (v262 : FVec F S256x256 .f32), FVec F S256x256 .f32 ← k0_part7 i arg2 harg2 arg3 harg3 arg4 harg4 arg5 harg5 arg6 harg6 arg7 harg7 arg8 harg8 arg9 harg9 v70 v211 v227 v229 cst_145
  let v298 : FVec F S1024x1024 .f32 ← k0_part8 i arg2 harg2 arg3 harg3 arg4 harg4 arg5 harg5 arg6 harg6 arg7 harg7 arg8 harg8 arg9 harg9 v10 v66 v70 v251 v254 v257 v262 v263
  Prog.lift (.store arg7 (Rect.unit (s := S1024x1024) ![0, 0] S1024x1024.size inb_S1024x1024_S1024x1024_0_0) v298 Finset.univ (View.stores_vmem_bits_univ h_S1024x1024 rfl) (.inl rfl))
  k

/-- The pass over 384 ranks, then `k`. -/
def then384 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) {α : Type} (k : Prog (TpuEff nD τ sig (Elt F) Λ₀ .tc) α) : Prog (TpuEff nD τ sig (Elt F) Λ₀ .tc) α := do
  let ⟨v66, v70, v91⟩ : Σ' (v66 : FVec F S384x1024 .bf16) (v70 : FVec F S384x1024 .bf16), FVec F S384x1024 .f32 ← k0_part9 i arg2 harg2 arg3 harg3 arg4 harg4 arg5 harg5 arg6 harg6 arg7 harg7 arg8 harg8 arg9 harg9 v12
  let ⟨v111, v127⟩ : Σ' (v111 : FVec F S384x1024 .f32), FVec F S384x256 .bf16 ← k0_part10 i arg2 harg2 arg3 harg3 arg4 harg4 arg5 harg5 arg6 harg6 arg7 harg7 arg8 harg8 arg9 harg9 v70 v91
  let ⟨v151, v154, v157, v160⟩ : Σ' (v151 : FVec F S384x1024 .f32) (v154 : FVec F S384x256 .f32) (v157 : FVec F S384x256 .f32), FVec F S384x256 .f32 ← k0_part11 i arg2 harg2 arg3 harg3 arg4 harg4 arg5 harg5 arg6 harg6 arg7 harg7 arg8 harg8 arg9 harg9 v70 v111 v127
  let ⟨v191, v194⟩ : Σ' (v191 : FVec F S384x1024 .f32), FVec F S384x256 .f32 ← k0_part12 i arg2 harg2 arg3 harg3 arg4 harg4 arg5 harg5 arg6 harg6 arg7 harg7 arg8 harg8 arg9 harg9 v70 v151 v154 v157 v160
  let ⟨v211, v227, v229, cst_145⟩ : Σ' (v211 : FVec F S384x1024 .f32) (v227 : FVec F S384x256 .bf16) (v229 : FVec F S256x1024 .bf16), FVec F S384x1024 .f32 ← k0_part13 i arg2 harg2 arg3 harg3 arg4 harg4 arg5 harg5 arg6 harg6 arg7 harg7 arg8 harg8 arg9 harg9 v70 v191 v194
  let ⟨v251, v254, v257, v262, v263⟩ : Σ' (v251 : FVec F S384x1024 .f32) (v254 : FVec F S384x256 .f32) (v257 : FVec F S384x256 .f32) (v262 : FVec F S384x256 .f32), FVec F S384x256 .f32 ← k0_part14 i arg2 harg2 arg3 harg3 arg4 harg4 arg5 harg5 arg6 harg6 arg7 harg7 arg8 harg8 arg9 harg9 v70 v211 v227 v229 cst_145
  let v298 : FVec F S1024x1024 .f32 ← k0_part15 i arg2 harg2 arg3 harg3 arg4 harg4 arg5 harg5 arg6 harg6 arg7 harg7 arg8 harg8 arg9 harg9 v10 v66 v70 v251 v254 v257 v262 v263
  Prog.lift (.store arg7 (Rect.unit (s := S1024x1024) ![0, 0] S1024x1024.size inb_S1024x1024_S1024x1024_0_0) v298 Finset.univ (View.stores_vmem_bits_univ h_S1024x1024 rfl) (.inl rfl))
  k

theorem thenFirst_eq (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) {α : Type} (k : Prog (TpuEff nD τ sig (Elt F) Λ₀ .tc) α) :
    thenFirst (F := F) i arg2 harg2 arg3 harg3 arg4 harg4 arg5 harg5 arg6 harg6 arg7 harg7 arg8 harg8 arg9 harg9 k = (first (F := F) i arg2 harg2 arg3 harg3 arg4 harg4 arg5 harg5 arg6 harg6 arg7 harg7 arg8 harg8 arg9 harg9 >>= fun _ => k) := rfl

theorem then256_eq (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) {α : Type} (k : Prog (TpuEff nD τ sig (Elt F) Λ₀ .tc) α) :
    then256 (F := F) i arg2 harg2 arg3 harg3 arg4 harg4 arg5 harg5 arg6 harg6 arg7 harg7 arg8 harg8 arg9 harg9 v10 v12 k = (branch256 (F := F) i arg2 harg2 arg3 harg3 arg4 harg4 arg5 harg5 arg6 harg6 arg7 harg7 arg8 harg8 arg9 harg9 v10 v12 >>= fun _ => k) := rfl

theorem then384_eq (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) {α : Type} (k : Prog (TpuEff nD τ sig (Elt F) Λ₀ .tc) α) :
    then384 (F := F) i arg2 harg2 arg3 harg3 arg4 harg4 arg5 harg5 arg6 harg6 arg7 harg7 arg8 harg8 arg9 harg9 v10 v12 k = (branch384 (F := F) i arg2 harg2 arg3 harg3 arg4 harg4 arg5 harg5 arg6 harg6 arg7 harg7 arg8 harg8 arg9 harg9 v10 v12 >>= fun _ => k) := rfl

/-- The body up to its loop, from the pass over 384 ranks on. -/
def half384 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v : Vec F S1024x128 .f32 × Vec F S1x1024 .f32) : Prog (TpuEff nD τ sig (Elt F) Λ₀ .tc) (Σ' (v10 : FVec F S1024x1 .f32) (v12 : Vec F S1x1024 .f32) (v30 : BitVec 32) (k0_hw1 : k0_chk1 v30) (v33 : BitVec 32), BitVec 32) :=
  if many v.2 = 1#1 then then384 i arg2 harg2 arg3 harg3 arg4 harg4 arg5 harg5 arg6 harg6 arg7 harg7 arg8 harg8 arg9 harg9 (k0_pay103 i v.1) v.2 (owes i v.1 v.2) else owes i v.1 v.2

/-- The same from the pass over 256 ranks on. -/
def half256 (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v : Vec F S1024x128 .f32 × Vec F S1x1024 .f32) : Prog (TpuEff nD τ sig (Elt F) Λ₀ .tc) (Σ' (v10 : FVec F S1024x1 .f32) (v12 : Vec F S1x1024 .f32) (v30 : BitVec 32) (k0_hw1 : k0_chk1 v30) (v33 : BitVec 32), BitVec 32) :=
  if few v.2 = 1#1 then then256 i arg2 harg2 arg3 harg3 arg4 harg4 arg5 harg5 arg6 harg6 arg7 harg7 arg8 harg8 arg9 harg9 (k0_pay103 i v.1) v.2 (half384 i arg2 harg2 arg3 harg3 arg4 harg4 arg5 harg5 arg6 harg6 arg7 harg7 arg8 harg8 arg9 harg9 v) else half384 i arg2 harg2 arg3 harg3 arg4 harg4 arg5 harg5 arg6 harg6 arg7 harg7 arg8 harg8 arg9 harg9 v

/-- The same from the reads on. -/
def halfReads (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) : Prog (TpuEff nD τ sig (Elt F) Λ₀ .tc) (Σ' (v10 : FVec F S1024x1 .f32) (v12 : Vec F S1x1024 .f32) (v30 : BitVec 32) (k0_hw1 : k0_chk1 v30) (v33 : BitVec 32), BitVec 32) :=
  reads i arg2 harg2 arg3 harg3 arg4 harg4 arg5 harg5 arg6 harg6 arg7 harg7 arg8 harg8 arg9 harg9 >>= fun v => half256 i arg2 harg2 arg3 harg3 arg4 harg4 arg5 harg5 arg6 harg6 arg7 harg7 arg8 harg8 arg9 harg9 v

/-- The body up to its loop. -/
def half (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) : Prog (TpuEff nD τ sig (Elt F) Λ₀ .tc) (Σ' (v10 : FVec F S1024x1 .f32) (v12 : Vec F S1x1024 .f32) (v30 : BitVec 32) (k0_hw1 : k0_chk1 v30) (v33 : BitVec 32), BitVec 32) :=
  if _h : visits i = 1#1 then thenFirst i arg2 harg2 arg3 harg3 arg4 harg4 arg5 harg5 arg6 harg6 arg7 harg7 arg8 harg8 arg9 harg9 (halfReads i arg2 harg2 arg3 harg3 arg4 harg4 arg5 harg5 arg6 harg6 arg7 harg7 arg8 harg8 arg9 harg9) else halfReads i arg2 harg2 arg3 harg3 arg4 harg4 arg5 harg5 arg6 harg6 arg7 harg7 arg8 harg8 arg9 harg9

theorem half_eq (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) : k0_part30_skel (F := F) i arg2 harg2 arg3 harg3 arg4 harg4 arg5 harg5 arg6 harg6 arg7 harg7 arg8 harg8 arg9 harg9 = half (F := F) i arg2 harg2 arg3 harg3 arg4 harg4 arg5 harg5 arg6 harg6 arg7 harg7 arg8 harg8 arg9 harg9 := rfl

end Proof.Moe

end
-- ==== Proof.BodyRun.lean ====
module

public import proofs.«01_k».proof.Proof.Half

/-! The run of the body: what one grid point leaves in the block it accumulates into, the gates
    and the ranks, whatever the count read. -/

@[expose] public section

set_option maxRecDepth 65536
set_option maxHeartbeats 400000

noncomputable section

namespace Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The loops' operands -/

/-- A loop from zero by ones has a meaning whatever its upper bound. -/
theorem ok_zero_one (ub : BitVec 32) : Scf.OK 0#32 ub 1#32 := by
  refine ⟨by decide, ?_⟩
  unfold Scf.trips
  have h := BitVec.toInt_lt (x := ub)
  have h0 : (0#32 : BitVec 32).toInt = 0 := by decide
  have h1 : (1#32 : BitVec 32).toInt = 1 := by decide
  rw [h0, h1]; simp only [Nat.reduceSub, Int.ediv_one] at *; omega

/-- A loop whose bounds agree has no trips. -/
theorem trips_self (lb : BitVec 32) : Scf.trips lb lb 1#32 = 0 := by
  unfold Scf.trips
  have h1 : (1#32 : BitVec 32).toInt = 1 := by decide
  rw [h1]; simp

theorem ok_self (lb : BitVec 32) : Scf.OK lb lb 1#32 := by
  refine ⟨by decide, ?_⟩
  rw [trips_self]
  have h := BitVec.toInt_lt (x := lb)
  simp only [Nat.reduceSub] at *; omega

theorem divsi_one (x : BitVec 32) : Scalar.divsi x 1#32 = x := by
  have h : ¬ IntOp.SDivCorner x 1#32 := by simp [IntOp.SDivCorner]
  unfold Scalar.divsi IntOp.divsi
  rw [if_neg h]; simp

theorem t2_ub (v30 : BitVec 32) : (k0_t2_loop v30).ub = (k0_t2_loop v30).lb := by
  have h (x : BitVec 32) : Scalar.addi 0#32 x = Scalar.addi 0#32 (Scalar.muli (Scalar.divsi x 1#32) 1#32) := by
    rw [divsi_one]; simp [Scalar.muli, IntOp.muli]
  exact h _

theorem chk1_all (v30 : BitVec 32) : k0_chk1 v30 := by
  refine ⟨ok_zero_one _, ?_⟩
  show Scf.OK (k0_t2_loop v30).lb (k0_t2_loop v30).ub 1#32
  rw [t2_ub]; exact ok_self _

theorem t2_trips (v30 : BitVec 32) : (k0_t2_loop v30).trips = 0 := by
  show Scf.trips (k0_t2_loop v30).lb (k0_t2_loop v30).ub 1#32 = 0
  rw [t2_ub]; exact trips_self _

/-! ## What one grid point leaves -/

/-- The accumulator after `n` trips of the loop over the passes from rank 384 on. -/
def tails (v30 : BitVec 32) (v10 : FVec F S1024x1 .f32) (v12 : Vec F S1x1024 .f32) (H : Vec F S1024x1024 .bf16)
    (W1 W3 : Vec F S1x1024x2816 .bf16) (W2 : Vec F S1x2816x1024 .bf16) (A : Vec F S1024x1024 .f32) : ℕ → Vec F S1024x1024 .f32
  | 0 => A
  | n + 1 => if h : n < (k0_t1_loop v30).trips then passTail v30 ⟨n, h⟩ v10 v12 H W1 W3 W2 (tails v30 v10 v12 H W1 W3 W2 A n)
      else tails v30 v10 v12 H W1 W3 W2 A n

/-- The gate of each token for the grid point's expert. -/
def gateOf (i : grid0.Coords) (G : Vec F S1024x128 .f32) : FVec F S1024x1 .f32 :=
  k0_pay103 i (View.ld G (Rect.unit (s := S1024x128) ![0, 0] S1024x128.size inb_S1024x128_S1024x128_0_0))

/-- The rank of each token within the grid point's expert. -/
def rowOf (i : grid0.Coords) (K : Vec F S128x1024 .f32) : Vec F S1x1024 .f32 :=
  View.ld K (Rect.unit (s := S128x1024) (k0_off1 i) S1x1024.size (k0_off1_inb i))

/-- The accumulator after the pass over 256 ranks or the pass over 384. -/
def upto384 (v10 : FVec F S1024x1 .f32) (v12 : Vec F S1x1024 .f32) (H : Vec F S1024x1024 .bf16)
    (W1 W3 : Vec F S1x1024x2816 .bf16) (W2 : Vec F S1x2816x1024 .bf16) (A : Vec F S1024x1024 .f32) : Vec F S1024x1024 .f32 :=
  have A1 := if few v12 = 1#1 then pass256 v10 v12 H W1 W3 W2 A else A
  if many v12 = 1#1 then pass384 v10 v12 H W1 W3 W2 A1 else A1

/-- The accumulator one grid point leaves, from its gates and ranks. -/
def stepOf (i : grid0.Coords) (H : Vec F S1024x1024 .bf16) (W1 W3 : Vec F S1x1024x2816 .bf16) (W2 : Vec F S1x2816x1024 .bf16)
    (A : Vec F S1024x1024 .f32) (G : Vec F S1024x128 .f32) (K : Vec F S128x1024 .f32) : Vec F S1024x1024 .f32 :=
  tails (Scalar.fptosi 32 (k0_pay104 (rowOf i K))) (gateOf i G) (rowOf i K) H W1 W3 W2
    (upto384 (gateOf i G) (rowOf i K) H W1 W3 W2 A) (k0_t1_loop (Scalar.fptosi 32 (k0_pay104 (rowOf i K)))).trips

/-- The accumulator, the gates and the ranks after the first part of a grid point. -/
def accOf (i : grid0.Coords) (A : Vec F S1024x1024 .f32) : Vec F S1024x1024 .f32 := if visits i = 1#1 then k0_pay102 (F := F) else A
def gatesOf (i : grid0.Coords) (H : Vec F S1024x1024 .bf16) (R : Vec F S1024x128 .bf16) (G : Vec F S1024x128 .f32) : Vec F S1024x128 .f32 :=
  if visits i = 1#1 then gates H R else G
def ranksOf (i : grid0.Coords) (H : Vec F S1024x1024 .bf16) (R : Vec F S1024x128 .bf16) (K : Vec F S128x1024 .f32) : Vec F S128x1024 .f32 :=
  if visits i = 1#1 then ranks H R else K

/-! ## The runs -/

theorem pure_first {φ : Prop} {P Q : sProp 𝕄} (h : φ → P ⊢ Q) : iprop(⌜φ⌝ ∗ P) ⊢ Q :=
  Laws.pure_elim φ sep_elim_left fun hφ => sep_elim_right.trans (h hφ)

/-- All the blocks of a grid point, at their contents. -/
def All (c : Dev nD) (arg2 : Memref sig .tc .vmem S1024x1024 .bf16) (arg3 : Memref sig .tc .vmem S1024x128 .bf16) (arg4 arg5 : Memref sig .tc .vmem S1x1024x2816 .bf16) (arg6 : Memref sig .tc .vmem S1x2816x1024 .bf16)
    (arg7 : Memref sig .tc .vmem S1024x1024 .f32) (arg8 : Memref sig .tc .vmem S1024x128 .f32) (arg9 : Memref sig .tc .vmem S128x1024 .f32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) : sProp 𝕄 :=
  iprop(Blocks c arg2 arg4 arg5 arg6 arg7 H W1 W3 W2 A ∗ (owns (c : Thread nD τ) arg3 fullShare R) ∗ (owns (c : Thread nD τ) arg8 fullShare G) ∗ (owns (c : Thread nD τ) arg9 fullShare K))

theorem first_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (first (F := F) i arg2 harg2 arg3 harg3 arg4 harg4 arg5 harg5 arg6 harg6 arg7 harg7 arg8 harg8 arg9 harg9) (fun _ => All (F := F) c arg2 arg3 arg4 arg5 arg6 arg7 arg8 arg9 H R W1 W3 W2 (k0_pay102 (F := F)) (gates H R) (ranks H R)) := by
  unfold All Blocks
  iintro ⟨⟨H2, H4, H5, H6, H7⟩, H3, H8, H9⟩
  iapply (wp_wand_r frame (wpE (defs₀ (F := F)) 𝒱 (c : Thread nD τ) bd) E)
  isplitl [H2 H3 H7 H8 H9]
  · iapply (first_run (F := F) 𝒱 c bd E i arg2 harg2 arg3 harg3 arg4 harg4 arg5 harg5 arg6 harg6 arg7 harg7 arg8 harg8 arg9 harg9 H R A G K)
    isplitl [H2]; · iexact H2
    isplitl [H3]; · iexact H3
    isplitl [H7]; · iexact H7
    isplitl [H8]; · iexact H8
    iexact H9
  · iintro %_ ⟨H2, H3, H7, H8, H9⟩
    isplitl [H2 H4 H5 H6 H7]
    · isplitl [H2]; · iexact H2
      isplitl [H4]; · iexact H4
      isplitl [H5]; · iexact H5
      isplitl [H6]; · iexact H6
      iexact H7
    isplitl [H3]; · iexact H3
    isplitl [H8]; · iexact H8
    iexact H9

theorem branch256_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (branch256 (F := F) i arg2 harg2 arg3 harg3 arg4 harg4 arg5 harg5 arg6 harg6 arg7 harg7 arg8 harg8 arg9 harg9 v10 v12) (fun _ => All (F := F) c arg2 arg3 arg4 arg5 arg6 arg7 arg8 arg9 H R W1 W3 W2 (pass256 v10 v12 H W1 W3 W2 A) G K) :=
  (sep_mono (branch256_run 𝒱 c bd E i arg2 harg2 arg3 harg3 arg4 harg4 arg5 harg5 arg6 harg6 arg7 harg7 arg8 harg8 arg9 harg9 v10 v12 H W1 W3 W2 A) .rfl).trans (wp_frame_r _ _ _)

theorem branch384_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (branch384 (F := F) i arg2 harg2 arg3 harg3 arg4 harg4 arg5 harg5 arg6 harg6 arg7 harg7 arg8 harg8 arg9 harg9 v10 v12) (fun _ => All (F := F) c arg2 arg3 arg4 arg5 arg6 arg7 arg8 arg9 H R W1 W3 W2 (pass384 v10 v12 H W1 W3 W2 A) G K) :=
  (sep_mono (branch384_run 𝒱 c bd E i arg2 harg2 arg3 harg3 arg4 harg4 arg5 harg5 arg6 harg6 arg7 harg7 arg8 harg8 arg9 harg9 v10 v12 H W1 W3 W2 A) .rfl).trans (wp_frame_r _ _ _)

theorem trip_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) (v30 : BitVec 32) (k0_hw1 : k0_chk1 v30) (k : Fin (k0_t1_loop v30).trips) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (k0_t1_body (F := F) i arg2 harg2 arg3 harg3 arg4 harg4 arg5 harg5 arg6 harg6 arg7 harg7 arg8 harg8 arg9 harg9 v10 v12 v30 k0_hw1 k ()) (fun _ => All (F := F) c arg2 arg3 arg4 arg5 arg6 arg7 arg8 arg9 H R W1 W3 W2 (passTail v30 k v10 v12 H W1 W3 W2 A) G K) :=
  (sep_mono (trip_run 𝒱 c bd E i arg2 harg2 arg3 harg3 arg4 harg4 arg5 harg5 arg6 harg6 arg7 harg7 arg8 harg8 arg9 harg9 v10 v12 v30 k0_hw1 k H W1 W3 W2 A) .rfl).trans (wp_frame_r _ _ _)

theorem reads_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (G : Vec F S1024x128 .f32) (K : Vec F S128x1024 .f32) :
    (iprop((owns (c : Thread nD τ) arg8 fullShare G) ∗ (owns (c : Thread nD τ) arg9 fullShare K)) : sProp 𝕄)
      ⊢ wp frame (wpE (defs₀ (F := F)) 𝒱 (c : Thread nD τ) bd) E (reads (F := F) i arg2 harg2 arg3 harg3 arg4 harg4 arg5 harg5 arg6 harg6 arg7 harg7 arg8 harg8 arg9 harg9) (fun v => iprop(⌜k0_pay103 i v.1 = gateOf i G ∧ v.2 = rowOf i K⌝ ∗ (owns (c : Thread nD τ) arg8 fullShare G) ∗ (owns (c : Thread nD τ) arg9 fullShare K))) := by
  unfold reads owns
  iintro ⟨⟨%f8, %h8, H8⟩, ⟨%f9, %h9, H9⟩⟩
  subst h8 h9
  sl_exec
  sl_step
  isplitr
  · ipureintro; exact ⟨rfl, rfl⟩
  isplitl [H8]; · iexists _; isplitr; swap; · iexact H8
                  ipureintro; rfl
  iexists _; isplitr; swap; · iexact H9
  ipureintro; rfl

theorem reads_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (reads (F := F) i arg2 harg2 arg3 harg3 arg4 harg4 arg5 harg5 arg6 harg6 arg7 harg7 arg8 harg8 arg9 harg9) (fun v => iprop(⌜k0_pay103 i v.1 = gateOf i G ∧ v.2 = rowOf i K⌝ ∗ All (F := F) c arg2 arg3 arg4 arg5 arg6 arg7 arg8 arg9 H R W1 W3 W2 A G K)) := by
  unfold All
  iintro ⟨HB, H3, H8, H9⟩
  iapply (wp_wand_r frame (wpE (defs₀ (F := F)) 𝒱 (c : Thread nD τ) bd) E)
  isplitl [H8 H9]
  · iapply (reads_run (F := F) 𝒱 c bd E i arg2 harg2 arg3 harg3 arg4 harg4 arg5 harg5 arg6 harg6 arg7 harg7 arg8 harg8 arg9 harg9 G K)
    isplitl [H8]; · iexact H8
    iexact H9
  · iintro %v ⟨%hv, H8, H9⟩
    isplitr
    · ipureintro; exact hv
    isplitl [HB]; · iexact HB
    isplitl [H3]; · iexact H3
    isplitl [H8]; · iexact H8
    iexact H9

/-- What the body up to its loop hands on. -/
abbrev Handed := Σ' (v10 : FVec F S1024x1 .f32) (v12 : Vec F S1x1024 .f32) (v30 : BitVec 32) (k0_hw1 : k0_chk1 v30) (v33 : BitVec 32), BitVec 32

theorem owes_all (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v6 : Vec F S1024x128 .f32) (v12 : Vec F S1x1024 .f32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (owes (F := F) i v6 v12)
      (fun r => iprop(⌜∃ hw a b, r = (⟨k0_pay103 i v6, v12, Scalar.fptosi 32 (k0_pay104 v12), hw, a, b⟩ : Handed)⌝ ∗ All (F := F) c arg2 arg3 arg4 arg5 arg6 arg7 arg8 arg9 H R W1 W3 W2 A G K)) := by
  refine BIBase.Entails.trans ?_ (wp_assume 𝒱 (c : Thread nD τ) bd E (chk1_all (Scalar.fptosi 32 (k0_pay104 v12))))
  refine BIBase.Entails.trans ?_ (le_wp_ret _ _ _ _ _)
  iintro HA
  isplitr
  · ipureintro; exact ⟨_, _, _, rfl⟩
  iexact HA

/-- What `half` leaves and hands on. -/
abbrev HalfPost (c : Dev nD) (i : grid0.Coords) (arg2 : Memref sig .tc .vmem S1024x1024 .bf16) (arg3 : Memref sig .tc .vmem S1024x128 .bf16) (arg4 arg5 : Memref sig .tc .vmem S1x1024x2816 .bf16) (arg6 : Memref sig .tc .vmem S1x2816x1024 .bf16)
    (arg7 : Memref sig .tc .vmem S1024x1024 .f32) (arg8 : Memref sig .tc .vmem S1024x128 .f32) (arg9 : Memref sig .tc .vmem S128x1024 .f32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) : Handed (F := F) → sProp 𝕄 := fun r =>
  iprop(⌜∃ hw a b, r = (⟨gateOf i G, rowOf i K, Scalar.fptosi 32 (k0_pay104 (rowOf i K)), hw, a, b⟩ : Handed)⌝ ∗ All (F := F) c arg2 arg3 arg4 arg5 arg6 arg7 arg8 arg9 H R W1 W3 W2 (upto384 (gateOf i G) (rowOf i K) H W1 W3 W2 A) G K)

theorem halfReads_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (halfReads (F := F) i arg2 harg2 arg3 harg3 arg4 harg4 arg5 harg5 arg6 harg6 arg7 harg7 arg8 harg8 arg9 harg9) (HalfPost c i arg2 arg3 arg4 arg5 arg6 arg7 arg8 arg9 H R W1 W3 W2 A G K) := by
  refine Hoare.bind _ _ _ (reads_all 𝒱 c bd E i arg2 harg2 arg3 harg3 arg4 harg4 arg5 harg5 arg6 harg6 arg7 harg7 arg8 harg8 arg9 harg9 H R W1 W3 W2 A G K) ?_
  rintro ⟨v6, v12⟩
  refine pure_first ?_
  rintro ⟨hg, hr⟩
  simp only at hg hr
  subst hr
  unfold half256 half384
  dsimp only
  have last (A' : Vec F S1024x1024 .f32) : All (F := F) c arg2 arg3 arg4 arg5 arg6 arg7 arg8 arg9 H R W1 W3 W2 A' G K ⊢ wp frame (wpE (defs₀ (F := F)) 𝒱 (c : Thread nD τ) bd) E (owes (F := F) i v6 (rowOf i K))
      (fun r => iprop(⌜∃ hw a b, r = (⟨gateOf i G, rowOf i K, Scalar.fptosi 32 (k0_pay104 (rowOf i K)), hw, a, b⟩ : Handed)⌝ ∗ All (F := F) c arg2 arg3 arg4 arg5 arg6 arg7 arg8 arg9 H R W1 W3 W2 A' G K)) := by
    rw [← hg]; exact owes_all 𝒱 c bd E i arg2 harg2 arg3 harg3 arg4 harg4 arg5 harg5 arg6 harg6 arg7 harg7 arg8 harg8 arg9 harg9 v6 (rowOf i K) H R W1 W3 W2 A' G K
  rw [hg]
  unfold HalfPost upto384
  dsimp only
  by_cases h1 : few (rowOf i K) = 1#1 <;> by_cases h2 : many (rowOf i K) = 1#1
  · rw [if_pos h1, if_pos h2, if_pos h1, if_pos h2, then256_eq]
    refine Hoare.bind _ _ _ (branch256_all 𝒱 c bd E i arg2 harg2 arg3 harg3 arg4 harg4 arg5 harg5 arg6 harg6 arg7 harg7 arg8 harg8 arg9 harg9 _ _ H R W1 W3 W2 A G K) fun _ => ?_
    rw [then384_eq]
    refine Hoare.bind _ _ _ (branch384_all 𝒱 c bd E i arg2 harg2 arg3 harg3 arg4 harg4 arg5 harg5 arg6 harg6 arg7 harg7 arg8 harg8 arg9 harg9 _ _ H R W1 W3 W2 _ G K) fun _ => ?_
    exact last _
  · rw [if_pos h1, if_neg h2, if_pos h1, if_neg h2, then256_eq]
    refine Hoare.bind _ _ _ (branch256_all 𝒱 c bd E i arg2 harg2 arg3 harg3 arg4 harg4 arg5 harg5 arg6 harg6 arg7 harg7 arg8 harg8 arg9 harg9 _ _ H R W1 W3 W2 A G K) fun _ => ?_
    exact last _
  · rw [if_neg h1, if_pos h2, if_neg h1, if_pos h2, then384_eq]
    refine Hoare.bind _ _ _ (branch384_all 𝒱 c bd E i arg2 harg2 arg3 harg3 arg4 harg4 arg5 harg5 arg6 harg6 arg7 harg7 arg8 harg8 arg9 harg9 _ _ H R W1 W3 W2 _ G K) fun _ => ?_
    exact last _
  · rw [if_neg h1, if_neg h2, if_neg h1, if_neg h2]
    exact last _

theorem half_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (half (F := F) i arg2 harg2 arg3 harg3 arg4 harg4 arg5 harg5 arg6 harg6 arg7 harg7 arg8 harg8 arg9 harg9)
      (HalfPost c i arg2 arg3 arg4 arg5 arg6 arg7 arg8 arg9 H R W1 W3 W2 (accOf i A) (gatesOf i H R G) (ranksOf i H R K)) := by
  unfold half accOf gatesOf ranksOf
  by_cases h : visits i = 1#1
  · rw [dif_pos h, if_pos h, if_pos h, if_pos h, thenFirst_eq]
    exact Hoare.bind _ _ _ (first_all 𝒱 c bd E i arg2 harg2 arg3 harg3 arg4 harg4 arg5 harg5 arg6 harg6 arg7 harg7 arg8 harg8 arg9 harg9 H R W1 W3 W2 A G K) fun _ => halfReads_run 𝒱 c bd E i arg2 harg2 arg3 harg3 arg4 harg4 arg5 harg5 arg6 harg6 arg7 harg7 arg8 harg8 arg9 harg9 H R W1 W3 W2 _ _ _
  · rw [dif_neg h, if_neg h, if_neg h, if_neg h]
    exact halfReads_run 𝒱 c bd E i arg2 harg2 arg3 harg3 arg4 harg4 arg5 harg5 arg6 harg6 arg7 harg7 arg8 harg8 arg9 harg9 H R W1 W3 W2 _ _ _

theorem loop1_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) (v30 : BitVec 32) (k0_hw1 : k0_chk1 v30) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (Scf.Loop.for (k0_t1_loop v30) (k0_t1_ok v30 k0_hw1) ⟨⟩ (k0_t1_body (F := F) i arg2 harg2 arg3 harg3 arg4 harg4 arg5 harg5 arg6 harg6 arg7 harg7 arg8 harg8 arg9 harg9 v10 v12 v30 k0_hw1))
      (fun _ => All (F := F) c arg2 arg3 arg4 arg5 arg6 arg7 arg8 arg9 H R W1 W3 W2 (tails v30 v10 v12 H W1 W3 W2 A (k0_t1_loop v30).trips) G K) := by
  refine BIBase.Entails.trans ?_ (Scf.wp_for frame (wpE (defs₀ (F := F)) 𝒱 (c : Thread nD τ) bd) E _ _ _ (k0_t1_ok v30 k0_hw1) _ _
    (fun n _ => All (F := F) c arg2 arg3 arg4 arg5 arg6 arg7 arg8 arg9 H R W1 W3 W2 (tails v30 v10 v12 H W1 W3 W2 A n) G K) ?_)
  · iintro HA
    isplitl [HA]; · iexact HA
    iintro %_ HA; iexact HA
  · rintro k ⟨⟩
    have e : tails v30 v10 v12 H W1 W3 W2 A (k.val + 1) = passTail v30 k v10 v12 H W1 W3 W2 (tails v30 v10 v12 H W1 W3 W2 A k.val) := dif_pos k.isLt
    rw [e]
    exact trip_all 𝒱 c bd E i arg2 harg2 arg3 harg3 arg4 harg4 arg5 harg5 arg6 harg6 arg7 harg7 arg8 harg8 arg9 harg9 v10 v12 v30 k0_hw1 k H R W1 W3 W2 _ G K

theorem loop2_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (v10 : FVec F S1024x1 .f32) (v12 : Vec F S1x1024 .f32) (v30 : BitVec 32) (k0_hw1 : k0_chk1 v30) (v56 : BitVec 32) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (Scf.Loop.for (k0_t2_loop v30) (k0_t2_ok v30 k0_hw1) ⟨⟩ (k0_t2_body (F := F) i arg2 harg2 arg3 harg3 arg4 harg4 arg5 harg5 arg6 harg6 arg7 harg7 arg8 harg8 arg9 harg9 v10 v12 v30 k0_hw1 v56))
      (fun _ => All (F := F) c arg2 arg3 arg4 arg5 arg6 arg7 arg8 arg9 H R W1 W3 W2 A G K) := by
  refine BIBase.Entails.trans ?_ (Scf.wp_for frame (wpE (defs₀ (F := F)) 𝒱 (c : Thread nD τ) bd) E _ _ _ (k0_t2_ok v30 k0_hw1) _ _
    (fun n _ => All (F := F) c arg2 arg3 arg4 arg5 arg6 arg7 arg8 arg9 H R W1 W3 W2 A G K) ?_)
  · iintro HA
    isplitl [HA]; · iexact HA
    iintro %_ HA; iexact HA
  · intro k
    exact absurd k.isLt (by have := t2_trips v30; show ¬ k.val < (k0_t2_loop v30).trips; omega)

/-- THE BODY at a grid point. -/
theorem body_run (𝒱 : Variants) (c : Dev nD) (bd : Option 𝒱.V) (E : Set ℕ) (i : grid0.Coords) (arg2 : Memref sig .tc .vmem S1024x1024 .bf16) (harg2 : arg2.IsWhole) (arg3 : Memref sig .tc .vmem S1024x128 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S128x1024 .f32) (harg9 : arg9.IsWhole) (H : Vec F S1024x1024 .bf16) (R : Vec F S1024x128 .bf16) (W1 W3 : Vec F S1x1024x2816 .bf16) (W2 : Vec F S1x2816x1024 .bf16) (A : Vec F S1024x1024 .f32) (G : Vec F S1024x128 .f32) (K : Vec F S128x1024 .f32) :
    All (F := F) c arg2 arg3 arg4 arg5 arg6 arg7 arg8 arg9 H R W1 W3 W2 A G K ⊢ wp frame (wpE (defs₀ (F := F)) 𝒱 (c : Thread nD τ) bd) E (cc0_moe (F := F) i arg2 harg2 arg3 harg3 arg4 harg4 arg5 harg5 arg6 harg6 arg7 harg7 arg8 harg8 arg9 harg9)
      (fun _ => All (F := F) c arg2 arg3 arg4 arg5 arg6 arg7 arg8 arg9 H R W1 W3 W2 (stepOf i H W1 W3 W2 (accOf i A) (gatesOf i H R G) (ranksOf i H R K)) (gatesOf i H R G) (ranksOf i H R K)) := by
  rw [cc0_moe_eq_skeleton]
  unfold cc0_moe_skel
  rw [k0_part30_eq_skeleton, half_eq]
  refine Hoare.bind _ _ _ (half_run 𝒱 c bd E i arg2 harg2 arg3 harg3 arg4 harg4 arg5 harg5 arg6 harg6 arg7 harg7 arg8 harg8 arg9 harg9 H R W1 W3 W2 A G K) ?_
  intro r
  refine pure_first ?_
  rintro ⟨hw, a, b, rfl⟩
  refine Hoare.bind _ _ _ (loop1_run 𝒱 c bd E i arg2 harg2 arg3 harg3 arg4 harg4 arg5 harg5 arg6 harg6 arg7 harg7 arg8 harg8 arg9 harg9 _ _ _ hw H R W1 W3 W2 _ _ _) fun _ => ?_
  refine Hoare.bind _ _ _ (loop2_run 𝒱 c bd E i arg2 harg2 arg3 harg3 arg4 harg4 arg5 harg5 arg6 harg6 arg7 harg7 arg8 harg8 arg9 harg9 _ _ _ hw _ H R W1 W3 W2 _ _ _) fun _ => ?_
  exact le_wp_ret frame (wpE (defs₀ (F := F)) 𝒱 (c : Thread nD τ) bd) E PUnit.unit (fun _ => All (F := F) c arg2 arg3 arg4 arg5 arg6 arg7 arg8 arg9 H R W1 W3 W2 (stepOf i H W1 W3 W2 (accOf i A) (gatesOf i H R G) (ranksOf i H R K)) (gatesOf i H R G) (ranksOf i H R K))

end Proof.Moe

end
-- ==== Proof.Run.lean ====
module

public import proofs.«01_k».proof.Proof.BodyRun
public import proofs.«01_k».proof.Proof.Gen.KernelIdeal.Frame

/-! The run of the whole kernel: the contents of the accumulated block, the gates and the ranks after
    every grid point, and the launch. -/

@[expose] public section

set_option maxRecDepth 65536

noncomputable section

namespace Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid points leave -/

/-- The accumulated block, the gates and the ranks. -/
structure St (F : FTy → Type) [FloatOps F] where
  acc : Vec F S1024x1024 .f32
  gate : Vec F S1024x128 .f32
  rank : Vec F S128x1024 .f32

/-- One grid point's step. -/
def stepSt (i : grid0.Coords) (H : Vec F S1024x1024 .bf16) (R : Vec F S1024x128 .bf16) (W1 W3 : Vec F S1x1024x2816 .bf16) (W2 : Vec F S1x2816x1024 .bf16) (s : St F) : St F :=
  ⟨stepOf i H W1 W3 W2 (accOf i s.acc) (gatesOf i H R s.gate) (ranksOf i H R s.rank), gatesOf i H R s.gate, ranksOf i H R s.rank⟩

/-- The blocks at a grid point. -/
abbrev blkH (c : Dev nD) (t : Fin cfg0.N) : Vec F S1024x1024 .bf16 := iblk m c 0 t
abbrev blkR (c : Dev nD) (t : Fin cfg0.N) : Vec F S1024x128 .bf16 := iblk m c 1 t
abbrev blkW1 (c : Dev nD) (t : Fin cfg0.N) : Vec F S1x1024x2816 .bf16 := iblk m c 2 t
abbrev blkW3 (c : Dev nD) (t : Fin cfg0.N) : Vec F S1x1024x2816 .bf16 := iblk m c 3 t
abbrev blkW2 (c : Dev nD) (t : Fin cfg0.N) : Vec F S1x2816x1024 .bf16 := iblk m c 4 t

/-- The step of grid point `t`. -/
def stepAt (c : Dev nD) (t : Fin cfg0.N) (s : St F) : St F :=
  stepSt (grid0.coords t) (blkH m c t) (blkR m c t) (blkW1 m c t) (blkW3 m c t) (blkW2 m c t) s

/-- What the grid points before `n` leave; before the first, anything. -/
def stateAt (c : Dev nD) : ℕ → St F
  | 0 => ⟨k0_pay102, fun _ => Scalar.ofBits .f32 0x00000000#32, fun _ => Scalar.ofBits .f32 0x00000000#32⟩
  | n + 1 => if h : n < cfg0.N then stepAt m c ⟨n, h⟩ (stateAt c n) else stateAt c n

theorem stateAt_succ (c : Dev nD) (t : Fin cfg0.N) : stateAt m c (t.val + 1) = stepAt m c t (stateAt m c t.val) := by
  show (if h : t.val < cfg0.N then stepAt m c ⟨t.val, h⟩ (stateAt m c t.val) else stateAt m c t.val) = _
  rw [dif_pos t.isLt]

/-- The second coordinate of a grid point: the expert. -/
theorem coord1 (t : Fin cfg0.N) : (grid0.coords t 1).val = t.val % 8 := by
  have h := Pipeline.Grid.coords_val (G := grid0) t 1 (S := 1) (B := 8) (by decide) (by decide)
  rw [h]; omega
/-- The first coordinate: the block of tokens. -/
theorem coord0 (t : Fin cfg0.N) : (grid0.coords t 0).val = t.val / 8 := by
  have h := Pipeline.Grid.coords_val (G := grid0) t 0 (S := 8) (B := 64) (by decide) (by decide)
  have ht : t.val < 512 := by have h := t.isLt; have hN : cfg0.N = 512 := N_0; omega
  rw [h]; omega

theorem visits_zero (i : grid0.Coords) (h : (i 1).val = 0) : visits i = 1#1 := by
  show Scalar.cmpi .ne (Scalar.extui (Scalar.cmpi .eq (BitVec.ofNat 32 (i 1).val) 0#32) : BitVec 32) 0#32 = 1#1
  rw [h]; decide
theorem visits_pos (i : grid0.Coords) (h : (i 1).val ≠ 0) : visits i ≠ 1#1 := by
  show Scalar.cmpi .ne (Scalar.extui (Scalar.cmpi .eq (BitVec.ofNat 32 (i 1).val) 0#32) : BitVec 32) 0#32 ≠ 1#1
  have h8 : (i 1).val < 8 := (i 1).isLt
  have key : ∀ n < 8, n ≠ 0 → Scalar.cmpi .ne (Scalar.extui (Scalar.cmpi .eq (BitVec.ofNat 32 n) 0#32) : BitVec 32) 0#32 ≠ 1#1 := by decide
  exact key _ h8 h

/-- A first grid point of a block reads nothing of what the points before it left. -/
theorem stepAt_visit (c : Dev nD) (t : Fin cfg0.N) (h : t.val % 8 = 0) (s s' : St F) : stepAt m c t s = stepAt m c t s' := by
  have hv := visits_zero (grid0.coords t) ((coord1 t).trans h)
  unfold stepAt stepSt accOf gatesOf ranksOf
  simp only [if_pos hv]

/-! ## The proof data -/

/-- The invariant between grid points: the gates and the ranks as the last point left them. -/
def Φs (c : Dev nD) (n : ℕ) : sProp 𝕄 :=
  if n = 0 then Pipeline.ΦA spec0 c
  else iprop((owns (c : Thread nD τ) (Memref.whole cc0_scratch0) fullShare (stateAt m c n).gate ∗ owns (c : Thread nD τ) (Memref.whole cc0_scratch1) fullShare (stateAt m c n).rank) ∗ ∃ r, prngReg c r)

/-- The proof data: inputs in place, the output's block at what has been accumulated. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c (t.val + 1)).acc
  Φ t := Φs m c t.val
  q _ := fullShare
  owed _ := 0

theorem share_eq (c : Dev nD) (w : Fin cfg0.W) : (dats m 0 c).share w = fullShare := by
  unfold Dat.share; split <;> rfl

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d

theorem before5 (c : Dev nD) (t : Fin cfg0.N) (h : t.val % 8 ≠ 0) (d) : (dats m 0 c).before 5 t d = (stateAt m c t.val).acc := by
  have h0 : t.val ≠ 0 := fun h' => h (by rw [h'])
  have hfl : (cfg0.win 5).flush ⟨t.val - 1, Nat.lt_of_le_of_lt (Nat.sub_le _ _) t.isLt⟩ = false := by
    rw [Bool.eq_false_iff]; intro hf
    have := (flush0_5 _).mp hf
    simp only at this; omega
  rw [(dats m 0 c).before_out_kept 5 rfl t h0 hfl (fun _ => rfl) (fun _ _ => rfl) d]
  show (stateAt m c (t.val - 1 + 1)).acc = _
  rw [Nat.sub_add_cancel (by omega)]

/-- A step from contents that the step reads as the state. -/
theorem body_step (c : Dev nD) (t : Fin cfg0.N) (s : St F) (hs : stepAt m c t s = stateAt m c (t.val + 1)) :
    All (F := F) c (st0_0 t) (st0_1 t) (st0_2 t) (st0_3 t) (st0_4 t) (st0_5 t) (Memref.whole cc0_scratch0) (Memref.whole cc0_scratch1)
        (blkH m c t) (blkR m c t) (blkW1 m c t) (blkW3 m c t) (blkW2 m c t) s.acc s.gate s.rank
      ⊢ wp frame (wpE (defs₀ (F := F)) Variants.none (c : Thread nD τ) none) Set.univ (bodyAt0 (F := F) t)
        (fun _ => All (F := F) c (st0_0 t) (st0_1 t) (st0_2 t) (st0_3 t) (st0_4 t) (st0_5 t) (Memref.whole cc0_scratch0) (Memref.whole cc0_scratch1)
          (blkH m c t) (blkR m c t) (blkW1 m c t) (blkW3 m c t) (blkW2 m c t) (stateAt m c (t.val + 1)).acc (stateAt m c (t.val + 1)).gate (stateAt m c (t.val + 1)).rank) := by
  have h := body_run (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _)
    (blkH m c t) (blkR m c t) (blkW1 m c t) (blkW3 m c t) (blkW2 m c t) s.acc s.gate s.rank
  rw [← hs]
  exact h

theorem defs₀_row (t : Fin cfg0.N) : defs₀ (F := F) .tc cfg0.body (cfg0.bodyArgs t (cfg0.slots t)) = bodyAt0 t := by
  unfold defs₀; rw [Defs.onTc_tc]

/-- What the body is handed, whichever the point: contents that step to the next state. -/
theorem handed (c : Dev nD) (t : Fin cfg0.N) :
    iprop(Φs m c t.val ∗ (∃ d, owns (c : Thread nD τ) (st0_5 t) fullShare ((dats m 0 c).before 5 t d)))
      ⊢ (iprop((∃ s : St F, ⌜stepAt m c t s = stateAt m c (t.val + 1)⌝ ∗ owns (c : Thread nD τ) (st0_5 t) fullShare s.acc
          ∗ owns (c : Thread nD τ) (Memref.whole cc0_scratch0) fullShare s.gate ∗ owns (c : Thread nD τ) (Memref.whole cc0_scratch1) fullShare s.rank) ∗ ∃ r, prngReg c r) : sProp 𝕄) := by
  unfold Φs
  by_cases h0 : t.val = 0
  · rw [if_pos h0]
    unfold Pipeline.ΦA
    rw [scopedRest0_eq]
    iintro ⟨⟨⟨⟨%f, Hf⟩, ⟨%g, Hg⟩⟩, Hp⟩, ⟨%d, H5⟩⟩
    isplitr [Hp]; swap; · iexact Hp
    iexists (⟨(dats m 0 c).before 5 t d, f, g⟩ : St F)
    isplitr
    · ipureintro; rw [stateAt_succ]; exact stepAt_visit m c t (by omega) _ _
    isplitl [H5]; · iexact H5
    rw [owns_whole, owns_whole]
    isplitl [Hf]; · iexact Hf
    iexact Hg
  · rw [if_neg h0]
    iintro ⟨⟨⟨Hf, Hg⟩, Hp⟩, ⟨%d, H5⟩⟩
    isplitr [Hp]; swap; · iexact Hp
    iexists (⟨(dats m 0 c).before 5 t d, (stateAt m c t.val).gate, (stateAt m c t.val).rank⟩ : St F)
    isplitr
    · ipureintro; rw [stateAt_succ]
      by_cases h8 : t.val % 8 = 0
      · exact stepAt_visit m c t h8 _ _
      · rw [before5 m c t h8 d]
    isplitl [H5]; · iexact H5
    isplitl [Hf]; · iexact Hf
    iexact Hg

/-- The library's body obligation. -/
theorem body_obligation (c : Dev nD) : BodyObligation (dats m 0 c) (defs₀ (F := F)) Variants.none () Set.univ := fun t => by
  rw [bigSep_W0, bigSep_W0, defs₀_row]
  rw [show (dats m 0 c).Φ t.castSucc = Φs m c t.val from rfl, show (dats m 0 c).Φ t.succ = Φs m c (t.val + 1) from rfl,
    show (dats m 0 c).owesAt () t.succ = (dats m 0 c).owesAt () t.castSucc from rfl]
  iintro ⟨HΦ, Howes, ⟨%d0, H0⟩, ⟨%d1, H1⟩, ⟨%d2, H2⟩, ⟨%d3, H3⟩, ⟨%d4, H4⟩, H5⟩
  rw [before0 m c t d0, before1 m c t d1, before2 m c t d2, before3 m c t d3, before4 m c t d4]
  ihave HH := (handed m c t) $$ [HΦ H5]
  · isplitl [HΦ]; · iexact HΦ
    iexact H5
  icases HH with ⟨⟨%s, %hs, H5, H8, H9⟩, Hp⟩
  iapply (wp_wand_r frame (wpE (defs₀ (F := F)) Variants.none (c : Thread nD τ) none) Set.univ)
  isplitl [H0 H1 H2 H3 H4 H5 H8 H9]
  · iapply (body_step m c t s hs)
    unfold All Blocks
    isplitl [H0 H2 H3 H4 H5]
    · isplitl [H0]; · iexact H0
      isplitl [H2]; · iexact H2
      isplitl [H3]; · iexact H3
      isplitl [H4]; · iexact H4
      iexact H5
    isplitl [H1]; · iexact H1
    isplitl [H8]; · iexact H8
    iexact H9
  · iintro %r HA
    unfold All Blocks
    icases HA with ⟨⟨H0, H2, H3, H4, H5⟩, H1, H8, H9⟩
    isplitl [H8 H9 Hp]
    · unfold Φs; rw [if_neg (Nat.succ_ne_zero _)]
      isplitr [Hp]; swap; · iexact Hp
      isplitl [H8]; · iexact H8
      iexact H9
    isplitl [Howes]; · iexact Howes
    isplitl [H0]; · iexact H0
    isplitl [H1]; · iexact H1
    isplitl [H2]; · iexact H2
    isplitl [H3]; · iexact H3
    isplitl [H4]; · iexact H4
    iexact H5

/-- What the invariant says after the last point, forgotten. -/
theorem out_forgets (c : Dev nD) : (dats m 0 c).Φ (Fin.last cfg0.N) ⊢ Pipeline.ΦA spec0 c := by
  show Φs m c cfg0.N ⊢ _
  unfold Φs
  rw [if_neg (by rw [show cfg0.N = 512 from N_0]; decide)]
  unfold Pipeline.ΦA
  rw [scopedRest0_eq, owns_whole, owns_whole]
  iintro ⟨⟨Hf, Hg⟩, Hp⟩
  isplitr [Hp]; swap; · iexact Hp
  isplitl [Hf]
  · iexists _; iexact Hf
  iexists _; iexact Hg

/-! ## The launch -/

/-- What every run of the kernel ends with. -/
abbrev Ends (r : PUnit × MemSt nD τ sig (Elt F)) : Prop :=
  Pipeline.FramePost cfgs (dats m) 0 (Pipeline.afterTail₀ cfgs (dats m) 0 (V0 m) [hostOps1]) r ∧ r.2.sem = fun _ => 0

theorem run_main : θ_run defs (onTc (τ := τ) (main (F := F))) ⟨m, fun _ => 0, ρ⟩ (Ends m) :=
  Pipeline.θ_run_frame_around_track cfgs (dats m) 0 launch0 defs₀ Variants.none m ρ main
    (fun c => (body_obligation m c).loose) (share_eq m) (fun _ _ => rfl) (V0 m) [hostOps1] sfx_sub sfx_fresh sfx_keeps (hmain m Variants.none)
    (fun _ _ => rfl) (fun c => by show _ ⊢ Φs m c 0; unfold Φs; rw [if_pos rfl]) (out_forgets m)
    (Q' := Ends m) (hQ' := fun _ h => h)

end Proof.Moe

end
-- ==== Proof.Frames.lean ====
module

public import proofs.«01_k».proof.Defs
public import proofs.«01_k».proof.Proof.Gen.Kernel
public import proofs.«01_k».proof.Proof.Gen.ReferenceIdeal.Run
public import proofs.«01_k».proof.Proof.Run

/-! The frames: every program runs, its arguments end unchanged, every counter ends at zero. -/

@[expose] public section

set_option maxRecDepth 65536

noncomputable section

namespace Proof.Moe

open Idealize.ShloMosaic Idealize.ShloMosaic.TcCoe Idealize.SL.Sem

section
open Cert.KernelIdeal Cert.KernelIdeal.Gen
variable {F : FTy → Type} [FloatOps F] (m : (ℓ : Loc nD τ sig) → Buf (Elt F) ℓ)

/-- The kernel's arguments end as they began. -/
theorem Ends.args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c)⟩
end

theorem frame_kernelIdeal : Cert.quiescent_KernelIdeal := fun m ρ _ =>
  (θ_run Cert.KernelIdeal.defs _ _).mono (fun _ h => ⟨fun c => h.args m c, h.2⟩) (run_main (F := Ideal) m ρ)

/-- What the precondition's text takes. -/
instance preFacts : Cert.Pre_finite_tokens_and_router.Facts where
  bcast_S_S32x2048x1024 := Cert.ReferenceIdeal.Gen.facts.bcast_S_S32x2048x1024
  bcast_S_S1024x8 := ⟨fun a => a.elim0, fun a => a.elim0⟩

theorem frame_kernelIdeal_pre : Cert.quiescent_KernelIdeal_pre_finite_tokens_and_router := fun m ρ _ =>
  (θ_run Cert.KernelIdeal.defs _ _).mono (fun _ h => ⟨fun c => h.args m c, h.2⟩) (run_main (F := Ideal) m ρ)

/-- The two printings of the kernel run one body. -/
theorem defs₀_same : Cert.Kernel.defs₀ (F := Bits) = Cert.KernelIdeal.defs₀ (F := Bits) := by
  unfold Cert.Kernel.defs₀ Cert.KernelIdeal.defs₀
  refine congrArg Defs.onTc ?_
  funext l args
  match l, args with
  | ⟨0, _⟩, (t, s) => rfl
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [defs_same]
  exact (θ_run Cert.KernelIdeal.defs _ _).mono (fun _ h => ⟨fun c => h.args m c, h.2⟩) (run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_finite_tokens_and_router := fun m ρ _ =>
  (θ_run Cert.ReferenceIdeal.defs _ _).mono (fun r h => ⟨fun c => (h c).2, sem_eq_zero_of_no_sems (by decide) r.2⟩)
    (Cert.ReferenceIdeal.Value.run (F := Ideal) m ρ)

end Proof.Moe

end
-- ==== Proof.Fold.lean ====
module

public import proofs.«01_k».proof.Proof.Pass
public import Idealize.ShloMosaic.Lib.Pointwise
public import Idealize.ShloMosaic.Lib.MatmulPlain

/-! The three passes as one: the same operations over a block of `n` slots. -/

@[expose] public section

set_option maxRecDepth 65536

noncomputable section

namespace Proof.Moe

open Cert.KernelIdeal Cert.KernelIdeal.Gen
open Idealize.ShloMosaic Idealize.ShloMosaic.TcCoe

variable {F : FTy → Type} [FloatOps F]

/-- The shape of a table of `a` rows of `b`. -/
abbrev Tab (a b : ℕ) : Shape := ⟨2, ![a, b]⟩

/-- Columns `o` to `o + 256` of an expert's first or third matrix. -/
def colsOf (W : Vec F S1x1024x2816 .bf16) (o : ℕ) (h : ∀ i : Fin 3, (![0, 0, o] : Fin 3 → ℕ) i + S1x1024x256.size i ≤ S1x1024x2816.size i) :
    FVec F (Tab 1024 256) .bf16 :=
  shapeCast S1024x256 (View.ld W (Rect.unit (s := S1x1024x2816) ![0, 0, o] S1x1024x256.size h)) shapeCasts_S1x1024x256_S1024x256

/-- Rows `o` to `o + 256` of an expert's second matrix. -/
def rowsOf (W : Vec F S1x2816x1024 .bf16) (o : ℕ) (h : ∀ i : Fin 3, (![0, o, 0] : Fin 3 → ℕ) i + S1x256x1024.size i ≤ S1x2816x1024.size i) :
    FVec F (Tab 256 1024) .bf16 :=
  shapeCast S256x1024 (View.ld W (Rect.unit (s := S1x2816x1024) ![0, o, 0] S1x256x1024.size h)) shapeCasts_S1x256x1024_S256x1024

/-- A product of two tables onto zeros. -/
def mm {n k m : ℕ} (X : FVec F (Tab n k) .bf16) (Y : FVec F (Tab k m) .bf16) : FVec F (Tab n m) .f32 :=
  matmul (DotDims.plain n k m) none X Y (constant (Tab n m) .f32 0x00000000#32)

/-- `u / (1 + e⁻ᵘ)` times `v`. -/
def act {n : ℕ} (u v : FVec F (Tab n 256) .f32) : FVec F (Tab n 256) .bf16 :=
  truncf .bf16 (mulf (mulf u (divf (broadcast (Tab n 256) (Scalar.ofBits .f32 0x3F800000#32))
    (addf (broadcast (Tab n 256) (Scalar.ofBits .f32 0x3F800000#32)) (exp (subf (broadcast (Tab n 256) (Scalar.ofBits .f32 0x00000000#32)) u))))) v) bitsLt_bf16_f32

/-- One chunk of the gated feed-forward. -/
def part {n : ℕ} (X : FVec F (Tab n 1024) .bf16) (V1 V3 : FVec F (Tab 1024 256) .bf16) (V2 : FVec F (Tab 256 1024) .bf16) : FVec F (Tab n 1024) .f32 :=
  mm (act (mm X V1) (mm X V3)) V2

/-- The eleven chunks added up. -/
def whole {n : ℕ} (X : FVec F (Tab n 1024) .bf16) (W1 W3 : Vec F S1x1024x2816 .bf16) (W2 : Vec F S1x2816x1024 .bf16) : FVec F (Tab n 1024) .f32 :=
  addf (addf (addf (addf (addf (addf (addf (addf (addf (addf (addf (broadcast (Tab n 1024) (Scalar.ofBits .f32 0x00000000#32))
    (part X (colsOf W1 0 inb_S1x1024x2816_S1x1024x256_0_0_0) (colsOf W3 0 inb_S1x1024x2816_S1x1024x256_0_0_0) (rowsOf W2 0 inb_S1x2816x1024_S1x256x1024_0_0_0)))
    (part X (colsOf W1 256 inb_S1x1024x2816_S1x1024x256_0_0_256) (colsOf W3 256 inb_S1x1024x2816_S1x1024x256_0_0_256) (rowsOf W2 256 inb_S1x2816x1024_S1x256x1024_0_256_0)))
    (part X (colsOf W1 512 inb_S1x1024x2816_S1x1024x256_0_0_512) (colsOf W3 512 inb_S1x1024x2816_S1x1024x256_0_0_512) (rowsOf W2 512 inb_S1x2816x1024_S1x256x1024_0_512_0)))
    (part X (colsOf W1 768 inb_S1x1024x2816_S1x1024x256_0_0_768) (colsOf W3 768 inb_S1x1024x2816_S1x1024x256_0_0_768) (rowsOf W2 768 inb_S1x2816x1024_S1x256x1024_0_768_0)))
    (part X (colsOf W1 1024 inb_S1x1024x2816_S1x1024x256_0_0_1024) (colsOf W3 1024 inb_S1x1024x2816_S1x1024x256_0_0_1024) (rowsOf W2 1024 inb_S1x2816x1024_S1x256x1024_0_1024_0)))
    (part X (colsOf W1 1280 inb_S1x1024x2816_S1x1024x256_0_0_1280) (colsOf W3 1280 inb_S1x1024x2816_S1x1024x256_0_0_1280) (rowsOf W2 1280 inb_S1x2816x1024_S1x256x1024_0_1280_0)))
    (part X (colsOf W1 1536 inb_S1x1024x2816_S1x1024x256_0_0_1536) (colsOf W3 1536 inb_S1x1024x2816_S1x1024x256_0_0_1536) (rowsOf W2 1536 inb_S1x2816x1024_S1x256x1024_0_1536_0)))
    (part X (colsOf W1 1792 inb_S1x1024x2816_S1x1024x256_0_0_1792) (colsOf W3 1792 inb_S1x1024x2816_S1x1024x256_0_0_1792) (rowsOf W2 1792 inb_S1x2816x1024_S1x256x1024_0_1792_0)))
    (part X (colsOf W1 2048 inb_S1x1024x2816_S1x1024x256_0_0_2048) (colsOf W3 2048 inb_S1x1024x2816_S1x1024x256_0_0_2048) (rowsOf W2 2048 inb_S1x2816x1024_S1x256x1024_0_2048_0)))
    (part X (colsOf W1 2304 inb_S1x1024x2816_S1x1024x256_0_0_2304) (colsOf W3 2304 inb_S1x1024x2816_S1x1024x256_0_0_2304) (rowsOf W2 2304 inb_S1x2816x1024_S1x256x1024_0_2304_0)))
    (part X (colsOf W1 2560 inb_S1x1024x2816_S1x1024x256_0_0_2560) (colsOf W3 2560 inb_S1x1024x2816_S1x1024x256_0_0_2560) (rowsOf W2 2560 inb_S1x2816x1024_S1x256x1024_0_2560_0))

/-- A block read in whole. -/
abbrev rd {e : EltTy} (X : Vec F S1024x1024 e) : Vec F S1024x1024 e :=
  View.ld X (Rect.unit (s := S1024x1024) ![0, 0] S1024x1024.size inb_S1024x1024_S1024x1024_0_0)

/-- The table of which token has which slot: one where the token's rank is the slot's. -/
def hot {n : ℕ} (hi : (Tab n 1024).Iotas .tc 32 [0]) (hb : S1x1024.Broadcasts (Tab n 1024)) (s : F .f32) (K : Vec F S1x1024 .f32) : FVec F (Tab n 1024) .bf16 :=
  truncf .bf16 (select (cmpf .oeq (broadcastTo (Tab n 1024) K hb) (addf (sitofp .f32 (iota .tc (Tab n 1024) 32 [0] hi)) (broadcast (Tab n 1024) s)))
    (broadcast (Tab n 1024) (Scalar.ofBits .f32 0x3F800000#32)) (broadcast (Tab n 1024) (Scalar.ofBits .f32 0x00000000#32))) bitsLt_bf16_f32

/-- One pass: the tokens of the slots gathered, fed forward, scattered back and added in with their gates. -/
def sweep {n : ℕ} (D : DotDims (Tab n 1024) (Tab n 1024) S1024x1024) (O : FVec F (Tab n 1024) .bf16) (g : FVec F S1024x1 .f32)
    (H : Vec F S1024x1024 .bf16) (W1 W3 : Vec F S1x1024x2816 .bf16) (W2 : Vec F S1x2816x1024 .bf16) (A : Vec F S1024x1024 .f32) : Vec F S1024x1024 .f32 :=
  addf (shapeCast S1024x1024 (rd A) shapeCasts_S1024x1024_S1024x1024) (mulf (broadcastTo S1024x1024 g broadcasts_S1024x1_S1024x1024)
    (matmul D none O (truncf .bf16 (whole (truncf .bf16 (mm O (shapeCast S1024x1024 (rd H) shapeCasts_S1024x1024_S1024x1024)) bitsLt_bf16_f32) W1 W3 W2) bitsLt_bf16_f32)
      (constant S1024x1024 .f32 0x00000000#32)))

theorem pass256_eq (g : FVec F S1024x1 .f32) (K : Vec F S1x1024 .f32) (H : Vec F S1024x1024 .bf16)
    (W1 W3 : Vec F S1x1024x2816 .bf16) (W2 : Vec F S1x2816x1024 .bf16) (A : Vec F S1024x1024 .f32) :
    pass256 g K H W1 W3 W2 A = sweep (n := 256) dot_S256x1024_S256x1024_S1024x1024_0_0_1_1_n_n
      (hot iota_S256x1024_d0_w32 broadcasts_S1x1024_S256x1024 (Scalar.ofBits .f32 0x00000000#32) K) g H W1 W3 W2 A := rfl

theorem pass384_eq (g : FVec F S1024x1 .f32) (K : Vec F S1x1024 .f32) (H : Vec F S1024x1024 .bf16)
    (W1 W3 : Vec F S1x1024x2816 .bf16) (W2 : Vec F S1x2816x1024 .bf16) (A : Vec F S1024x1024 .f32) :
    pass384 g K H W1 W3 W2 A = sweep (n := 384) dot_S384x1024_S384x1024_S1024x1024_0_0_1_1_n_n
      (hot iota_S384x1024_d0_w32 broadcasts_S1x1024_S384x1024 (Scalar.ofBits .f32 0x00000000#32) K) g H W1 W3 W2 A := rfl

theorem passTail_eq (v30 : BitVec 32) (t : Fin (k0_t1_loop v30).trips) (g : FVec F S1024x1 .f32) (K : Vec F S1x1024 .f32) (H : Vec F S1024x1024 .bf16)
    (W1 W3 : Vec F S1x1024x2816 .bf16) (W2 : Vec F S1x2816x1024 .bf16) (A : Vec F S1024x1024 .f32) :
    passTail v30 t g K H W1 W3 W2 A = sweep (n := 256) dot_S256x1024_S256x1024_S1024x1024_0_0_1_1_n_n
      (hot iota_S256x1024_d0_w32 broadcasts_S1x1024_S256x1024
        (Scalar.sitofp .f32 (Scalar.addi 384#32 (Scalar.muli (Scf.iv 0#32 1#32 t) 256#32))) K) g H W1 W3 W2 A := rfl

end Proof.Moe

end
-- ==== Proof.Ffn.lean ====
module

public import proofs.«01_k».proof.Proof.Fold
public import Idealize.ShloMosaic.Lib.ValueLayout

/-! One expert's gated feed-forward of one token, and the eleven chunks as that sum. -/

@[expose] public section

set_option maxRecDepth 65536

noncomputable section

namespace Proof.Moe

open Cert.KernelIdeal Cert.KernelIdeal.Gen
open Idealize.ShloMosaic Idealize.ShloMosaic.TcCoe
open scoped BigOperators

/-- `u / (1 + e⁻ᵘ)` times `v`. -/
def swi (u v : EReal) : EReal := u * Ideal.div 1 (1 + Ideal.exp (0 - u)) * v

/-- Hidden unit `k` of a token `x`, with its weight in coordinate `j` of the result. -/
def unitOf (x : Fin 1024 → EReal) (W1 W3 : Vec Ideal S1x1024x2816 .bf16) (W2 : Vec Ideal S1x2816x1024 .bf16) (j : Fin 1024) (k : Fin 2816) : EReal :=
  swi (∑ i : Fin 1024, x i * W1 (ix3 0 i k)) (∑ i : Fin 1024, x i * W3 (ix3 0 i k)) * W2 (ix3 0 k j)

/-- Coordinate `j` of an expert's gated feed-forward of a token `x`. -/
def ffn (x : Fin 1024 → EReal) (W1 W3 : Vec Ideal S1x1024x2816 .bf16) (W2 : Vec Ideal S1x2816x1024 .bf16) (j : Fin 1024) : EReal :=
  ∑ k : Fin 2816, unitOf x W1 W3 W2 j k

theorem colsOf_apply (W : Vec Ideal S1x1024x2816 .bf16) (o : ℕ) (h) (ho : o + 256 ≤ 2816) (i : Fin 1024) (k : Fin 256) :
    colsOf W o h (ix2 i k) = W (ix3 0 i ⟨o + k.val, by omega⟩) := by
  unfold colsOf
  rw [View.ld_unit, ix2_eq_valueIdx]
  refine (ValueIdx.shapeCast_1ab_ab_apply (a := 1024) (b := 256) _ _ i k).trans ?_
  refine congrArg W (funext fun a => Fin.ext ?_)
  match a with
  | ⟨0, _⟩ => rfl
  | ⟨1, _⟩ => exact Nat.zero_add _
  | ⟨2, _⟩ => rfl

theorem rowsOf_apply (W : Vec Ideal S1x2816x1024 .bf16) (o : ℕ) (h) (ho : o + 256 ≤ 2816) (k : Fin 256) (j : Fin 1024) :
    rowsOf W o h (ix2 k j) = W (ix3 0 ⟨o + k.val, by omega⟩ j) := by
  unfold rowsOf
  rw [View.ld_unit, ix2_eq_valueIdx]
  refine (ValueIdx.shapeCast_1ab_ab_apply (a := 256) (b := 1024) _ _ k j).trans ?_
  refine congrArg W (funext fun a => Fin.ext ?_)
  match a with
  | ⟨0, _⟩ => rfl
  | ⟨1, _⟩ => rfl
  | ⟨2, _⟩ => exact Nat.zero_add _

theorem mm_apply {n k m : ℕ} (X : FVec Ideal (Tab n k) .bf16) (Y : FVec Ideal (Tab k m) .bf16) (i : Fin n) (j : Fin m) :
    mm X Y (ix2 i j) = ∑ l : Fin k, X (ix2 i l) * Y (ix2 l j) := by
  unfold mm
  simp only [ix2_eq_valueIdx]
  refine (Ideal.matmul_plain_apply none X Y _ i j).trans ?_
  have hz : (constant (Tab n m) .f32 0x00000000#32 : FVec Ideal (Tab n m) .f32) (ValueIdx.ix2 i j) = 0 := by pointwise
  rw [hz, zero_add]

theorem act_apply {n : ℕ} (u v : FVec Ideal (Tab n 256) .f32) (i : Fin n) (k : Fin 256) :
    act u v (ix2 i k) = swi (u (ix2 i k)) (v (ix2 i k)) := by
  pointwise [act]
  rfl

theorem part_apply {n : ℕ} (X : FVec Ideal (Tab n 1024) .bf16) (W1 W3 : Vec Ideal S1x1024x2816 .bf16) (W2 : Vec Ideal S1x2816x1024 .bf16)
    (o : ℕ) (h1) (h2) (ho : o + 256 ≤ 2816) (s : Fin n) (j : Fin 1024) :
    part X (colsOf W1 o h1) (colsOf W3 o h1) (rowsOf W2 o h2) (ix2 s j)
      = ∑ k : Fin 256, unitOf (fun i => X (ix2 s i)) W1 W3 W2 j ⟨o + k.val, by omega⟩ := by
  unfold part
  rw [mm_apply]
  refine Finset.sum_congr rfl fun k _ => ?_
  rw [act_apply, mm_apply, mm_apply, rowsOf_apply W2 o h2 ho]
  simp only [colsOf_apply _ o h1 ho]
  rfl

/-- A sum over 2816 as eleven sums over 256, in order. -/
theorem sum_chunks (f : Fin 2816 → EReal) :
    0 + (∑ k : Fin 256, f ⟨0 + k.val, by omega⟩) + (∑ k : Fin 256, f ⟨256 + k.val, by omega⟩) + (∑ k : Fin 256, f ⟨512 + k.val, by omega⟩)
      + (∑ k : Fin 256, f ⟨768 + k.val, by omega⟩) + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩) + (∑ k : Fin 256, f ⟨2048 + k.val, by omega⟩)
      + (∑ k : Fin 256, f ⟨2304 + k.val, by omega⟩) + (∑ k : Fin 256, f ⟨2560 + k.val, by omega⟩) = ∑ k : Fin 2816, f k := by
  let g : ℕ → EReal := fun m => if h : m < 2816 then f ⟨m, h⟩ else 0
  have hg (o : ℕ) (ho : o + 256 ≤ 2816) : ∑ k : Fin 256, f ⟨o + k.val, by omega⟩ = ∑ k ∈ Finset.range 256, g (o + k) := by
    rw [Finset.sum_range]
    refine Finset.sum_congr rfl fun k _ => ?_
    have : o + k.val < 2816 := by omega
    simp only [g, dif_pos this]
  have hf : ∑ k : Fin 2816, f k = ∑ k ∈ Finset.range 2816, g k := by
    rw [Finset.sum_range]
    refine Finset.sum_congr rfl fun k _ => ?_
    simp only [g, dif_pos k.isLt]
  have hs (o : ℕ) : ∑ k ∈ Finset.range (o + 256), g k = ∑ k ∈ Finset.range o, g k + ∑ k ∈ Finset.range 256, g (o + k) := Finset.sum_range_add _ _ _
  rw [hf, hg 0 (by omega), hg 256 (by omega), hg 512 (by omega), hg 768 (by omega), hg 1024 (by omega), hg 1280 (by omega), hg 1536 (by omega),
    hg 1792 (by omega), hg 2048 (by omega), hg 2304 (by omega), hg 2560 (by omega)]
  rw [hs 2560, hs 2304, hs 2048, hs 1792, hs 1536, hs 1280, hs 1024, hs 768, hs 512, hs 256, hs 0, Finset.sum_range_zero]

/-- The chunks together are the feed-forward of each slot's row. -/
theorem whole_apply {n : ℕ} (X : FVec Ideal (Tab n 1024) .bf16) (W1 W3 : Vec Ideal S1x1024x2816 .bf16) (W2 : Vec Ideal S1x2816x1024 .bf16)
    (s : Fin n) (j : Fin 1024) : whole X W1 W3 W2 (ix2 s j) = ffn (fun i => X (ix2 s i)) W1 W3 W2 j := by
  unfold whole ffn
  rw [← sum_chunks]
  simp only [addf_apply, Ideal.addf_def]
  rw [part_apply X W1 W3 W2 0 _ _ (by omega), part_apply X W1 W3 W2 256 _ _ (by omega), part_apply X W1 W3 W2 512 _ _ (by omega),
    part_apply X W1 W3 W2 768 _ _ (by omega), part_apply X W1 W3 W2 1024 _ _ (by omega), part_apply X W1 W3 W2 1280 _ _ (by omega),
    part_apply X W1 W3 W2 1536 _ _ (by omega), part_apply X W1 W3 W2 1792 _ _ (by omega), part_apply X W1 W3 W2 2048 _ _ (by omega),
    part_apply X W1 W3 W2 2304 _ _ (by omega), part_apply X W1 W3 W2 2560 _ _ (by omega)]
  have hz : (broadcast (Tab n 1024) (Scalar.ofBits .f32 0x00000000#32) : FVec Ideal (Tab n 1024) .f32) (ix2 s j) = 0 := by pointwise
  rw [hz]

end Proof.Moe

end
-- ==== Proof.Sweep.lean ====
module

public import proofs.«01_k».proof.Proof.Ffn

/-! What one pass adds to a token: its gate times its feed-forward where its rank is in the pass's window, and nothing elsewhere. -/

@[expose] public section

set_option maxRecDepth 65536

noncomputable section

namespace Proof.Moe

open Cert.KernelIdeal Cert.KernelIdeal.Gen
open Idealize.ShloMosaic Idealize.ShloMosaic.TcCoe
open scoped BigOperators

/-- A row of ranks holds `k`: minus one or a natural number, no two tokens with the same natural number. -/
structure Ranked (K : Vec Ideal S1x1024 .f32) (k : Fin 1024 → ℤ) : Prop where
  val : ∀ r, K (ix2 0 r) = ((k r : ℝ) : EReal)
  ge : ∀ r, -1 ≤ k r
  inj : ∀ r r', 0 ≤ k r → k r = k r' → r = r'

theorem hot_apply {n : ℕ} (hi : (Tab n 1024).Iotas .tc 32 [0]) (hb : S1x1024.Broadcasts (Tab n 1024)) {s : Ideal .f32} {st : ℕ} (hs : s = ((st : ℝ) : EReal))
    (hn : n < 2147483648) {K : Vec Ideal S1x1024 .f32} {k : Fin 1024 → ℤ} (hK : Ranked K k) (i : Fin n) (r : Fin 1024) :
    hot hi hb s K (ix2 i r) = if k r = (st : ℤ) + i.val then 1 else 0 := by
  have e : (hot hi hb s K (ix2 i r) : EReal) = if K (ix2 0 r) = (FloatOps.sitofp FTy.f32 (BitVec.ofNat 32 i.val) : Ideal .f32) + s then 1 else 0 := by
    pointwise [hot]
  have hv : (BitVec.ofNat 32 i.val).toInt = (i.val : ℤ) := by
    rw [BitVec.toInt_eq_toNat_cond, BitVec.toNat_ofNat, Nat.mod_eq_of_lt (by omega), if_pos (by omega)]
  have hw : (FloatOps.sitofp FTy.f32 (BitVec.ofNat 32 i.val) : Ideal .f32) = (((i.val : ℤ) : ℝ) : EReal) := by
    rw [← hv]; rfl
  rw [e, hK.val, hw, hs]
  have : (((k r : ℝ) : EReal) = (((i.val : ℤ) : ℝ) : EReal) + ((st : ℝ) : EReal)) ↔ k r = (st : ℤ) + i.val := by
    rw [← EReal.coe_add, EReal.coe_eq_coe_iff]
    constructor
    · intro h; have : ((k r : ℤ) : ℝ) = (((i.val : ℤ) + (st : ℤ) : ℤ) : ℝ) := by push_cast; push_cast at h; exact h
      have := Int.cast_injective this; omega
    · intro h; rw [h]; push_cast; ring
  by_cases h : k r = (st : ℤ) + i.val
  · rw [if_pos h, if_pos (this.2 h)]
  · rw [if_neg h, if_neg (fun h' => h (this.1 h'))]

theorem rd_eq {e : EltTy} (X : Vec Ideal S1024x1024 e) : rd X = X :=
  View.ld_unit_zero (S := S1024x1024) (by funext a; match a with | ⟨0, _⟩ => rfl | ⟨1, _⟩ => rfl) _ X

theorem sweep256_apply (O : FVec Ideal (Tab 256 1024) .bf16) (g : FVec Ideal S1024x1 .f32)
    (H : Vec Ideal S1024x1024 .bf16) (W1 W3 : Vec Ideal S1x1024x2816 .bf16) (W2 : Vec Ideal S1x2816x1024 .bf16) (A : Vec Ideal S1024x1024 .f32) (r j : Fin 1024) :
    sweep dot_S256x1024_S256x1024_S1024x1024_0_0_1_1_n_n O g H W1 W3 W2 A (ix2 r j)
      = A (ix2 r j) + g (ix2 r 0) * ∑ s : Fin 256, O (ix2 s r) * ffn (fun i => ∑ l : Fin 1024, O (ix2 s l) * H (ix2 l i)) W1 W3 W2 j := by
  unfold sweep
  rw [rd_eq, rd_eq]
  pointwise
  refine congrArg (A (ix2 r j) + g (ix2 r 0) * ·) (Finset.sum_congr rfl fun s _ => ?_)
  rw [whole_apply]
  refine congrArg (fun x => O (ix2 s r) * ffn x W1 W3 W2 j) (funext fun i => ?_)
  exact mm_apply O H s i

theorem sweep384_apply (O : FVec Ideal (Tab 384 1024) .bf16) (g : FVec Ideal S1024x1 .f32)
    (H : Vec Ideal S1024x1024 .bf16) (W1 W3 : Vec Ideal S1x1024x2816 .bf16) (W2 : Vec Ideal S1x2816x1024 .bf16) (A : Vec Ideal S1024x1024 .f32) (r j : Fin 1024) :
    sweep dot_S384x1024_S384x1024_S1024x1024_0_0_1_1_n_n O g H W1 W3 W2 A (ix2 r j)
      = A (ix2 r j) + g (ix2 r 0) * ∑ s : Fin 384, O (ix2 s r) * ffn (fun i => ∑ l : Fin 1024, O (ix2 s l) * H (ix2 l i)) W1 W3 W2 j := by
  unfold sweep
  rw [rd_eq, rd_eq]
  pointwise
  refine congrArg (A (ix2 r j) + g (ix2 r 0) * ·) (Finset.sum_congr rfl fun s _ => ?_)
  rw [whole_apply]
  refine congrArg (fun x => O (ix2 s r) * ffn x W1 W3 W2 j) (funext fun i => ?_)
  exact mm_apply O H s i

/-- Gathering by rank, feeding forward and scattering back is the feed-forward of the token itself, where its rank is in the window. -/
theorem gather_scatter {n : ℕ} {k : Fin 1024 → ℤ} (inj : ∀ r r', 0 ≤ k r → k r = k r' → r = r') (st : ℕ) (O : Fin n → Fin 1024 → EReal)
    (hO : ∀ i r, O i r = if k r = (st : ℤ) + i.val then 1 else 0) (H : Fin 1024 → Fin 1024 → EReal) (f : (Fin 1024 → EReal) → EReal) (r : Fin 1024) :
    ∑ s : Fin n, O s r * f (fun i => ∑ l : Fin 1024, O s l * H l i) = if (st : ℤ) ≤ k r ∧ k r < (st : ℤ) + n then f (H r) else 0 := by
  by_cases h : (st : ℤ) ≤ k r ∧ k r < (st : ℤ) + n
  · rw [if_pos h]
    let s0 : Fin n := ⟨(k r - st).toNat, by omega⟩
    have hs0 : k r = (st : ℤ) + s0.val := by show k r = (st : ℤ) + ((k r - st).toNat : ℤ); omega
    rw [Finset.sum_eq_single s0 ?_ (fun h => absurd (Finset.mem_univ _) h)]
    · rw [hO, if_pos hs0, one_mul]
      refine congrArg f (funext fun i => ?_)
      rw [Finset.sum_eq_single r ?_ (fun h => absurd (Finset.mem_univ _) h)]
      · rw [hO, if_pos hs0, one_mul]
      · intro l _ hl
        rw [hO, if_neg (fun e => hl (inj l r (by omega) (by omega))), zero_mul]
    · intro s _ hs
      rw [hO, if_neg (fun e => hs (Fin.ext (by omega))), zero_mul]
  · rw [if_neg h]
    refine Finset.sum_eq_zero fun s _ => ?_
    have := s.isLt
    rw [hO, if_neg (fun e => h (by omega)), zero_mul]

/-- What a pass over the ranks from `st` on, `n` of them, leaves at a token and a coordinate. -/
def swept (n st : ℕ) (k : Fin 1024 → ℤ) (g : FVec Ideal S1024x1 .f32) (H : Vec Ideal S1024x1024 .bf16) (W1 W3 : Vec Ideal S1x1024x2816 .bf16)
    (W2 : Vec Ideal S1x2816x1024 .bf16) (A : Vec Ideal S1024x1024 .f32) (r j : Fin 1024) : EReal :=
  A (ix2 r j) + g (ix2 r 0) * (if (st : ℤ) ≤ k r ∧ k r < (st : ℤ) + n then ffn (fun i => H (ix2 r i)) W1 W3 W2 j else 0)

theorem ofBits_zero : (Scalar.ofBits .f32 0x00000000#32 : Ideal .f32) = (((0 : ℕ) : ℝ) : EReal) := by
  rw [Nat.cast_zero, EReal.coe_zero]; exact Ideal.ofBits_zero .f32

section
variable {K : Vec Ideal S1x1024 .f32} {k : Fin 1024 → ℤ} (hK : Ranked K k) (g : FVec Ideal S1024x1 .f32) (H : Vec Ideal S1024x1024 .bf16)
  (W1 W3 : Vec Ideal S1x1024x2816 .bf16) (W2 : Vec Ideal S1x2816x1024 .bf16) (A : Vec Ideal S1024x1024 .f32) (r j : Fin 1024)
include hK

theorem pass256_apply : pass256 g K H W1 W3 W2 A (ix2 r j) = swept 256 0 k g H W1 W3 W2 A r j := by
  rw [pass256_eq, sweep256_apply]
  refine congrArg (A (ix2 r j) + g (ix2 r 0) * ·) ?_
  exact gather_scatter (n := 256) hK.inj 0 (fun s l => hot iota_S256x1024_d0_w32 broadcasts_S1x1024_S256x1024 (Scalar.ofBits .f32 0x00000000#32) K (ix2 s l))
    (fun i l => hot_apply _ _ ofBits_zero (by omega) hK i l) (fun l i => H (ix2 l i)) (fun x => ffn x W1 W3 W2 j) r

theorem pass384_apply : pass384 g K H W1 W3 W2 A (ix2 r j) = swept 384 0 k g H W1 W3 W2 A r j := by
  rw [pass384_eq, sweep384_apply]
  refine congrArg (A (ix2 r j) + g (ix2 r 0) * ·) ?_
  exact gather_scatter (n := 384) hK.inj 0 (fun s l => hot iota_S384x1024_d0_w32 broadcasts_S1x1024_S384x1024 (Scalar.ofBits .f32 0x00000000#32) K (ix2 s l))
    (fun i l => hot_apply _ _ ofBits_zero (by omega) hK i l) (fun l i => H (ix2 l i)) (fun x => ffn x W1 W3 W2 j) r

theorem passTail_apply (v30 : BitVec 32) (t : Fin (k0_t1_loop v30).trips) {st : ℕ}
    (hs : (Scalar.addi 384#32 (Scalar.muli (Scf.iv 0#32 1#32 t) 256#32)).toInt = (st : ℤ)) :
    passTail v30 t g K H W1 W3 W2 A (ix2 r j) = swept 256 st k g H W1 W3 W2 A r j := by
  rw [passTail_eq, sweep256_apply]
  refine congrArg (A (ix2 r j) + g (ix2 r 0) * ·) ?_
  have hs' : (Scalar.sitofp .f32 (Scalar.addi 384#32 (Scalar.muli (Scf.iv 0#32 1#32 t) 256#32)) : Ideal .f32) = ((st : ℝ) : EReal) := by
    rw [Ideal.scalar_sitofp_def, hs]; push_cast; rfl
  exact gather_scatter (n := 256) hK.inj st (fun s l => hot iota_S256x1024_d0_w32 broadcasts_S1x1024_S256x1024
      (Scalar.sitofp .f32 (Scalar.addi 384#32 (Scalar.muli (Scf.iv 0#32 1#32 t) 256#32))) K (ix2 s l))
    (fun i l => hot_apply _ _ hs' (by omega) hK i l) (fun l i => H (ix2 l i)) (fun x => ffn x W1 W3 W2 j) r

end

end Proof.Moe

end
-- ==== Proof.Step.lean ====
module

public import proofs.«01_k».proof.Proof.Sweep
public import proofs.«01_k».proof.Proof.BodyRun

/-! What one expert's visit adds to a token, whichever passes the count of its tokens calls for. -/

@[expose] public section

set_option maxRecDepth 65536

noncomputable section

namespace Proof.Moe

open Cert.KernelIdeal Cert.KernelIdeal.Gen
open Idealize.ShloMosaic Idealize.ShloMosaic.TcCoe
open scoped BigOperators

/-- How many tokens have a rank. -/
def howMany (k : Fin 1024 → ℤ) : ℕ := (Finset.univ.filter fun r => 0 ≤ k r).card

theorem howMany_le (k : Fin 1024 → ℤ) : howMany k ≤ 1024 :=
  (Finset.card_le_univ _).trans (by rw [Fintype.card_fin])

theorem count_apply {K : Vec Ideal S1x1024 .f32} {k : Fin 1024 → ℤ} (hK : Ranked K k) : k0_pay104 K = (((howMany k : ℕ) : ℝ) : EReal) := by
  have e : (k0_pay104 K : EReal) = ∑ x : Fin 1, ∑ x : Fin 1024, if 0 ≤ (K (ix2 0 x) : EReal) then 1 else 0 := by
    pointwise [k0_pay104]
  rw [e, Fin.sum_univ_one]
  have hk (x : Fin 1024) : (0 ≤ (K (ix2 0 x) : EReal)) ↔ 0 ≤ k x := by
    rw [hK.val, ← EReal.coe_zero, EReal.coe_le_coe_iff]; exact Int.cast_nonneg_iff
  simp only [hk]
  unfold howMany
  rw [Finset.sum_boole]; rfl

theorem fptosi_nat (n : ℕ) (hn : n ≤ 1024) : Scalar.fptosi (F := Ideal) (φ := .f32) 32 ((n : ℝ) : EReal) = BitVec.ofNat 32 n := by
  rw [Ideal.scalar_fptosi_def]
  unfold Ideal.fptosi
  have : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = (n : ℤ)
    rw [if_pos (Nat.cast_nonneg n), Int.floor_natCast]
    norm_num
    omega
  rw [this]
  exact BitVec.ofInt_natCast 32 n

theorem trips_fit : ∀ n : Fin 1025, n.val ≤ 384 + 256 * (k0_t1_loop (BitVec.ofNat 32 n.val)).trips ∧ (k0_t1_loop (BitVec.ofNat 32 n.val)).trips ≤ 3 := by
  decide +kernel

theorem starts : ∀ t : Fin 4, (Scalar.addi 384#32 (Scalar.muli (Scf.iv 0#32 1#32 t.val) 256#32)).toInt = ((384 + 256 * t.val : ℕ) : ℤ) := by
  decide +kernel

theorem bit_ne (b : Bool) : (Scalar.cmpi .ne (Scalar.extui (BitVec.ofBool b) : BitVec 32) 0#32 = 1#1) ↔ b = true := by
  cases b <;> decide

theorem ofBits_256 : (Ideal.ofBits .f32 0x43800000#32 : EReal) = (((256 : ℕ) : ℝ) : EReal) := by
  simp [Ideal.ofBits, Ideal.ieee, -EReal.coe_mul]; norm_num

theorem few_iff {K : Vec Ideal S1x1024 .f32} {k : Fin 1024 → ℤ} (hK : Ranked K k) : few K = 1#1 ↔ (0 < howMany k ∧ howMany k ≤ 256) := by
  have e : few K = Scalar.cmpi .ne (Scalar.extui (BitVec.ofBool (decide ((0 : EReal) < k0_pay104 K) && decide ((k0_pay104 K : EReal) ≤ Ideal.ofBits FTy.f32 1132462080#32))) : BitVec 32) 0#32 := by
    rw [← BitVec.ofBool_and_ofBool]
    unfold few
    pointwise
    rfl
  rw [e, bit_ne, count_apply hK, ofBits_256, Bool.and_eq_true, decide_eq_true_iff, decide_eq_true_iff, ← EReal.coe_zero, EReal.coe_lt_coe_iff, EReal.coe_le_coe_iff,
    Nat.cast_pos, Nat.cast_le]

theorem many_iff {K : Vec Ideal S1x1024 .f32} {k : Fin 1024 → ℤ} (hK : Ranked K k) : many K = 1#1 ↔ 256 < howMany k := by
  have e : many K = Scalar.cmpi .ne (Scalar.extui (BitVec.ofBool (decide ((Ideal.ofBits FTy.f32 1132462080#32 : EReal) < k0_pay104 K))) : BitVec 32) 0#32 := by
    unfold many
    pointwise
  rw [e, bit_ne, count_apply hK, ofBits_256, decide_eq_true_iff, EReal.coe_lt_coe_iff, Nat.cast_lt]

section
variable {K : Vec Ideal S1x1024 .f32} {k : Fin 1024 → ℤ} (hK : Ranked K k) (g : FVec Ideal S1024x1 .f32) (H : Vec Ideal S1024x1024 .bf16)
  (W1 W3 : Vec Ideal S1x1024x2816 .bf16) (W2 : Vec Ideal S1x2816x1024 .bf16) (A : Vec Ideal S1024x1024 .f32) (r j : Fin 1024)

/-- What the passes up to rank `m` leave at a token and a coordinate. -/
def upTo (m : ℕ) (k : Fin 1024 → ℤ) (g : FVec Ideal S1024x1 .f32) (H : Vec Ideal S1024x1024 .bf16)
    (W1 W3 : Vec Ideal S1x1024x2816 .bf16) (W2 : Vec Ideal S1x2816x1024 .bf16) (A : Vec Ideal S1024x1024 .f32) (r j : Fin 1024) : EReal :=
  A (ix2 r j) + g (ix2 r 0) * (if 0 ≤ k r ∧ k r < (m : ℤ) then ffn (fun i => H (ix2 r i)) W1 W3 W2 j else 0)

theorem upTo_congr {m m' : ℕ} (h : 0 ≤ k r → (k r < m ↔ k r < m')) : upTo m k g H W1 W3 W2 A r j = upTo m' k g H W1 W3 W2 A r j := by
  unfold upTo
  have : (0 ≤ k r ∧ k r < (m : ℤ)) ↔ (0 ≤ k r ∧ k r < (m' : ℤ)) := and_congr_right h
  simp only [this]

include hK

theorem upto384_apply (hlt : ∀ r, k r < howMany k) : ∃ m : ℕ, (∀ r, k r < 384 → k r < m) ∧ m ≤ 384 ∧ ∀ r j, upto384 g K H W1 W3 W2 A (ix2 r j) = upTo m k g H W1 W3 W2 A r j := by
  unfold upto384
  by_cases h : howMany k ≤ 256
  · have hm : ¬ many K = 1#1 := fun e => by have := (many_iff hK).1 e; omega
    by_cases h0 : 0 < howMany k
    · refine ⟨256, fun r _ => by have := hlt r; omega, by omega, fun r j => ?_⟩
      simp only [if_neg hm, if_pos ((few_iff hK).2 ⟨h0, h⟩)]
      rw [pass256_apply hK]; unfold swept upTo; simp
    · have hf : ¬ few K = 1#1 := fun e => by have := (few_iff hK).1 e; omega
      refine ⟨0, fun r _ => by have := hlt r; omega, by omega, fun r j => ?_⟩
      simp only [if_neg hm, if_neg hf]
      unfold upTo
      rw [if_neg (by omega), mul_zero, add_zero]
  · have hf : ¬ few K = 1#1 := fun e => by have := (few_iff hK).1 e; omega
    refine ⟨384, fun r h => h, le_refl _, fun r j => ?_⟩
    simp only [if_pos ((many_iff hK).2 (by omega)), if_neg hf]
    rw [pass384_apply hK]; unfold swept upTo; simp

theorem tails_apply (v30 : BitVec 32) (ht : (k0_t1_loop v30).trips ≤ 3) {m0 : ℕ} (hm0 : ∀ r, k r < 384 → k r < m0) (hm : m0 ≤ 384)
    {B : Vec Ideal S1024x1024 .f32} (hB : ∀ r j, B (ix2 r j) = upTo m0 k g H W1 W3 W2 A r j) :
    ∀ n, n ≤ (k0_t1_loop v30).trips → ∀ r j, tails v30 g K H W1 W3 W2 B n (ix2 r j) = upTo (384 + 256 * n) k g H W1 W3 W2 A r j
  | 0, _, r, j => by
    show B (ix2 r j) = _
    rw [hB]
    exact upTo_congr g H W1 W3 W2 A r j (fun _ => by have := hm0 r; constructor <;> intro <;> omega)
  | n + 1, hn, r, j => by
    have h : n < (k0_t1_loop v30).trips := hn
    show (if h : n < (k0_t1_loop v30).trips then passTail v30 ⟨n, h⟩ g K H W1 W3 W2 (tails v30 g K H W1 W3 W2 B n) else tails v30 g K H W1 W3 W2 B n) (ix2 r j) = _
    rw [dif_pos h, passTail_apply hK g H W1 W3 W2 _ r j v30 ⟨n, h⟩ (starts ⟨n, by omega⟩)]
    unfold swept
    rw [tails_apply v30 ht hm0 hm hB n (by omega) r j]
    unfold upTo
    by_cases h1 : 0 ≤ k r ∧ k r < ((384 + 256 * n : ℕ) : ℤ)
    · have h2 : ¬ (((384 + 256 * n : ℕ) : ℤ) ≤ k r ∧ k r < ((384 + 256 * n : ℕ) : ℤ) + (256 : ℕ)) := by omega
      have h3 : 0 ≤ k r ∧ k r < ((384 + 256 * (n + 1) : ℕ) : ℤ) := by omega
      rw [if_pos h1, if_neg h2, if_pos h3, mul_zero, add_zero]
    · rw [if_neg h1, mul_zero, add_zero]
      refine congrArg (A (ix2 r j) + g (ix2 r 0) * ·) ?_
      have : (((384 + 256 * n : ℕ) : ℤ) ≤ k r ∧ k r < ((384 + 256 * n : ℕ) : ℤ) + (256 : ℕ)) ↔ (0 ≤ k r ∧ k r < ((384 + 256 * (n + 1) : ℕ) : ℤ)) := by omega
      simp only [this]

end

/-- A grid point leaves in each token what it held plus, where the token has a rank, its gate times its feed-forward. -/
theorem stepOf_apply (i : grid0.Coords) (H : Vec Ideal S1024x1024 .bf16) (W1 W3 : Vec Ideal S1x1024x2816 .bf16) (W2 : Vec Ideal S1x2816x1024 .bf16)
    (A : Vec Ideal S1024x1024 .f32) (G : Vec Ideal S1024x128 .f32) (K : Vec Ideal S128x1024 .f32) {k : Fin 1024 → ℤ}
    (hK : Ranked (rowOf i K) k) (hlt : ∀ r, k r < howMany k) (r j : Fin 1024) :
    stepOf i H W1 W3 W2 A G K (ix2 r j)
      = A (ix2 r j) + gateOf i G (ix2 r 0) * (if 0 ≤ k r then ffn (fun i => H (ix2 r i)) W1 W3 W2 j else 0) := by
  unfold stepOf
  have hv : Scalar.fptosi 32 (k0_pay104 (rowOf i K)) = BitVec.ofNat 32 (howMany k) := by
    rw [count_apply hK]; exact fptosi_nat _ (howMany_le k)
  rw [hv]
  obtain ⟨m, h1, h2, h3⟩ := upto384_apply hK (gateOf i G) H W1 W3 W2 A hlt
  have hN := howMany_le k
  have ht := trips_fit ⟨howMany k, by omega⟩
  rw [tails_apply hK (gateOf i G) H W1 W3 W2 A (BitVec.ofNat 32 (howMany k)) ht.2 h1 h2 h3 _ (le_refl _) r j]
  unfold upTo
  have h4 := ht.1
  have h5 := hlt r
  have : (0 ≤ k r ∧ k r < ((384 + 256 * (k0_t1_loop (BitVec.ofNat 32 (howMany k))).trips : ℕ) : ℤ)) ↔ 0 ≤ k r := by
    refine ⟨fun h => h.1, fun h => ⟨h, ?_⟩⟩
    simp only at h4
    omega
  simp only [this]

end Proof.Moe

end
-- ==== Proof.TopTwo.lean ====
module

public import proofs.«01_k».proof.Proof.Step
public import Idealize.ShloMosaic.Lib.SortFacts

/-!
# The two experts of a token

A token's eight logits pick two experts: the largest logit, the lower index on a tie, and the largest of the rest by
the same rule. `best` and `next` are the first two places of the stable descending sort; `beats_best` and `beats_next`
say what is used of them. `weight` is the gate an expert gets: the softmax of the two logits at the two experts, zero
elsewhere.
-/

@[expose] public section
set_option maxRecDepth 65536
noncomputable section
namespace Proof.Moe
open Cert.KernelIdeal Cert.KernelIdeal.Gen
open Idealize.ShloMosaic Idealize.ShloMosaic.TcCoe
open scoped BigOperators

/-- `i` comes before `j` in descending order, the lower index first on a tie. -/
def Beats {n : ℕ} (L : Fin n → EReal) (i j : Fin n) : Prop := L j ≤ L i ∧ (j < i → L j < L i)

/-- Inserting a place below all of a sorted list keeps the list sorted. -/
theorem beats_insert {n : ℕ} (L : Fin n → EReal) (B : Fin n → Fin n → Bool) (hB : ∀ b c, B b c = true ↔ L c < L b)
    (a : Fin n) (l : List (Fin n)) (hl : l.Pairwise (Beats L)) (ha : ∀ b ∈ l, a < b) :
    (insertBefore B a l).Pairwise (Beats L) := by
  induction l with
  | nil => exact List.pairwise_singleton _ _
  | cons b l ih =>
    have hb := List.pairwise_cons.mp hl
    unfold insertBefore
    split
    · rename_i h
      have hlt := (hB b a).mp h
      refine List.pairwise_cons.mpr ⟨fun c hc => ?_, ih hb.2 fun c hc => ha c (List.mem_cons_of_mem _ hc)⟩
      rcases List.mem_cons.mp ((perm_insertBefore B a l).mem_iff.mp hc) with rfl | hc'
      · exact ⟨hlt.le, fun _ => hlt⟩
      · exact hb.1 c hc'
    · rename_i h
      have hle : L b ≤ L a := not_lt.mp fun hlt => h ((hB b a).mpr hlt)
      refine List.pairwise_cons.mpr ⟨fun c hc => ⟨?_, fun hca => absurd (ha c hc) (not_lt.mpr hca.le)⟩, hl⟩
      rcases List.mem_cons.mp hc with rfl | hc'
      · exact hle
      · exact (hb.1 c hc').1.trans hle

/-- The stable sort of an increasing list of places puts each before all that it beats. -/
theorem beats_sort {n : ℕ} (L : Fin n → EReal) (B : Fin n → Fin n → Bool) (hB : ∀ b c, B b c = true ↔ L c < L b)
    (l : List (Fin n)) (hl : l.Pairwise (· < ·)) : (stableSort B l).Pairwise (Beats L) := by
  induction l with
  | nil => exact List.Pairwise.nil
  | cons a l ih =>
    have ha := List.pairwise_cons.mp hl
    unfold stableSort
    exact beats_insert L B hB a _ (ih ha.2) fun b hb => ha.1 b ((perm_stableSort B l).mem_iff.mp hb)

/-- The descending order of the logits, as a test. -/
def above {n : ℕ} (L : Fin n → EReal) (k k' : Fin n) : Bool := FloatOps.cmpfTotal (F := Ideal) (φ := .f32) .gt (L k) (L k') == 1#1

theorem above_iff {n : ℕ} (L : Fin n → EReal) (b c : Fin n) : above L b c = true ↔ L c < L b := by
  unfold above
  show (Ideal.cmp .ogt (L b) (L c) == 1#1) = true ↔ _
  unfold Ideal.cmp
  by_cases h : L c < L b <;> simp [h]

/-- An earlier place of the sorted order beats a later one. -/
theorem beats_sorted {n : ℕ} (L : Fin n → EReal) (i j : Fin n) (hij : i < j) :
    Beats L (sortedFrom (above L) i) (sortedFrom (above L) j) := by
  have hp := List.pairwise_iff_get.mp (beats_sort L (above L) (above_iff L) (List.finRange n) (List.pairwise_lt_finRange n))
  exact hp _ _ (Fin.lt_def.mpr (Fin.lt_def.mp hij))

/-- The token's first expert. -/
def best (L : Fin 8 → EReal) : Fin 8 := sortedFrom (above L) 0
/-- The token's second expert. -/
def next (L : Fin 8 → EReal) : Fin 8 := sortedFrom (above L) 1

theorem next_ne_best (L : Fin 8 → EReal) : next L ≠ best L := fun h =>
  absurd (sortedFrom_injective (above L) h) (by decide)

theorem beats_best (L : Fin 8 → EReal) (j : Fin 8) (hj : j ≠ best L) : Beats L (best L) j := by
  obtain ⟨k, rfl⟩ := sortedFrom_surjective (above L) j
  refine beats_sorted L 0 k (Fin.pos_iff_ne_zero.mpr fun hk => hj ?_)
  rw [hk]; rfl

theorem beats_next (L : Fin 8 → EReal) (j : Fin 8) (hj : j ≠ best L) (hj' : j ≠ next L) : Beats L (next L) j := by
  obtain ⟨k, rfl⟩ := sortedFrom_surjective (above L) j
  have h0 : k ≠ 0 := fun hk => hj (by rw [hk]; rfl)
  have h1 : k ≠ 1 := fun hk => hj' (by rw [hk]; rfl)
  refine beats_sorted L 1 k ?_
  have h0' : k.val ≠ 0 := fun h => h0 (Fin.ext h)
  have h1' : k.val ≠ 1 := fun h => h1 (Fin.ext h)
  exact Fin.lt_def.mpr (by show 1 < k.val; omega)

/-- The gate of expert `l`: the softmax of the two picked logits, zero at the other experts. -/
def weight (L : Fin 8 → EReal) (l : Fin 8) : EReal :=
  if l = best L then Ideal.div 1 (1 + Ideal.exp (L (next L) - L (best L)))
  else if l = next L then
    Ideal.exp (L (next L) - L (best L)) * Ideal.div 1 (1 + Ideal.exp (L (next L) - L (best L)))
  else 0

/-- Expert `l` is one of the token's two. -/
def Picked (L : Fin 8 → EReal) (l : Fin 8) : Prop := l = best L ∨ l = next L

instance (L : Fin 8 → EReal) (l : Fin 8) : Decidable (Picked L l) := by unfold Picked; infer_instance

theorem weight_eq_zero (L : Fin 8 → EReal) (l : Fin 8) (h : ¬ Picked L l) : weight L l = 0 := by
  unfold weight
  rw [if_neg fun e => h (Or.inl e), if_neg fun e => h (Or.inr e)]

end Proof.Moe
end
-- ==== Proof.Router.lean ====
module

public import proofs.«01_k».proof.Proof.TopTwo

/-!
# The kernel's router

The kernel finds a token's two experts by a maximum over the lanes, the smallest lane that attains it, and the same
again with that lane masked. Here its two lanes are `best` and `next` of the token's logits, its gates are `weight`,
and its ranks count, within each expert, the tokens before.
-/

@[expose] public section
set_option maxRecDepth 65536
noncomputable section
namespace Proof.Moe
open Cert.KernelIdeal Cert.KernelIdeal.Gen
open Idealize.ShloMosaic Idealize.ShloMosaic.TcCoe
open scoped BigOperators

/-- The lane of an expert. -/
def lane (l : Fin 8) : Fin 128 := ⟨l.val, Nat.lt_of_lt_of_le l.isLt (by decide)⟩

theorem lane_inj {a b : Fin 8} : lane a = lane b ↔ a = b :=
  ⟨fun h => Fin.ext (Fin.mk.inj h), fun h => by rw [h]⟩

/-! ## Folds over the lanes -/

theorem fold_max_attained {n : ℕ} (f : Fin n → EReal) (a : Fin n) (h : ∀ x, f x ≤ f a) : Finset.fold max (⊥ : EReal) f Finset.univ = f a := by
  refine le_antisymm ?_ ?_
  · exact Finset.fold_max_le _ |>.mpr ⟨bot_le, fun x _ => h x⟩
  · exact Finset.le_fold_max _ |>.mpr (Or.inr ⟨a, Finset.mem_univ _, le_rfl⟩)

theorem minsi_left {x y : BitVec 32} (h : x.toInt ≤ y.toInt) : IntOp.minsi x y = x := by
  unfold IntOp.minsi
  split
  · rfl
  · rename_i hn
    rw [BitVec.slt_iff_toInt_lt] at hn
    exact BitVec.eq_of_toInt_eq (by omega)

theorem minsi_right {x y : BitVec 32} (h : y.toInt ≤ x.toInt) : IntOp.minsi x y = y := by
  unfold IntOp.minsi
  rw [if_neg]
  rw [BitVec.slt_iff_toInt_lt]; omega

theorem fold_min_attained {n : ℕ} (g : Fin n → BitVec 32) (a : Fin n) (h : ∀ x, (g a).toInt ≤ (g x).toInt) (hb : (g a).toInt ≤ (2147483647#32).toInt) :
    Finset.fold IntOp.minsi 2147483647#32 g Finset.univ = g a := by
  have lo (s : Finset (Fin n)) : (g a).toInt ≤ (Finset.fold IntOp.minsi 2147483647#32 g s).toInt := by
    induction s using Finset.induction_on with
    | empty => exact hb
    | insert x s hx ih =>
      rw [Finset.fold_insert hx]
      unfold IntOp.minsi
      split
      · exact h x
      · exact ih
  have hit (s : Finset (Fin n)) : a ∈ s → Finset.fold IntOp.minsi 2147483647#32 g s = g a := by
    induction s using Finset.induction_on with
    | empty => intro ha; exact absurd ha (Finset.notMem_empty a)
    | insert x s hx ih =>
      intro ha
      rw [Finset.fold_insert hx]
      rcases Finset.mem_insert.mp ha with rfl | ha'
      · exact minsi_left (lo s)
      · rw [ih ha']; exact minsi_right (h x)
  exact hit _ (Finset.mem_univ a)

theorem toInt_small (n : ℕ) (h : n < 2147483648) : (BitVec.ofNat 32 n).toInt = (n : ℤ) := by
  rw [BitVec.toInt_eq_toNat_cond, BitVec.toNat_ofNat, Nat.mod_eq_of_lt (by omega), if_pos (by omega)]

/-- The smallest lane that attains the maximum is the lane that comes before all others. -/
theorem fold_first (f : Fin 128 → EReal) (a : Fin 128) (h : ∀ x, x ≠ a → Beats f a x) :
    Finset.fold IntOp.minsi 2147483647#32 (fun x => if f x = f a then BitVec.ofNat 32 x.val else 128#32) Finset.univ = BitVec.ofNat 32 a.val := by
  have ha := a.isLt
  rw [fold_min_attained _ a, if_pos rfl]
  · intro x
    rw [if_pos rfl, toInt_small _ (by omega)]
    have hx := x.isLt
    split
    · rename_i e
      rw [toInt_small _ (by omega)]
      by_cases hxa : x = a
      · rw [hxa]
      · by_contra hlt
        have := (h x hxa).2 (Fin.lt_def.mpr (by omega))
        exact absurd e (ne_of_lt this)
    · show (a.val : ℤ) ≤ 128
      omega
  · rw [if_pos rfl, toInt_small _ (by omega)]
    show (a.val : ℤ) ≤ 2147483647
    omega

theorem select_eq {α : Type} (a b : ℕ) (ha : a < 4294967296) (hb : b < 4294967296) (x y : α) :
    Scalar.select (IntOp.cmpi .eq (BitVec.ofNat 32 a) (BitVec.ofNat 32 b)) x y = if a = b then x else y := by
  have hiff : BitVec.ofNat 32 a = BitVec.ofNat 32 b ↔ a = b := by
    refine ⟨fun h => ?_, fun h => by rw [h]⟩
    have := congrArg BitVec.toNat h
    rwa [BitVec.toNat_ofNat, BitVec.toNat_ofNat, Nat.mod_eq_of_lt (by omega), Nat.mod_eq_of_lt (by omega)] at this
  by_cases h : a = b
  · subst h; simp [Scalar.select, IntOp.cmpi]
  · rw [if_neg h]
    have hf : (BitVec.ofNat 32 a == BitVec.ofNat 32 b) = false := beq_eq_false_iff_ne.mpr fun e => h (hiff.mp e)
    simp [Scalar.select, IntOp.cmpi, hf]

theorem select_lt {α : Type} (a b : ℕ) (ha : a < 2147483648) (hb : b < 2147483648) (x y : α) :
    Scalar.select (IntOp.cmpi .slt (BitVec.ofNat 32 a) (BitVec.ofNat 32 b)) x y = if a < b then x else y := by
  have hiff : (BitVec.ofNat 32 a).slt (BitVec.ofNat 32 b) = decide (a < b) := by
    rw [Bool.eq_iff_iff, BitVec.slt_iff_toInt_lt, toInt_small _ ha, toInt_small _ hb, decide_eq_true_iff]; omega
  by_cases h : a < b
  · simp [Scalar.select, IntOp.cmpi, hiff, h]
  · simp [Scalar.select, IntOp.cmpi, hiff, h]

theorem ofBits_bot : Ideal.ofBits FTy.f32 4286578688#32 = ⊥ := by simp [Ideal.ofBits, Ideal.ieee]

/-! ## The lanes of one token -/

/-- The logits on the lanes, minus infinity on the lanes of no expert. -/
def spread (L : Fin 8 → EReal) (x : Fin 128) : EReal := if h : x.val < 8 then L ⟨x.val, h⟩ else ⊥

theorem spread_lane (L : Fin 8 → EReal) (l : Fin 8) : spread L (lane l) = L l := by
  unfold spread lane; rw [dif_pos l.isLt]

theorem spread_best (L : Fin 8 → EReal) (x : Fin 128) (hx : x ≠ lane (best L)) : Beats (spread L) (lane (best L)) x := by
  unfold Beats
  rw [spread_lane]
  by_cases h : x.val < 8
  · have hl : x = lane ⟨x.val, h⟩ := rfl
    have hb := beats_best L ⟨x.val, h⟩ fun e => hx (by rw [← e]; rfl)
    rw [hl, spread_lane]
    exact ⟨hb.1, fun hlt => hb.2 (Fin.lt_def.mpr (Fin.lt_def.mp hlt))⟩
  · have e : spread L x = ⊥ := by unfold spread; rw [dif_neg h]
    rw [e]
    refine ⟨bot_le, fun hlt => ?_⟩
    have := Fin.lt_def.mp hlt
    have : (lane (best L)).val < 8 := (best L).isLt
    omega

/-- The lanes with the first expert's masked. -/
def spread' (L : Fin 8 → EReal) (x : Fin 128) : EReal := if x = lane (best L) then ⊥ else spread L x

theorem spread'_next (L : Fin 8 → EReal) : spread' L (lane (next L)) = L (next L) := by
  unfold spread'
  rw [if_neg fun e => next_ne_best L (lane_inj.mp e), spread_lane]

theorem spread'_beats (L : Fin 8 → EReal) (hL : ∀ l, L l ≠ ⊥) (x : Fin 128) (hx : x ≠ lane (next L)) : Beats (spread' L) (lane (next L)) x := by
  unfold Beats
  rw [spread'_next]
  by_cases hb : x = lane (best L)
  · have e : spread' L x = ⊥ := by unfold spread'; rw [if_pos hb]
    rw [e]
    exact ⟨bot_le, fun _ => bot_lt_iff_ne_bot.mpr (hL _)⟩
  · have e : spread' L x = spread L x := by unfold spread'; rw [if_neg hb]
    rw [e]
    by_cases h : x.val < 8
    · have hl : x = lane ⟨x.val, h⟩ := rfl
      have hb := beats_next L ⟨x.val, h⟩ (fun e => hb (by rw [← e]; rfl)) (fun e => hx (by rw [← e]; rfl))
      rw [hl, spread_lane]
      exact ⟨hb.1, fun hlt => hb.2 (Fin.lt_def.mpr (Fin.lt_def.mp hlt))⟩
    · have e : spread L x = ⊥ := by unfold spread; rw [dif_neg h]
      rw [e]
      refine ⟨bot_le, fun hlt => ?_⟩
      have := Fin.lt_def.mp hlt
      have : (lane (next L)).val < 8 := (next L).isLt
      omega

theorem beats_le {n : ℕ} (f : Fin n → EReal) (a : Fin n) (h : ∀ x, x ≠ a → Beats f a x) (x : Fin n) : f x ≤ f a := by
  by_cases e : x = a
  · rw [e]
  · exact (h x e).1

/-! ## The kernel's lanes, gates and ranks -/

/-- A token's logits from its block of tokens and the padded router. -/
def logits (H : Vec Ideal S1024x1024 .bf16) (R : Vec Ideal S1024x128 .bf16) (r : Fin 1024) (l : Fin 8) : EReal :=
  ∑ x : Fin 1024, H (ix2 r x) * R (ix2 x (lane l))

section
variable (H : Vec Ideal S1024x1024 .bf16) (R : Vec Ideal S1024x128 .bf16) (r : Fin 1024)

theorem pay3_apply (x : Fin 128) : k0_pay3 H R (ix2 r x) = spread (logits H R r) x := by
  have e : k0_pay3 H R (ix2 r x) = (Scalar.select (IntOp.cmpi .slt (BitVec.ofNat 32 x.val) 8#32) (∑ y, H (ix2 r y) * R (ix2 y x)) (Ideal.ofBits FTy.f32 4286578688#32) : EReal) := by
    pointwise [k0_pay3]
  have hx := x.isLt
  rw [e, ofBits_bot, show (8#32 : BitVec 32) = BitVec.ofNat 32 8 from rfl, select_lt _ _ (by omega) (by omega)]
  unfold spread logits
  by_cases h : x.val < 8
  · rw [if_pos h, dif_pos h]; rfl
  · rw [if_neg h, dif_neg h]

theorem pay4_apply : k0_pay4 H R (ix2 r 0) = logits H R r (best (logits H R r)) := by
  have e : k0_pay4 H R (ix2 r 0) = (Finset.fold max (Ideal.ofBits FTy.f32 4286578688#32) (fun x => k0_pay3 H R (ix2 r x)) Finset.univ : EReal) := by
    unfold k0_pay4; pointwise
  rw [e, ofBits_bot]
  simp only [pay3_apply]
  rw [fold_max_attained _ (lane (best (logits H R r))) (beats_le _ _ (spread_best _)), spread_lane]

theorem pay5_apply : k0_pay5 H R (ix2 r 0) = BitVec.ofNat 32 (lane (best (logits H R r))).val := by
  have e : k0_pay5 H R (ix2 r 0) = Finset.fold IntOp.minsi 2147483647#32 (fun x => if (k0_pay3 H R (ix2 r x) : EReal) = k0_pay4 H R (ix2 r 0) then BitVec.ofNat 32 x.val else 128#32) Finset.univ := by
    unfold k0_pay5; pointwise
  rw [e, pay4_apply, ← spread_lane (logits H R r) (best (logits H R r))]
  simp only [pay3_apply]
  exact fold_first _ _ (spread_best _)

theorem pay6_apply (x : Fin 128) : k0_pay6 H R (ix2 r x) = spread' (logits H R r) x := by
  have e : k0_pay6 H R (ix2 r x) = (Scalar.select (IntOp.cmpi .eq (BitVec.ofNat 32 x.val) (k0_pay5 H R (ix2 r 0))) (Ideal.ofBits FTy.f32 4286578688#32) (k0_pay3 H R (ix2 r x)) : EReal) := by
    unfold k0_pay6; pointwise
  have hx := x.isLt
  have hb := (lane (best (logits H R r))).isLt
  rw [e, ofBits_bot, pay5_apply, pay3_apply, select_eq _ _ (by omega) (by omega)]
  unfold spread'
  by_cases h : x = lane (best (logits H R r))
  · rw [if_pos h, if_pos (by rw [← h])]
  · rw [if_neg h, if_neg fun e => h (Fin.ext e)]

variable (hL : ∀ l, logits H R r l ≠ ⊥)
include hL

theorem pay7_apply : k0_pay7 H R (ix2 r 0) = logits H R r (next (logits H R r)) := by
  have e : k0_pay7 H R (ix2 r 0) = (Finset.fold max (Ideal.ofBits FTy.f32 4286578688#32) (fun x => k0_pay6 H R (ix2 r x)) Finset.univ : EReal) := by
    unfold k0_pay7; pointwise
  rw [e, ofBits_bot]
  simp only [pay6_apply]
  rw [fold_max_attained _ (lane (next (logits H R r))) (beats_le _ _ (spread'_beats _ hL)), spread'_next]

theorem pay8_apply : k0_pay8 H R (ix2 r 0) = BitVec.ofNat 32 (lane (next (logits H R r))).val := by
  have e : k0_pay8 H R (ix2 r 0) = Finset.fold IntOp.minsi 2147483647#32 (fun x => if (k0_pay6 H R (ix2 r x) : EReal) = k0_pay7 H R (ix2 r 0) then BitVec.ofNat 32 x.val else 128#32) Finset.univ := by
    unfold k0_pay8; pointwise
  rw [e, pay7_apply H R r hL, ← spread'_next (logits H R r)]
  simp only [pay6_apply]
  exact fold_first _ _ (spread'_beats _ hL)

theorem gates_apply (l : Fin 8) : gates H R (ix2 r (lane l)) = weight (logits H R r) l := by
  have hz1 : (![0, 0] : Fin 2 → ℕ) = fun _ => 0 := by funext a; fin_cases a <;> rfl
  have e : gates H R (ix2 r (lane l)) = (Scalar.select (IntOp.cmpi .eq (BitVec.ofNat 32 (lane l).val) (k0_pay5 H R (ix2 r 0)))
      (Ideal.div 1 (1 + Ideal.exp (k0_pay7 H R (ix2 r 0) - k0_pay4 H R (ix2 r 0))))
      (Scalar.select (IntOp.cmpi .eq (BitVec.ofNat 32 (lane l).val) (k0_pay8 H R (ix2 r 0)))
        (Ideal.exp (k0_pay7 H R (ix2 r 0) - k0_pay4 H R (ix2 r 0)) * Ideal.div 1 (1 + Ideal.exp (k0_pay7 H R (ix2 r 0) - k0_pay4 H R (ix2 r 0)))) 0) : EReal) := by
    unfold gates
    rw [View.ld_unit_zero (S := S1024x1024) hz1 _ H, View.ld_unit_zero (S := S1024x128) hz1 _ R]
    unfold k0_pay100 k0_pay11 k0_pay12 k0_pay13 k0_pay10 k0_pay9
    pointwise
  have h1 := (lane l).isLt
  have h2 := (lane (best (logits H R r))).isLt
  have h3 := (lane (next (logits H R r))).isLt
  rw [e, pay5_apply, pay8_apply H R r hL, pay7_apply H R r hL, pay4_apply, select_eq _ _ (by omega) (by omega), select_eq _ _ (by omega) (by omega)]
  unfold weight
  by_cases ha : l = best (logits H R r)
  · rw [if_pos (congrArg (fun l => (lane l).val) ha), if_pos ha]
  · rw [if_neg fun e => ha (lane_inj.mp (Fin.ext e)), if_neg ha]
    by_cases hb : l = next (logits H R r)
    · rw [if_pos (congrArg (fun l => (lane l).val) hb), if_pos hb]
    · rw [if_neg fun e => hb (lane_inj.mp (Fin.ext e)), if_neg hb]

theorem sel_apply (l : Fin 8) (x y : EReal) : Scalar.select (IntOp.cmpi .eq (BitVec.ofNat 32 (lane l).val) (k0_pay5 H R (ix2 r 0))) x
      (Scalar.select (IntOp.cmpi .eq (BitVec.ofNat 32 (lane l).val) (k0_pay8 H R (ix2 r 0))) x y) = if Picked (logits H R r) l then x else y := by
  have h1 := (lane l).isLt
  have h2 := (lane (best (logits H R r))).isLt
  have h3 := (lane (next (logits H R r))).isLt
  rw [pay5_apply, pay8_apply H R r hL, select_eq _ _ (by omega) (by omega), select_eq _ _ (by omega) (by omega)]
  by_cases ha : l = best (logits H R r)
  · rw [if_pos (congrArg (fun l => (lane l).val) ha), if_pos (show Picked _ _ from Or.inl ha)]
  · rw [if_neg fun e => ha (lane_inj.mp (Fin.ext e))]
    by_cases hb : l = next (logits H R r)
    · rw [if_pos (congrArg (fun l => (lane l).val) hb), if_pos (show Picked _ _ from Or.inr hb)]
    · rw [if_neg fun e => hb (lane_inj.mp (Fin.ext e)), if_neg (show ¬ Picked _ _ from not_or.mpr ⟨ha, hb⟩)]

end

/-- The rank of token `r` within expert `l`: the number of earlier tokens of the expert, or minus one. -/
def rankOf (H : Vec Ideal S1024x1024 .bf16) (R : Vec Ideal S1024x128 .bf16) (l : Fin 8) (r : Fin 1024) : ℤ :=
  if Picked (logits H R r) l then ((Finset.univ.filter fun x : Fin 1024 => x.val < r.val ∧ Picked (logits H R x) l).card : ℤ) else -1

theorem ranks_apply (H : Vec Ideal S1024x1024 .bf16) (R : Vec Ideal S1024x128 .bf16) (hL : ∀ r l, logits H R r l ≠ ⊥) (l : Fin 8) (r : Fin 1024) :
    ranks H R (ix2 (lane l) r) = ((rankOf H R l r : ℝ) : EReal) := by
  have hz1 : (![0, 0] : Fin 2 → ℕ) = fun _ => 0 := by funext a; fin_cases a <;> rfl
  have e : ranks H R (ix2 (lane l) r) = (if Ideal.ofBits FTy.f32 1056964608#32 < (Scalar.select (IntOp.cmpi .eq (BitVec.ofNat 32 (lane l).val) (k0_pay5 H R (ix2 r 0))) 1
      (Scalar.select (IntOp.cmpi .eq (BitVec.ofNat 32 (lane l).val) (k0_pay8 H R (ix2 r 0))) 1 0) : EReal)
      then ∑ x : Fin 1024, Scalar.select (IntOp.cmpi .slt (BitVec.ofNat 32 x.val) (BitVec.ofNat 32 r.val)) (Scalar.select (IntOp.cmpi .eq (BitVec.ofNat 32 (lane l).val) (k0_pay5 H R (ix2 x 0))) 1
      (Scalar.select (IntOp.cmpi .eq (BitVec.ofNat 32 (lane l).val) (k0_pay8 H R (ix2 x 0))) 1 0) : EReal) 0 else Ideal.ofBits FTy.f32 3212836864#32 : EReal) := by
    unfold ranks
    rw [View.ld_unit_zero (S := S1024x1024) hz1 _ H, View.ld_unit_zero (S := S1024x128) hz1 _ R]
    unfold k0_pay101
    pointwise
  rw [e]
  have half : Ideal.ofBits FTy.f32 1056964608#32 = ((1 / 2 : ℝ) : EReal) := by
    simp [Ideal.ofBits, Ideal.ieee, -EReal.coe_mul]; norm_num
  have minus : Ideal.ofBits FTy.f32 3212836864#32 = ((-1 : ℝ) : EReal) := by
    simp [Ideal.ofBits, Ideal.ieee, -EReal.coe_mul]; norm_num
  simp only [sel_apply H R _ (hL _)]
  rw [half, minus]
  unfold rankOf
  by_cases h : Picked (logits H R r) l
  · rw [if_pos h, if_pos h, if_pos (by rw [← EReal.coe_one, EReal.coe_lt_coe_iff]; norm_num)]
    have hs (x : Fin 1024) : (Scalar.select (IntOp.cmpi .slt (BitVec.ofNat 32 x.val) (BitVec.ofNat 32 r.val)) (if Picked (logits H R x) l then (1 : EReal) else 0) 0)
        = if x.val < r.val ∧ Picked (logits H R x) l then (1 : EReal) else 0 := by
      have hx := x.isLt
      have hr := r.isLt
      rw [select_lt _ _ (by omega) (by omega)]
      by_cases h1 : x.val < r.val <;> by_cases h2 : Picked (logits H R x) l <;> simp [h1, h2]
    simp only [hs]
    rw [Finset.sum_boole, Int.cast_natCast]; rfl
  · rw [if_neg h, if_neg h, if_neg (by rw [← EReal.coe_zero, EReal.coe_lt_coe_iff]; norm_num)]
    norm_num

theorem rankOf_nonneg (H : Vec Ideal S1024x1024 .bf16) (R : Vec Ideal S1024x128 .bf16) (l : Fin 8) (r : Fin 1024) :
    0 ≤ rankOf H R l r ↔ Picked (logits H R r) l := by
  unfold rankOf
  by_cases h : Picked (logits H R r) l
  · rw [if_pos h]; simp [h]
  · rw [if_neg h]; simp [h]

theorem rankOf_lt (H : Vec Ideal S1024x1024 .bf16) (R : Vec Ideal S1024x128 .bf16) (l : Fin 8) (r : Fin 1024) :
    rankOf H R l r < howMany (rankOf H R l) := by
  by_cases h : Picked (logits H R r) l
  · unfold howMany
    simp only [rankOf_nonneg]
    conv_lhs => unfold rankOf
    rw [if_pos h]
    refine Nat.cast_lt.mpr (Finset.card_lt_card ?_)
    refine Finset.ssubset_iff_of_subset (fun x hx => ?_) |>.mpr ⟨r, ?_, ?_⟩
    · exact Finset.mem_filter.mpr ⟨Finset.mem_univ _, (Finset.mem_filter.mp hx).2.2⟩
    · exact Finset.mem_filter.mpr ⟨Finset.mem_univ _, h⟩
    · intro hm; exact absurd (Finset.mem_filter.mp hm).2.1 (lt_irrefl _)
  · conv_lhs => unfold rankOf
    rw [if_neg h]; omega

theorem rankOf_mono (H : Vec Ideal S1024x1024 .bf16) (R : Vec Ideal S1024x128 .bf16) (l : Fin 8) (r r' : Fin 1024) (h : Picked (logits H R r) l)
    (h' : Picked (logits H R r') l) (hlt : r.val < r'.val) : rankOf H R l r < rankOf H R l r' := by
  unfold rankOf
  rw [if_pos h, if_pos h']
  refine Nat.cast_lt.mpr (Finset.card_lt_card ?_)
  refine Finset.ssubset_iff_of_subset (fun x hx => ?_) |>.mpr ⟨r, ?_, ?_⟩
  · have := (Finset.mem_filter.mp hx).2
    exact Finset.mem_filter.mpr ⟨Finset.mem_univ _, this.1.trans hlt, this.2⟩
  · exact Finset.mem_filter.mpr ⟨Finset.mem_univ _, hlt, h⟩
  · intro hm; exact absurd (Finset.mem_filter.mp hm).2.1 (lt_irrefl _)

theorem rankOf_inj (H : Vec Ideal S1024x1024 .bf16) (R : Vec Ideal S1024x128 .bf16) (l : Fin 8) (r r' : Fin 1024) (h : 0 ≤ rankOf H R l r)
    (he : rankOf H R l r = rankOf H R l r') : r = r' := by
  have hp := (rankOf_nonneg H R l r).mp h
  have hp' := (rankOf_nonneg H R l r').mp (he ▸ h)
  rcases lt_trichotomy r.val r'.val with hlt | heq | hlt
  · exact absurd he (ne_of_lt (rankOf_mono H R l r r' hp hp' hlt))
  · exact Fin.ext heq
  · exact absurd he.symm (ne_of_lt (rankOf_mono H R l r' r hp' hp hlt))

/-! ## The grid point's expert -/

/-- The grid point's gate is the one on its expert's lane. -/
theorem gateOf_apply (i : grid0.Coords) (G : Vec Ideal S1024x128 .f32) (l : Fin 8) (hl : (i 1).val = l.val) (r : Fin 1024) :
    gateOf i G (ix2 r 0) = G (ix2 r (lane l)) := by
  have e : gateOf i G (ix2 r 0) = (∑ x : Fin 128, Scalar.select (IntOp.cmpi .eq (BitVec.ofNat 32 x.val) (BitVec.ofNat 32 (i 1).val)) (G (ix2 r x)) 0 : EReal) := by
    unfold gateOf k0_pay103; pointwise
  rw [e, Finset.sum_eq_single (lane l)]
  · have h1 := (lane l).isLt
    have h2 := l.isLt
    rw [select_eq _ _ (by omega) (by omega), if_pos (show (lane l).val = (i 1).val from hl.symm)]
  · intro x _ hx
    have h1 := x.isLt
    have h2 := l.isLt
    rw [select_eq _ _ (by omega) (by omega), if_neg]
    intro he; exact hx (Fin.ext (he.trans hl))
  · intro h; exact absurd (Finset.mem_univ _) h

/-- The grid point's ranks are the row of its expert. -/
theorem rowOf_apply (i : grid0.Coords) (K : Vec Ideal S128x1024 .f32) (l : Fin 8) (hl : (i 1).val = l.val) (r : Fin 1024) :
    rowOf i K (ix2 0 r) = K (ix2 (lane l) r) := by
  have h0 : k0_off1 i = ![(i 1).val, 0] := Gen.k0_off1_eq i
  unfold rowOf
  rw [View.ld_unit]
  pointwise
  congr 1
  refine congrArg₂ ix2 (Fin.ext ?_) (Fin.ext ?_)
  · show k0_off1 i 0 = l.val
    rw [h0]; exact hl
  · show k0_off1 i 1 + r.val = r.val
    rw [h0]; show 0 + r.val = r.val; omega

theorem ranked_row (i : grid0.Coords) (H : Vec Ideal S1024x1024 .bf16) (R : Vec Ideal S1024x128 .bf16) (hL : ∀ r l, logits H R r l ≠ ⊥) (l : Fin 8)
    (hl : (i 1).val = l.val) : Ranked (rowOf i (ranks H R)) (rankOf H R l) where
  val r := by rw [rowOf_apply i _ l hl, ranks_apply H R hL]
  ge r := by
    unfold rankOf
    split <;> omega
  inj := rankOf_inj H R l

/-- One grid point adds the gated output of its expert to each token. -/
theorem stepOf_expert (i : grid0.Coords) (H : Vec Ideal S1024x1024 .bf16) (R : Vec Ideal S1024x128 .bf16) (W1 W3 : Vec Ideal S1x1024x2816 .bf16)
    (W2 : Vec Ideal S1x2816x1024 .bf16) (A : Vec Ideal S1024x1024 .f32) (hL : ∀ r l, logits H R r l ≠ ⊥) (l : Fin 8) (hl : (i 1).val = l.val) (r j : Fin 1024) :
    stepOf i H W1 W3 W2 A (gates H R) (ranks H R) (ix2 r j)
      = A (ix2 r j) + weight (logits H R r) l * ffn (fun i => H (ix2 r i)) W1 W3 W2 j := by
  rw [stepOf_apply i H W1 W3 W2 A _ _ (ranked_row i H R hL l hl) (rankOf_lt H R l), gateOf_apply i _ l hl, gates_apply H R r (hL r)]
  refine congrArg (A (ix2 r j) + ·) ?_
  by_cases h : Picked (logits H R r) l
  · rw [if_pos ((rankOf_nonneg H R l r).mpr h)]
  · rw [weight_eq_zero _ _ h, zero_mul, zero_mul]

end Proof.Moe
end
-- ==== Proof.RefRoute.lean ====
module

public import proofs.«01_k».proof.Proof.Router
public import proofs.«01_k».proof.Proof.Gen.ReferenceIdeal.Read

/-!
# The reference's router

The reference takes the two largest of a token's eight logits by a stable descending sort, their softmax, and the sum
of the two one-hot rows weighted by it. At every expert that sum is `weight` of the token's logits.
-/

@[expose] public section
set_option maxRecDepth 65536
noncomputable section
namespace Proof.Moe
open Cert.ReferenceIdeal Cert.ReferenceIdeal.Gen Cert.ReferenceIdeal.Read
open Idealize.ShloMosaic Idealize.ShloMosaic.TcCoe
open scoped BigOperators

/-- The first two places of the sort, as places of the eight. -/
def wide (p : Fin 2) : Fin 8 := ⟨p.val, Nat.lt_of_lt_of_le p.isLt (by decide)⟩

theorem along_expert (b : Fin 32) (s : Fin 2048) (e k : Fin 8) :
    Shape.Idx.along (s := S32x2048x8) (ix3 b s e) 2 k = ix3 b s k := by
  unfold Shape.Idx.along
  funext a
  match a with
  | ⟨0, _⟩ => rfl
  | ⟨1, _⟩ => rfl
  | ⟨2, _⟩ => rfl

theorem slice_place (b : Fin 32) (s : Fin 2048) (p : Fin 2) (x : S32x2048x8.Idx → EReal) :
    extractStridedSlice S32x2048x2 (fun _ => 0) x sliceFits_S32x2048x8_S32x2048x2 (ix3 b s p) = x (ix3 b s (wide p)) := by
  unfold extractStridedSlice
  refine congrArg x ?_
  funext a
  match a with
  | ⟨0, _⟩ => exact Fin.ext (Nat.zero_add _)
  | ⟨1, _⟩ => exact Fin.ext (Nat.zero_add _)
  | ⟨2, _⟩ => exact Fin.ext (Nat.zero_add _)

theorem slice_place' (b : Fin 32) (s : Fin 2048) (p : Fin 2) (x : S32x2048x8.Idx → BitVec 32) :
    extractStridedSlice S32x2048x2 (fun _ => 0) x sliceFits_S32x2048x8_S32x2048x2 (ix3 b s p) = x (ix3 b s (wide p)) := by
  unfold extractStridedSlice
  refine congrArg x ?_
  funext a
  match a with
  | ⟨0, _⟩ => exact Fin.ext (Nat.zero_add _)
  | ⟨1, _⟩ => exact Fin.ext (Nat.zero_add _)
  | ⟨2, _⟩ => exact Fin.ext (Nat.zero_add _)

theorem topK_place (x : S32x2048x8.Idx → EReal) (b : Fin 32) (s : Fin 2048) (p : Fin 2) :
    (Host.topK S32x2048x2 2 (FloatOps.cmpfTotal (F := Ideal) (φ := .f32) .gt) x sliceFits_S32x2048x8_S32x2048x2).1 (ix3 b s p)
        = x (ix3 b s (sortedFrom (above fun e => x (ix3 b s e)) (wide p)))
      ∧ (Host.topK S32x2048x2 2 (FloatOps.cmpfTotal (F := Ideal) (φ := .f32) .gt) x sliceFits_S32x2048x8_S32x2048x2).2 (ix3 b s p)
        = BitVec.ofNat 32 (sortedFrom (above fun e => x (ix3 b s e)) (wide p)).val := by
  have hd : 2 < S32x2048x8.rank := by decide
  have hB : (fun k k' : Fin 8 => FloatOps.cmpfTotal (F := Ideal) (φ := .f32) .gt (x (Shape.Idx.along (s := S32x2048x8) (ix3 b s (wide p)) 2 k))
      (x (Shape.Idx.along (s := S32x2048x8) (ix3 b s (wide p)) 2 k')) == 1#1) = above fun e => x (ix3 b s e) := by
    funext k k'
    rw [along_expert, along_expert]; rfl
  constructor
  · refine (slice_place b s p (Host.sort2 S32x2048x8 2 (fun l r : EReal × BitVec 32 => FloatOps.cmpfTotal (F := Ideal) (φ := .f32) .gt l.1 r.1) x (fun i => if hd : 2 < S32x2048x8.rank then iotaInDim S32x2048x8 32 ⟨2, hd⟩ i else 0#32)).1).trans ?_
    unfold Host.sort2
    rw [dif_pos hd]
    show x (Shape.Idx.along (s := S32x2048x8) (ix3 b s (wide p)) 2 (sortedFrom (fun k k' : Fin 8 => FloatOps.cmpfTotal (F := Ideal) (φ := .f32) .gt (x (Shape.Idx.along (s := S32x2048x8) (ix3 b s (wide p)) 2 k))
      (x (Shape.Idx.along (s := S32x2048x8) (ix3 b s (wide p)) 2 k')) == 1#1) (wide p))) = _
    rw [hB]
    exact congrArg x (along_expert b s (wide p) _)
  · refine (slice_place' b s p (Host.sort2 S32x2048x8 2 (fun l r : EReal × BitVec 32 => FloatOps.cmpfTotal (F := Ideal) (φ := .f32) .gt l.1 r.1) x (fun i => if hd : 2 < S32x2048x8.rank then iotaInDim S32x2048x8 32 ⟨2, hd⟩ i else 0#32)).2).trans ?_
    unfold Host.sort2
    rw [dif_pos hd]
    show BitVec.ofNat 32 (Shape.Idx.along (s := S32x2048x8) (ix3 b s (wide p)) 2 (sortedFrom (fun k k' : Fin 8 => FloatOps.cmpfTotal (F := Ideal) (φ := .f32) .gt (x (Shape.Idx.along (s := S32x2048x8) (ix3 b s (wide p)) 2 k))
      (x (Shape.Idx.along (s := S32x2048x8) (ix3 b s (wide p)) 2 k')) == 1#1) (wide p)) 2).val = _
    rw [hB]
    exact congrArg (fun i : S32x2048x8.Idx => BitVec.ofNat 32 (i 2).val) (along_expert b s (wide p) _)

section
variable (x0 : (⟨S32x2048x1024, .f32⟩ : BufTy).Contents (Elt Ideal)) (x1 : (⟨S1024x8, .f32⟩ : BufTy).Contents (Elt Ideal)) (b : Fin 32) (s : Fin 2048)

/-- A token's logits in the reference. -/
def refLogits (e : Fin 8) : EReal := ∑ i : Fin 1024, x0 (ix3 b s i) * x1 (ix2 i e)

theorem v0_eq (e : Fin 8) : val_main_v0 (F := Ideal) x0 x1 (ix3 b s e) = refLogits x0 x1 b s e := by
  rw [val_main_v0_apply]
  refine Finset.sum_congr rfl fun k _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

theorem places_eq : (fun e => val_main_v0 (F := Ideal) x0 x1 (ix3 b s e)) = refLogits x0 x1 b s := funext fun e => v0_eq x0 x1 b s e

theorem values_eq (p : Fin 2) : val_main_values (F := Ideal) x0 x1 (ix3 b s p) = refLogits x0 x1 b s (sortedFrom (above (refLogits x0 x1 b s)) (wide p)) := by
  unfold val_main_values
  rw [(topK_place (val_main_v0 (F := Ideal) x0 x1) b s p).1, places_eq, v0_eq]

theorem indices_eq (p : Fin 2) : val_main_indices (F := Ideal) x0 x1 (ix3 b s p) = BitVec.ofNat 32 (sortedFrom (above (refLogits x0 x1 b s)) (wide p)).val := by
  unfold val_main_indices
  rw [(topK_place (val_main_v0 (F := Ideal) x0 x1) b s p).2, places_eq]

theorem gate_read (e : Fin 8) (M : EReal) (hM : Finset.fold max (Ideal.ofBits FTy.f32 4286578688#32) (fun p => val_main_values (F := Ideal) x0 x1 (ix3 b s p)) Finset.univ = M) :
    val_main_v16 (F := Ideal) x0 x1 (ix3 b s e)
      = ∑ p : Fin 2, (FloatOps.uitofp FTy.f32 (IntOp.cmpi CmpIPredicate.eq (val_main_indices (F := Ideal) x0 x1 (ix3 b s p)) (BitVec.ofNat 32 e.val)) : Ideal .f32)
        * Ideal.div (Ideal.exp (val_main_values (F := Ideal) x0 x1 (ix3 b s p) - M)) (∑ q : Fin 2, Ideal.exp (val_main_values (F := Ideal) x0 x1 (ix3 b s q) - M)) := by
  have hm : max (⊥ : EReal) M = M := max_eq_right bot_le
  unfold val_main_v16 val_main_v15 val_main_v14 val_main_v13 val_main_v12 val_main_v11 val_main_v10 val_main_v9 val_main_v8 val_main_v7 val_main_v6 val_main_v5 val_main_v4 val_main_v3 val_main_v2 val_main_v1 val_main_call0_v4 val_main_call0_v3 val_main_call0_v2 val_main_call0_v1 val_main_call0_v0 val_main_cst_2 val_main_cst_1 val_main_cst_0 val_main_cst
  pointwise
  simp only [hM]
  rw [ofBits_bot]
  simp only [hm]

theorem hot_bit (a e : Fin 8) : (FloatOps.uitofp FTy.f32 (IntOp.cmpi CmpIPredicate.eq (BitVec.ofNat 32 a.val) (BitVec.ofNat 32 e.val)) : Ideal .f32) = (if e = a then (1 : EReal) else 0) := by
  have h1 : (FloatOps.uitofp FTy.f32 (1#1) : Ideal .f32) = (1 : EReal) := by
    show ((((1#1 : BitVec 1).toNat : ℝ)) : EReal) = 1
    norm_num
  have h0 : (FloatOps.uitofp FTy.f32 (0#1) : Ideal .f32) = (0 : EReal) := by
    show ((((0#1 : BitVec 1).toNat : ℝ)) : EReal) = 0
    norm_num
  by_cases h : e = a
  · subst h
    rw [if_pos rfl, ← h1]
    simp [IntOp.cmpi]
  · rw [if_neg h, ← h0]
    have hne : ∀ a e : Fin 8, e ≠ a → IntOp.cmpi CmpIPredicate.eq (BitVec.ofNat 32 a.val) (BitVec.ofNat 32 e.val) = 0#1 := by decide
    rw [hne a e h]

/-- The reference's gate of an expert is `weight` of the token's logits. -/
theorem gate_eq (hL : ∀ e, ∃ a : ℝ, refLogits x0 x1 b s e = (a : EReal)) (e : Fin 8) :
    val_main_v16 (F := Ideal) x0 x1 (ix3 b s e) = weight (refLogits x0 x1 b s) e := by
  have e0 : sortedFrom (above (refLogits x0 x1 b s)) (wide 0) = best (refLogits x0 x1 b s) := rfl
  have e1 : sortedFrom (above (refLogits x0 x1 b s)) (wide 1) = next (refLogits x0 x1 b s) := rfl
  have hM : Finset.fold max (Ideal.ofBits FTy.f32 4286578688#32) (fun p => val_main_values (F := Ideal) x0 x1 (ix3 b s p)) Finset.univ
      = refLogits x0 x1 b s (best (refLogits x0 x1 b s)) := by
    rw [ofBits_bot]
    simp only [values_eq]
    refine (fold_max_attained (fun p : Fin 2 => refLogits x0 x1 b s (sortedFrom (above (refLogits x0 x1 b s)) (wide p))) 0 fun p => ?_).trans (by rw [e0])
    rw [e0]
    exact beats_le _ _ (beats_best _) _
  rw [gate_read x0 x1 b s e _ hM, Fin.sum_univ_two, Fin.sum_univ_two]
  simp only [values_eq, indices_eq]
  rw [e0, e1, hot_bit, hot_bit]
  obtain ⟨a, ha⟩ := hL (best (refLogits x0 x1 b s))
  obtain ⟨c, hc⟩ := hL (next (refLogits x0 x1 b s))
  have hne := next_ne_best (refLogits x0 x1 b s)
  unfold weight
  rw [ha, hc, ← EReal.coe_sub, ← EReal.coe_sub, sub_self, Ideal.exp_coe, Ideal.exp_coe, Real.exp_zero, ← EReal.coe_one, ← EReal.coe_add]
  have hpos : (1 + Real.exp (c - a)) ≠ 0 := by positivity
  rw [Ideal.div_coe hpos, Ideal.div_coe hpos]
  by_cases h1 : e = best (refLogits x0 x1 b s)
  · rw [if_pos h1, if_pos h1, if_neg fun h => hne (h.symm.trans h1)]
    rw [EReal.coe_one, one_mul, one_mul, zero_mul, add_zero]
  · rw [if_neg h1, if_neg h1]
    by_cases h2 : e = next (refLogits x0 x1 b s)
    · rw [if_pos h2, if_pos h2, EReal.coe_one, one_mul, one_mul, zero_mul, zero_add]
    · rw [if_neg h2, if_neg h2, zero_mul, zero_mul, zero_add]

end
end Proof.Moe
end
-- ==== Proof.RefValue.lean ====
module

public import proofs.«01_k».proof.Proof.RefRoute

/-!
# The reference's result

One expert after another, the reference adds the expert's gate times its feed-forward of the token. Here each such term
is read at a token and a channel, and the result is their sum from zero.
-/

@[expose] public section
set_option maxRecDepth 65536
noncomputable section
namespace Proof.Moe
open Cert.ReferenceIdeal Cert.ReferenceIdeal.Gen Cert.ReferenceIdeal.Read
open Idealize.ShloMosaic Idealize.ShloMosaic.TcCoe
open scoped BigOperators

variable (x0 : (⟨S32x2048x1024, .f32⟩ : BufTy).Contents (Elt Ideal)) (x1 : (⟨S1024x8, .f32⟩ : BufTy).Contents (Elt Ideal))
  (x2 x3 : (⟨S8x1024x2816, .f32⟩ : BufTy).Contents (Elt Ideal)) (x4 : (⟨S8x2816x1024, .f32⟩ : BufTy).Contents (Elt Ideal))
  (b : Fin 32) (s : Fin 2048) (j : Fin 1024)

/-- The feed-forward of expert `e` at a token and a channel. -/
def expert (e : Fin 8) : EReal :=
  ∑ k : Fin 2816, swi (∑ i : Fin 1024, x0 (ix3 b s i) * x2 (ix3 e i k)) (∑ i : Fin 1024, x0 (ix3 b s i) * x3 (ix3 e i k)) * x4 (ix3 e k j)

/-- The gated feed-forward of expert `e`. -/
def term (e : Fin 8) : EReal := val_main_v16 (F := Ideal) x0 x1 (ix3 b s e) * expert x0 x2 x3 x4 b s j e

theorem term_0 : val_main_v31 (F := Ideal) x0 x1 x2 x3 x4 (ix3 b s j) = term x0 x1 x2 x3 x4 b s j 0 := by
  have up (k : Fin 2816) : val_main_v25 (F := Ideal) x0 x2 (ix3 b s k) = ∑ i : Fin 1024, x0 (ix3 b s i) * x2 (ix3 0 i k) := by
    unfold val_main_v25 val_main_v20 val_main_v19
    pointwise
  unfold val_main_v31 val_main_v30 val_main_v29 val_main_v28 val_main_v27 val_main_v26 val_main_v24 val_main_v23 val_main_v22 val_main_v21 val_main_v18 val_main_call1_v5 val_main_call1_v4 val_main_call1_v3 val_main_call1_v2 val_main_call1_v1 val_main_call1_v0 val_main_call1_cst val_main_call1_cst_0
  pointwise
  simp only [up]
  unfold term expert swi
  simp only [zero_sub]

theorem term_1 : val_main_v46 (F := Ideal) x0 x1 x2 x3 x4 (ix3 b s j) = term x0 x1 x2 x3 x4 b s j 1 := by
  have up (k : Fin 2816) : val_main_v40 (F := Ideal) x0 x2 (ix3 b s k) = ∑ i : Fin 1024, x0 (ix3 b s i) * x2 (ix3 1 i k) := by
    unfold val_main_v40 val_main_v35 val_main_v34
    pointwise
  unfold val_main_v46 val_main_v45 val_main_v44 val_main_v43 val_main_v42 val_main_v41 val_main_v39 val_main_v38 val_main_v37 val_main_v36 val_main_v33 val_main_call2_v5 val_main_call2_v4 val_main_call2_v3 val_main_call2_v2 val_main_call2_v1 val_main_call2_v0 val_main_call2_cst val_main_call2_cst_0
  pointwise
  simp only [up]
  unfold term expert swi
  simp only [zero_sub]

theorem term_2 : val_main_v61 (F := Ideal) x0 x1 x2 x3 x4 (ix3 b s j) = term x0 x1 x2 x3 x4 b s j 2 := by
  have up (k : Fin 2816) : val_main_v55 (F := Ideal) x0 x2 (ix3 b s k) = ∑ i : Fin 1024, x0 (ix3 b s i) * x2 (ix3 2 i k) := by
    unfold val_main_v55 val_main_v50 val_main_v49
    pointwise
  unfold val_main_v61 val_main_v60 val_main_v59 val_main_v58 val_main_v57 val_main_v56 val_main_v54 val_main_v53 val_main_v52 val_main_v51 val_main_v48 val_main_call3_v5 val_main_call3_v4 val_main_call3_v3 val_main_call3_v2 val_main_call3_v1 val_main_call3_v0 val_main_call3_cst val_main_call3_cst_0
  pointwise
  simp only [up]
  unfold term expert swi
  simp only [zero_sub]

theorem term_3 : val_main_v76 (F := Ideal) x0 x1 x2 x3 x4 (ix3 b s j) = term x0 x1 x2 x3 x4 b s j 3 := by
  have up (k : Fin 2816) : val_main_v70 (F := Ideal) x0 x2 (ix3 b s k) = ∑ i : Fin 1024, x0 (ix3 b s i) * x2 (ix3 3 i k) := by
    unfold val_main_v70 val_main_v65 val_main_v64
    pointwise
  unfold val_main_v76 val_main_v75 val_main_v74 val_main_v73 val_main_v72 val_main_v71 val_main_v69 val_main_v68 val_main_v67 val_main_v66 val_main_v63 val_main_call4_v5 val_main_call4_v4 val_main_call4_v3 val_main_call4_v2 val_main_call4_v1 val_main_call4_v0 val_main_call4_cst val_main_call4_cst_0
  pointwise
  simp only [up]
  unfold term expert swi
  simp only [zero_sub]

theorem term_4 : val_main_v91 (F := Ideal) x0 x1 x2 x3 x4 (ix3 b s j) = term x0 x1 x2 x3 x4 b s j 4 := by
  have up (k : Fin 2816) : val_main_v85 (F := Ideal) x0 x2 (ix3 b s k) = ∑ i : Fin 1024, x0 (ix3 b s i) * x2 (ix3 4 i k) := by
    unfold val_main_v85 val_main_v80 val_main_v79
    pointwise
  unfold val_main_v91 val_main_v90 val_main_v89 val_main_v88 val_main_v87 val_main_v86 val_main_v84 val_main_v83 val_main_v82 val_main_v81 val_main_v78 val_main_call5_v5 val_main_call5_v4 val_main_call5_v3 val_main_call5_v2 val_main_call5_v1 val_main_call5_v0 val_main_call5_cst val_main_call5_cst_0
  pointwise
  simp only [up]
  unfold term expert swi
  simp only [zero_sub]

theorem term_5 : val_main_v106 (F := Ideal) x0 x1 x2 x3 x4 (ix3 b s j) = term x0 x1 x2 x3 x4 b s j 5 := by
  have up (k : Fin 2816) : val_main_v100 (F := Ideal) x0 x2 (ix3 b s k) = ∑ i : Fin 1024, x0 (ix3 b s i) * x2 (ix3 5 i k) := by
    unfold val_main_v100 val_main_v95 val_main_v94
    pointwise
  unfold val_main_v106 val_main_v105 val_main_v104 val_main_v103 val_main_v102 val_main_v101 val_main_v99 val_main_v98 val_main_v97 val_main_v96 val_main_v93 val_main_call6_v5 val_main_call6_v4 val_main_call6_v3 val_main_call6_v2 val_main_call6_v1 val_main_call6_v0 val_main_call6_cst val_main_call6_cst_0
  pointwise
  simp only [up]
  unfold term expert swi
  simp only [zero_sub]

theorem term_6 : val_main_v121 (F := Ideal) x0 x1 x2 x3 x4 (ix3 b s j) = term x0 x1 x2 x3 x4 b s j 6 := by
  have up (k : Fin 2816) : val_main_v115 (F := Ideal) x0 x2 (ix3 b s k) = ∑ i : Fin 1024, x0 (ix3 b s i) * x2 (ix3 6 i k) := by
    unfold val_main_v115 val_main_v110 val_main_v109
    pointwise
  unfold val_main_v121 val_main_v120 val_main_v119 val_main_v118 val_main_v117 val_main_v116 val_main_v114 val_main_v113 val_main_v112 val_main_v111 val_main_v108 val_main_call7_v5 val_main_call7_v4 val_main_call7_v3 val_main_call7_v2 val_main_call7_v1 val_main_call7_v0 val_main_call7_cst val_main_call7_cst_0
  pointwise
  simp only [up]
  unfold term expert swi
  simp only [zero_sub]

theorem term_7 : val_main_v136 (F := Ideal) x0 x1 x2 x3 x4 (ix3 b s j) = term x0 x1 x2 x3 x4 b s j 7 := by
  have up (k : Fin 2816) : val_main_v130 (F := Ideal) x0 x2 (ix3 b s k) = ∑ i : Fin 1024, x0 (ix3 b s i) * x2 (ix3 7 i k) := by
    unfold val_main_v130 val_main_v125 val_main_v124
    pointwise
  unfold val_main_v136 val_main_v135 val_main_v134 val_main_v133 val_main_v132 val_main_v131 val_main_v129 val_main_v128 val_main_v127 val_main_v126 val_main_v123 val_main_call8_v5 val_main_call8_v4 val_main_call8_v3 val_main_call8_v2 val_main_call8_v1 val_main_call8_v0 val_main_call8_cst val_main_call8_cst_0
  pointwise
  simp only [up]
  unfold term expert swi
  simp only [zero_sub]

/-- The terms of the first `n` experts, added in order from zero. -/
def upToExpert : ℕ → EReal
  | 0 => 0
  | n + 1 => if h : n < 8 then upToExpert n + term x0 x1 x2 x3 x4 b s j ⟨n, h⟩ else upToExpert n

theorem result_eq : val_main_v137 (F := Ideal) x0 x1 x2 x3 x4 (ix3 b s j) = upToExpert x0 x1 x2 x3 x4 b s j 8 := by
  have zero : val_main_v17 (F := Ideal) (ix3 b s j) = (0 : EReal) := by
    unfold val_main_v17 val_main_cst_3
    pointwise
  have s0 : val_main_v32 (F := Ideal) x0 x1 x2 x3 x4 (ix3 b s j) = upToExpert x0 x1 x2 x3 x4 b s j 1 := by
    rw [val_main_v32_apply, term_0, zero]; rfl
  have s1 : val_main_v47 (F := Ideal) x0 x1 x2 x3 x4 (ix3 b s j) = upToExpert x0 x1 x2 x3 x4 b s j 2 := by
    rw [val_main_v47_apply, term_1, s0]; rfl
  have s2 : val_main_v62 (F := Ideal) x0 x1 x2 x3 x4 (ix3 b s j) = upToExpert x0 x1 x2 x3 x4 b s j 3 := by
    rw [val_main_v62_apply, term_2, s1]; rfl
  have s3 : val_main_v77 (F := Ideal) x0 x1 x2 x3 x4 (ix3 b s j) = upToExpert x0 x1 x2 x3 x4 b s j 4 := by
    rw [val_main_v77_apply, term_3, s2]; rfl
  have s4 : val_main_v92 (F := Ideal) x0 x1 x2 x3 x4 (ix3 b s j) = upToExpert x0 x1 x2 x3 x4 b s j 5 := by
    rw [val_main_v92_apply, term_4, s3]; rfl
  have s5 : val_main_v107 (F := Ideal) x0 x1 x2 x3 x4 (ix3 b s j) = upToExpert x0 x1 x2 x3 x4 b s j 6 := by
    rw [val_main_v107_apply, term_5, s4]; rfl
  have s6 : val_main_v122 (F := Ideal) x0 x1 x2 x3 x4 (ix3 b s j) = upToExpert x0 x1 x2 x3 x4 b s j 7 := by
    rw [val_main_v122_apply, term_6, s5]; rfl
  have s7 : val_main_v137 (F := Ideal) x0 x1 x2 x3 x4 (ix3 b s j) = upToExpert x0 x1 x2 x3 x4 b s j 8 := by
    rw [val_main_v137_apply, term_7, s6]; rfl
  exact s7

end Proof.Moe
end
-- ==== Proof.Blocks.lean ====
module

public import proofs.«01_k».proof.Proof.RefValue
public import proofs.«01_k».proof.Proof.Run
public import proofs.«01_k».proof.Proof.Router
public import Idealize.ShloMosaic.Lib.Pipeline.ValueKit
public import Idealize.ShloMosaic.Lib.StableHlo.ReadAt

/-!
# The kernel's blocks

What each grid point's blocks hold of the arguments: the tokens of the block, the padded router, and the three weight
matrices of the expert.
-/

@[expose] public section
set_option maxRecDepth 65536
noncomputable section
namespace Proof.Moe
open Cert.KernelIdeal Cert.KernelIdeal.Gen
open Idealize.ShloMosaic Idealize.ShloMosaic.TcCoe
open Idealize.SL
open scoped BigOperators

variable (m : (ℓ : Loc nD τ sig) → Buf (Elt Ideal) ℓ) (c : Dev nD)

/-- The arguments: the tokens, the router and the three weight arrays. -/
abbrev argX : S32x2048x1024.Idx → EReal := m (c.tc.loc main_arg0)
abbrev argR : S1024x8.Idx → EReal := m (c.tc.loc main_arg1)
abbrev argW1 : S8x1024x2816.Idx → EReal := m (c.tc.loc main_arg2)
abbrev argW3 : S8x1024x2816.Idx → EReal := m (c.tc.loc main_arg3)
abbrev argW2 : S8x2816x1024.Idx → EReal := m (c.tc.loc main_arg4)

/-- A token's batch and position, from its row of the flattened tokens. -/
def batchOf (n : ℕ) (h : n < 65536) : Fin 32 := ⟨n / 2048, by omega⟩
def posOf (n : ℕ) : Fin 2048 := ⟨n % 2048, Nat.mod_lt _ (by decide)⟩

theorem v1_at (n : Fin 65536) (j : Fin 1024) : V m c main_v1 (ix2 n j) = argX m c (ix3 (batchOf n.val n.isLt) (posOf n.val) j) := by
  unfold V V0
  after_reads_at
  rfl

theorem v3_at (x : Fin 1024) (l : Fin 8) : V m c main_v3 (ix2 x (lane l)) = argR m c (ix2 x l) := by
  unfold V V0
  after_reads_at
  exact dif_pos l.isLt

theorem v4_at (e : Fin 8) (x : Fin 1024) (k : Fin 2816) : V m c main_v4 (ix3 e x k) = argW1 m c (ix3 e x k) := by
  unfold V V0
  after_reads_at

theorem v5_at (e : Fin 8) (x : Fin 1024) (k : Fin 2816) : V m c main_v5 (ix3 e x k) = argW3 m c (ix3 e x k) := by
  unfold V V0
  after_reads_at

theorem v6_at (e : Fin 8) (k : Fin 2816) (j : Fin 1024) : V m c main_v6 (ix3 e k j) = argW2 m c (ix3 e k j) := by
  unfold V V0
  after_reads_at

theorem index0 : ∀ t : Fin cfg0.N, win0_0.index t = ![t.val / 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0, 0] := (by decide +kernel : ∀ t : Fin grid0.N, _)
theorem index3 : ∀ t : Fin cfg0.N, win0_3.index t = ![t.val % 8, 0, 0] := (by decide +kernel : ∀ t : Fin grid0.N, _)
theorem index4 : ∀ t : Fin cfg0.N, win0_4.index t = ![t.val % 8, 0, 0] := (by decide +kernel : ∀ t : Fin grid0.N, _)
theorem index5 : ∀ t : Fin cfg0.N, win0_5.index t = ![t.val / 8, 0] := (by decide +kernel : ∀ t : Fin grid0.N, _)

/-- The expert of a grid point. -/
def expertOf (t : Fin cfg0.N) : Fin 8 := ⟨t.val % 8, Nat.mod_lt _ (by decide)⟩

theorem row_lt (t : Fin cfg0.N) (r : Fin 1024) : t.val / 8 * 1024 + r.val < 65536 := by
  have ht : t.val < 512 := Nat.lt_of_lt_of_eq t.isLt N_0
  have hr := r.isLt
  omega

theorem blkH_at (t : Fin cfg0.N) (r j : Fin 1024) :
    blkH m c t (ix2 r j) = argX m c (ix3 (batchOf _ (row_lt t r)) (posOf (t.val / 8 * 1024 + r.val)) j) := by
  rw [← v1_at m c ⟨_, row_lt t r⟩ j]
  show iblk m c 0 t (ix2 r j) = _
  blk_simp [iblk]
  congr 1
  blk_ext [index0]

theorem blkR_at (t : Fin cfg0.N) (x : Fin 1024) (l : Fin 8) : blkR m c t (ix2 x (lane l)) = argR m c (ix2 x l) := by
  rw [← v3_at m c x l]
  show iblk m c 1 t (ix2 x (lane l)) = _
  blk_simp [iblk]
  congr 1
  blk_ext [index1]

theorem blkW1_at (t : Fin cfg0.N) (x : Fin 1024) (k : Fin 2816) : blkW1 m c t (ix3 0 x k) = argW1 m c (ix3 (expertOf t) x k) := by
  rw [← v4_at m c (expertOf t) x k]
  show iblk m c 2 t (ix3 0 x k) = _
  blk_simp [iblk]
  congr 1
  blk_ext [index2, expertOf]

theorem blkW3_at (t : Fin cfg0.N) (x : Fin 1024) (k : Fin 2816) : blkW3 m c t (ix3 0 x k) = argW3 m c (ix3 (expertOf t) x k) := by
  rw [← v5_at m c (expertOf t) x k]
  show iblk m c 3 t (ix3 0 x k) = _
  blk_simp [iblk]
  congr 1
  blk_ext [index3, expertOf]

theorem blkW2_at (t : Fin cfg0.N) (k : Fin 2816) (j : Fin 1024) : blkW2 m c t (ix3 0 k j) = argW2 m c (ix3 (expertOf t) k j) := by
  rw [← v6_at m c (expertOf t) k j]
  show iblk m c 4 t (ix3 0 k j) = _
  blk_simp [iblk]
  congr 1
  blk_ext [index4, expertOf]

end Proof.Moe
end
-- ==== Proof.Accum.lean ====
module

public import proofs.«01_k».proof.Proof.Blocks

/-!
# The accumulated blocks

A block of tokens is visited eight times, once for every expert. After the visit of expert `e` the accumulator holds, at
every token and column, the reference's sum over the experts up to `e`; after the eighth visit it is written out.
-/

@[expose] public section
set_option maxRecDepth 65536
noncomputable section
namespace Proof.Moe
open Cert.KernelIdeal Cert.KernelIdeal.Gen
open Idealize.ShloMosaic Idealize.ShloMosaic.TcCoe
open scoped BigOperators

variable (m : (ℓ : Loc nD τ sig) → Buf (Elt Ideal) ℓ) (c : Dev nD)

/-- Every token and every router weight is a real number. -/
def RealArgs : Prop := (∀ i, ∃ a : ℝ, argX m c i = (a : EReal)) ∧ (∀ i, ∃ a : ℝ, argR m c i = (a : EReal))

/-- The row of a block's token in the flattened tokens. -/
def rowAt (t : Fin cfg0.N) (r : Fin 1024) : Fin 65536 := ⟨t.val / 8 * 1024 + r.val, row_lt t r⟩

/-- The reference's sum over the first `n` experts, at a row of the flattened tokens. -/
def sumTo (n : ℕ) (y : Fin 65536) (j : Fin 1024) : EReal :=
  upToExpert (argX m c) (argR m c) (argW1 m c) (argW3 m c) (argW2 m c) (batchOf y.val y.isLt) (posOf y.val) j n

theorem sumTo_zero (y : Fin 65536) (j : Fin 1024) : sumTo m c 0 y j = 0 := by
  unfold sumTo upToExpert
  rfl

theorem sumTo_succ (e : Fin 8) (y : Fin 65536) (j : Fin 1024) :
    sumTo m c (e.val + 1) y j = sumTo m c e.val y j
      + term (argX m c) (argR m c) (argW1 m c) (argW3 m c) (argW2 m c) (batchOf y.val y.isLt) (posOf y.val) j e := by
  unfold sumTo
  rw [upToExpert]
  exact dif_pos e.isLt

/-- The accumulator's first contents are zero. -/
theorem zeros_apply (r j : Fin 1024) : k0_pay102 (F := Ideal) (ix2 r j) = (0 : EReal) := by
  unfold k0_pay102
  pointwise

theorem logits_eq (t : Fin cfg0.N) (r : Fin 1024) :
    logits (blkH m c t) (blkR m c t) r
      = refLogits (argX m c) (argR m c) (batchOf (rowAt t r).val (rowAt t r).isLt) (posOf (rowAt t r).val) := by
  funext l
  unfold logits refLogits
  exact Finset.sum_congr rfl fun x _ => by rw [blkH_at, blkR_at]; rfl

theorem ffn_eq (t : Fin cfg0.N) (r j : Fin 1024) :
    ffn (fun i => blkH m c t (ix2 r i)) (blkW1 m c t) (blkW3 m c t) (blkW2 m c t) j
      = expert (argX m c) (argW1 m c) (argW3 m c) (argW2 m c) (batchOf (rowAt t r).val (rowAt t r).isLt) (posOf (rowAt t r).val) j (expertOf t) := by
  unfold ffn unitOf expert
  refine Finset.sum_congr rfl fun k _ => ?_
  rw [blkW2_at]
  refine congrArg (· * _) ?_
  refine congrArg₂ swi ?_ ?_
  · exact Finset.sum_congr rfl fun x _ => by show blkH m c t (ix2 r x) * _ = _; rw [blkH_at, blkW1_at]; rfl
  · exact Finset.sum_congr rfl fun x _ => by show blkH m c t (ix2 r x) * _ = _; rw [blkH_at, blkW3_at]; rfl

theorem real_sum {n : ℕ} (f : Fin n → EReal) (h : ∀ x, ∃ a : ℝ, f x = (a : EReal)) : ∃ a : ℝ, ∑ x, f x = (a : EReal) := by
  choose g hg using h
  refine ⟨∑ x, g x, ?_⟩
  simp only [hg]
  exact (map_sum (⟨⟨Real.toEReal, EReal.coe_zero⟩, EReal.coe_add⟩ : ℝ →+ EReal) g Finset.univ).symm

theorem real_logits (h : RealArgs m c) (b : Fin 32) (s : Fin 2048) (e : Fin 8) : ∃ a : ℝ, refLogits (argX m c) (argR m c) b s e = (a : EReal) := by
  refine real_sum _ fun x => ?_
  obtain ⟨p, hp⟩ := h.1 (ix3 b s x)
  obtain ⟨q, hq⟩ := h.2 (ix2 x e)
  exact ⟨p * q, by rw [hp, hq, EReal.coe_mul]⟩

theorem logits_ne_bot (h : RealArgs m c) (t : Fin cfg0.N) (r : Fin 1024) (l : Fin 8) : logits (blkH m c t) (blkR m c t) r l ≠ ⊥ := by
  rw [logits_eq]
  obtain ⟨a, ha⟩ := real_logits m c h (batchOf (rowAt t r).val (rowAt t r).isLt) (posOf (rowAt t r).val) l
  rw [ha]
  exact EReal.coe_ne_bot a

/-- What one visit adds is the reference's term. -/
theorem visit (h : RealArgs m c) (t : Fin cfg0.N) (A : Vec Ideal S1024x1024 .f32) (r j : Fin 1024)
    (hA : A (ix2 r j) = sumTo m c (t.val % 8) (rowAt t r) j) :
    stepOf (grid0.coords t) (blkH m c t) (blkW1 m c t) (blkW3 m c t) (blkW2 m c t) A (gates (blkH m c t) (blkR m c t)) (ranks (blkH m c t) (blkR m c t)) (ix2 r j)
      = sumTo m c (t.val % 8 + 1) (rowAt t r) j := by
  rw [stepOf_expert (grid0.coords t) _ _ _ _ _ A (logits_ne_bot m c h t) (expertOf t) (coord1 t) r j, hA, logits_eq, ffn_eq,
    ← gate_eq (argX m c) (argR m c) _ _ (real_logits m c h _ _) (expertOf t)]
  exact (sumTo_succ m c (expertOf t) _ j).symm

theorem blkH_same (t u : Fin cfg0.N) (h : t.val / 8 = u.val / 8) : blkH m c t = blkH m c u := by
  funext x
  obtain ⟨r, j, rfl⟩ : ∃ (r j : Fin 1024), x = ix2 r j := ⟨x 0, x 1, by funext a; match a with | 0 => rfl | 1 => rfl⟩
  rw [blkH_at, blkH_at]
  simp only [h]

theorem blkR_same (t u : Fin cfg0.N) : blkR m c t = blkR m c u := by
  funext x
  show iblk m c 1 t x = iblk m c 1 u x
  blk_simp [iblk]
  congr 1
  blk_ext [index1]

/-- What a visit leaves. -/
theorem state_after (h : RealArgs m c) : ∀ n (hn : n < cfg0.N),
    (stateAt m c (n + 1)).gate = gates (blkH m c ⟨n, hn⟩) (blkR m c ⟨n, hn⟩)
      ∧ (stateAt m c (n + 1)).rank = ranks (blkH m c ⟨n, hn⟩) (blkR m c ⟨n, hn⟩)
      ∧ ∀ r j : Fin 1024, (stateAt m c (n + 1)).acc (ix2 r j) = sumTo m c (n % 8 + 1) (rowAt ⟨n, hn⟩ r) j := by
  intro n
  induction n with
  | zero =>
    intro hn
    have hv : visits (grid0.coords ⟨0, hn⟩) = 1#1 := visits_zero _ (coord1 ⟨0, hn⟩)
    rw [stateAt_succ m c ⟨0, hn⟩]
    unfold stepAt stepSt gatesOf ranksOf accOf
    simp only [hv, if_true]
    refine ⟨trivial, trivial, fun r j => visit m c h ⟨0, hn⟩ _ r j ?_⟩
    exact (zeros_apply r j).trans (sumTo_zero m c _ j).symm
  | succ n ih =>
    intro hn
    rw [stateAt_succ m c ⟨n + 1, hn⟩]
    unfold stepAt stepSt
    by_cases h0 : (n + 1) % 8 = 0
    · have hv : visits (grid0.coords ⟨n + 1, hn⟩) = 1#1 := visits_zero _ ((coord1 ⟨n + 1, hn⟩).trans h0)
      unfold gatesOf ranksOf accOf
      simp only [hv, if_true]
      refine ⟨trivial, trivial, fun r j => visit m c h ⟨n + 1, hn⟩ _ r j ?_⟩
      show _ = sumTo m c ((n + 1) % 8) _ _
      rw [h0]
      exact (zeros_apply r j).trans (sumTo_zero m c _ j).symm
    · have hv : visits (grid0.coords ⟨n + 1, hn⟩) ≠ 1#1 := visits_pos _ (by rw [coord1 ⟨n + 1, hn⟩]; exact h0)
      obtain ⟨hg, hr, ha⟩ := ih (by omega)
      have hq : (n + 1) / 8 = n / 8 := by omega
      have hH : blkH m c ⟨n, by omega⟩ = blkH m c ⟨n + 1, hn⟩ := blkH_same m c _ _ hq.symm
      have hR : blkR m c ⟨n, by omega⟩ = blkR m c ⟨n + 1, hn⟩ := blkR_same m c _ _
      rw [hH, hR] at hg hr
      unfold gatesOf ranksOf accOf
      simp only [if_neg hv, hg, hr]
      refine ⟨trivial, trivial, fun r j => visit m c h ⟨n + 1, hn⟩ _ r j ?_⟩
      rw [ha r j]
      have e1 : n % 8 + 1 = (n + 1) % 8 := by omega
      have e2 : rowAt ⟨n, by omega⟩ r = rowAt ⟨n + 1, hn⟩ r := Fin.ext (by show n / 8 * 1024 + _ = (n + 1) / 8 * 1024 + _; rw [hq])
      rw [e1, e2]

/-- The rows of the result before its last reshape. -/
def rows : S65536x1024.Idx → EReal := fun x => sumTo m c 8 (x 0) (x 1)

theorem out_rows (h : RealArgs m c) : (dats m 0 c).arrAt 5 cfg0.N = rows m c := by
  refine (dats m 0 c).arrAt_eq_of_covers 5 (rows m c) (by decide +kernel) fun t hf y => ?_
  have ht : t.val % 8 = 7 := (flush0_5 t).mp hf
  obtain ⟨r, j, rfl⟩ : ∃ (r j : Fin 1024), y = ix2 r j := ⟨y 0, y 1, by funext a; match a with | 0 => rfl | 1 => rfl⟩
  refine ((state_after m c h t.val t.isLt).2.2 r j).trans ?_
  rw [ht]
  unfold rows
  refine congrArg₂ (sumTo m c 8) ?_ ?_
  · refine Fin.ext ?_
    show _ = ((((cfg0.win 5).blk t).view.emb (ix2 r j)) 0 : ℕ)
    blk_simp [index5, rowAt]
  · refine Fin.ext ?_
    show _ = ((((cfg0.win 5).blk t).view.emb (ix2 r j)) 1 : ℕ)
    blk_simp [index5]

end Proof.Moe
end
-- ==== Proof.Equation.lean ====
module

public import proofs.«01_k».proof.Proof.Accum
public import proofs.«01_k».proof.Proof.Frames
public import proofs.«01_k».proof.Proof.Gen.ReferenceIdeal.Read

/-!
# The kernel's result is the reference's

Under the precondition every token and every router weight is real. Then the rows the kernel writes are the reference's
sums over all eight experts, and the last reshape of the kernel gives them the reference's shape.
-/

@[expose] public section
set_option maxRecDepth 65536
noncomputable section
namespace Proof.Moe
open Idealize.ShloMosaic Idealize.ShloMosaic.TcCoe Idealize.SL.Sem

/-- A value whose size lies below infinity is real. -/
theorem real_of_below (a : EReal) (h : Ideal.cmp .olt (max a (-a)) (Ideal.ofBits .f32 0x7F800000#32) = 1#1) :
    ∃ x : ℝ, a = (x : EReal) := by
  have htop : Ideal.ofBits .f32 0x7F800000#32 = ⊤ := by simp [Ideal.ofBits, Ideal.ieee]
  rw [htop] at h
  have hlt : max a (-a) < ⊤ := by
    by_contra hn
    have : Ideal.cmp .olt (max a (-a)) ⊤ = 0#1 := by
      simp only [Ideal.cmp, hn, decide_false]
      rfl
    rw [this] at h
    exact absurd h (by decide)
  induction a with
  | bot => exact absurd hlt (by simp)
  | top => exact absurd hlt (by simp)
  | coe x => exact ⟨x, rfl⟩

section
open Cert.KernelIdeal Cert.KernelIdeal.Gen
variable (m : (ℓ : Loc nD τ sig) → Buf (Elt Ideal) ℓ) (c : Dev nD)

theorem realArgs_of_pre (h : Cert.Pre_KernelIdeal_finite_tokens_and_router m) : RealArgs m c := by
  refine ⟨fun i => ?_, fun i => ?_⟩
  · exact real_of_below _ (congrFun (h c).1 i)
  · exact real_of_below _ (congrFun (h c).2 i)

/-- The kernel's result. -/
def result : S32x2048x1024.Idx → EReal := fun x =>
  Cert.ReferenceIdeal.Read.val_main_v137 (F := Ideal) (argX m c) (argR m c) (argW1 m c) (argW3 m c) (argW2 m c) x

theorem result_at (h : RealArgs m c) : Pipeline.afterTail₀ cfgs (dats m) 0 (V0 m) [hostOps1] c main_v8 = result m c := by
  funext x
  obtain ⟨b, s, j, rfl⟩ : ∃ (b : Fin 32) (s : Fin 2048) (j : Fin 1024), x = ix3 b s j :=
    ⟨x 0, x 1, x 2, by funext a; match a with | 0 => rfl | 1 => rfl | 2 => rfl⟩
  unfold result
  rw [result_eq]
  unfold Pipeline.afterTail₀
  after_reads_at
  refine (congrFun (Pipeline.withArrays_arr spec0 (by decide) c (V0 m c) (fun w => (dats m 0 c).arrAt w cfg0.N) 5) _).trans ?_
  rw [out_rows m c h]
  show sumTo m c 8 ⟨b.val * 2048 + s.val, _⟩ j = _
  unfold sumTo
  have hb : batchOf (b.val * 2048 + s.val) (by omega) = b := Fin.ext (by show (b.val * 2048 + s.val) / 2048 = b.val; omega)
  have hs : posOf (b.val * 2048 + s.val) = s := Fin.ext (by show (b.val * 2048 + s.val) % 2048 = s.val; omega)
  rw [hb, hs]
end

section
open Cert.ReferenceIdeal

/-- The reference takes equal arguments to equal results. -/
theorem reference_congr {x0 y0 : FVec Ideal S32x2048x1024 .f32} {x1 y1 : FVec Ideal S1024x8 .f32} {x2 y2 x3 y3 : FVec Ideal S8x1024x2816 .f32}
    {x4 y4 : FVec Ideal S8x2816x1024 .f32} (h0 : x0 = y0) (h1 : x1 = y1) (h2 : x2 = y2) (h3 : x3 = y3) (h4 : x4 = y4) :
    Read.val_main_v137 (F := Ideal) x0 x1 x2 x3 x4 = Read.val_main_v137 (F := Ideal) y0 y1 y2 y3 y4 := by
  rw [h0, h1, h2, h3, h4]
end

theorem algebraic_moe : Cert.algebraic_KernelIdeal_ReferenceIdeal_pre_finite_tokens_and_router := fun m ρ m' ρ' hpre hagree => by
  refine ⟨fun c => result m c, ?_, ?_⟩
  · refine (θ_run Cert.KernelIdeal.defs _ _).mono (fun r h c => ⟨?_, h.args m c⟩) (run_main (F := Ideal) m ρ)
    exact ((h.1 c).2 Cert.KernelIdeal.main_v8 (Pipeline.mem_restRefs_of Cert.KernelIdeal.main_v8 (by decide) (by decide))).trans
      (result_at m c (realArgs_of_pre m c hpre))
  · refine (θ_run Cert.ReferenceIdeal.defs _ _).mono (fun r h c => ⟨?_, (h c).2⟩) (Cert.ReferenceIdeal.Value.run (F := Ideal) m' ρ')
    refine ((h c).1.trans (Cert.ReferenceIdeal.Read.val_main_v137_eq (F := Ideal) (StableHlo.launchContents m' c))).trans ?_
    obtain ⟨h0, h1, h2, h3, h4⟩ := hagree c
    exact reference_congr h0 h1 h2 h3 h4

end Proof.Moe
end
-- ==== Proof.Dense.lean ====
module

public import proofs.«01_k».proof.Defs
public import proofs.«01_k».proof.Proof.Ffn
public import proofs.«01_k».proof.Proof.Gen.Kernel2
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.ReadAt

/-!
# The dense feed-forward

The kernel goes through the hidden units in eleven chunks of 256 for a block of 512 rows, then normalises, scales, gates
and adds the result to the residual stream; the reference sums over the hidden units at once.
-/

@[expose] public section
set_option maxRecDepth 65536
noncomputable section
namespace Proof.Dense
open Cert.Kernel2Ideal Cert.Kernel2Ideal.Gen Cert.Reference2Ideal.Read
open Proof.Moe (Tab mm act mm_apply act_apply swi sum_chunks)
open Idealize.ShloMosaic Idealize.ShloMosaic.TcCoe Idealize.SL.Sem
open scoped BigOperators

section chunks
variable {F : FTy → Type} [FloatOps F]

/-- Columns `o` to `o + 256` of the first or third matrix. -/
def colsOf (W : Vec F S1024x2816 .bf16) (o : ℕ) (h : ∀ i : Fin 2, (![0, o] : Fin 2 → ℕ) i + S1024x256.size i ≤ S1024x2816.size i) :
    FVec F (Tab 1024 256) .bf16 :=
  shapeCast S1024x256 (View.ld W (Rect.unit (s := S1024x2816) ![0, o] S1024x256.size h)) shapeCasts_S1024x256_S1024x256

/-- Rows `o` to `o + 256` of the second matrix. -/
def rowsOf (W : Vec F S2816x1024 .bf16) (o : ℕ) (h : ∀ i : Fin 2, (![o, 0] : Fin 2 → ℕ) i + S256x1024.size i ≤ S2816x1024.size i) :
    FVec F (Tab 256 1024) .bf16 :=
  shapeCast S256x1024 (View.ld W (Rect.unit (s := S2816x1024) ![o, 0] S256x1024.size h)) shapeCasts_S256x1024_S256x1024

/-- One chunk of the feed-forward. -/
def part (X : FVec F (Tab 512 1024) .bf16) (V1 V3 : FVec F (Tab 1024 256) .bf16) (V2 : FVec F (Tab 256 1024) .bf16) : FVec F (Tab 512 1024) .f32 :=
  mm (act (mm X V1) (mm X V3)) V2

/-- The eleven chunks added up. -/
def whole (X : FVec F (Tab 512 1024) .bf16) (W1 W3 : Vec F S1024x2816 .bf16) (W2 : Vec F S2816x1024 .bf16) : FVec F (Tab 512 1024) .f32 :=
  addf (addf (addf (addf (addf (addf (addf (addf (addf (addf (addf (broadcast (Tab 512 1024) (Scalar.ofBits .f32 0x00000000#32))
    (part X (colsOf W1 0 inb_S1024x2816_S1024x256_0_0) (colsOf W3 0 inb_S1024x2816_S1024x256_0_0) (rowsOf W2 0 inb_S2816x1024_S256x1024_0_0)))
    (part X (colsOf W1 256 inb_S1024x2816_S1024x256_0_256) (colsOf W3 256 inb_S1024x2816_S1024x256_0_256) (rowsOf W2 256 inb_S2816x1024_S256x1024_256_0)))
    (part X (colsOf W1 512 inb_S1024x2816_S1024x256_0_512) (colsOf W3 512 inb_S1024x2816_S1024x256_0_512) (rowsOf W2 512 inb_S2816x1024_S256x1024_512_0)))
    (part X (colsOf W1 768 inb_S1024x2816_S1024x256_0_768) (colsOf W3 768 inb_S1024x2816_S1024x256_0_768) (rowsOf W2 768 inb_S2816x1024_S256x1024_768_0)))
    (part X (colsOf W1 1024 inb_S1024x2816_S1024x256_0_1024) (colsOf W3 1024 inb_S1024x2816_S1024x256_0_1024) (rowsOf W2 1024 inb_S2816x1024_S256x1024_1024_0)))
    (part X (colsOf W1 1280 inb_S1024x2816_S1024x256_0_1280) (colsOf W3 1280 inb_S1024x2816_S1024x256_0_1280) (rowsOf W2 1280 inb_S2816x1024_S256x1024_1280_0)))
    (part X (colsOf W1 1536 inb_S1024x2816_S1024x256_0_1536) (colsOf W3 1536 inb_S1024x2816_S1024x256_0_1536) (rowsOf W2 1536 inb_S2816x1024_S256x1024_1536_0)))
    (part X (colsOf W1 1792 inb_S1024x2816_S1024x256_0_1792) (colsOf W3 1792 inb_S1024x2816_S1024x256_0_1792) (rowsOf W2 1792 inb_S2816x1024_S256x1024_1792_0)))
    (part X (colsOf W1 2048 inb_S1024x2816_S1024x256_0_2048) (colsOf W3 2048 inb_S1024x2816_S1024x256_0_2048) (rowsOf W2 2048 inb_S2816x1024_S256x1024_2048_0)))
    (part X (colsOf W1 2304 inb_S1024x2816_S1024x256_0_2304) (colsOf W3 2304 inb_S1024x2816_S1024x256_0_2304) (rowsOf W2 2304 inb_S2816x1024_S256x1024_2304_0)))
    (part X (colsOf W1 2560 inb_S1024x2816_S1024x256_0_2560) (colsOf W3 2560 inb_S1024x2816_S1024x256_0_2560) (rowsOf W2 2560 inb_S2816x1024_S256x1024_2560_0))

/-- What a grid point stores is the residual of the chunks' sum. -/
theorem out_eq (x0 : Vec F S512x1024 .bf16) (x1 : Vec F S512x1024 .f32) (x2 : Vec F S1x1x1024 .f32) (x3 : Vec F S1x1024 .f32) (x4 x5 : Vec F S1024x2816 .bf16) (x6 : Vec F S2816x1024 .bf16) :
    out0_7 x0 x1 x2 x3 x4 x5 x6 = View.canon [⟨r0_0, k0_pay1 (whole (k0_pay2 (View.ld x0 r0_0)) x4 x5 x6) (View.ld x1 r0_0) (View.ld x2 r0_23) (View.ld x3 r0_24)⟩] := rfl
end chunks

/-- Hidden unit `k` of a row `x`, with its weight in coordinate `j` of the result. -/
def unitOf (x : Fin 1024 → EReal) (W1 W3 : S1024x2816.Idx → EReal) (W2 : S2816x1024.Idx → EReal) (j : Fin 1024) (k : Fin 2816) : EReal :=
  swi (∑ i : Fin 1024, x i * W1 (ix2 i k)) (∑ i : Fin 1024, x i * W3 (ix2 i k)) * W2 (ix2 k j)

/-- Coordinate `j` of the feed-forward of a row `x`. -/
def ffn (x : Fin 1024 → EReal) (W1 W3 : S1024x2816.Idx → EReal) (W2 : S2816x1024.Idx → EReal) (j : Fin 1024) : EReal :=
  ∑ k : Fin 2816, unitOf x W1 W3 W2 j k

theorem colsOf_apply (W : Vec Ideal S1024x2816 .bf16) (o : ℕ) (h) (ho : o + 256 ≤ 2816) (i : Fin 1024) (k : Fin 256) :
    colsOf W o h (ix2 i k) = W (ix2 i ⟨o + k.val, by omega⟩) := by
  pointwise [colsOf]

theorem rowsOf_apply (W : Vec Ideal S2816x1024 .bf16) (o : ℕ) (h) (ho : o + 256 ≤ 2816) (k : Fin 256) (j : Fin 1024) :
    rowsOf W o h (ix2 k j) = W (ix2 ⟨o + k.val, by omega⟩ j) := by
  pointwise [rowsOf]

theorem part_apply (X : FVec Ideal (Tab 512 1024) .bf16) (W1 W3 : Vec Ideal S1024x2816 .bf16) (W2 : Vec Ideal S2816x1024 .bf16)
    (o : ℕ) (h1) (h2) (ho : o + 256 ≤ 2816) (s : Fin 512) (j : Fin 1024) :
    part X (colsOf W1 o h1) (colsOf W3 o h1) (rowsOf W2 o h2) (ix2 s j)
      = ∑ k : Fin 256, unitOf (fun i => X (ix2 s i)) W1 W3 W2 j ⟨o + k.val, by omega⟩ := by
  unfold part
  rw [mm_apply]
  refine Finset.sum_congr rfl fun k _ => ?_
  rw [act_apply, mm_apply, mm_apply, rowsOf_apply W2 o h2 ho]
  simp only [colsOf_apply _ o h1 ho]
  rfl

/-- The chunks together are the feed-forward of each row. -/
theorem whole_apply (X : FVec Ideal (Tab 512 1024) .bf16) (W1 W3 : Vec Ideal S1024x2816 .bf16) (W2 : Vec Ideal S2816x1024 .bf16)
    (s : Fin 512) (j : Fin 1024) : whole X W1 W3 W2 (ix2 s j) = ffn (fun i => X (ix2 s i)) W1 W3 W2 j := by
  unfold whole ffn
  rw [← sum_chunks]
  simp only [addf_apply, Ideal.addf_def]
  rw [part_apply X W1 W3 W2 0 _ _ (by omega), part_apply X W1 W3 W2 256 _ _ (by omega), part_apply X W1 W3 W2 512 _ _ (by omega), part_apply X W1 W3 W2 768 _ _ (by omega), part_apply X W1 W3 W2 1024 _ _ (by omega), part_apply X W1 W3 W2 1280 _ _ (by omega), part_apply X W1 W3 W2 1536 _ _ (by omega), part_apply X W1 W3 W2 1792 _ _ (by omega), part_apply X W1 W3 W2 2048 _ _ (by omega), part_apply X W1 W3 W2 2304 _ _ (by omega), part_apply X W1 W3 W2 2560 _ _ (by omega)]
  have hz : (broadcast (Tab 512 1024) (Scalar.ofBits .f32 0x00000000#32) : FVec Ideal (Tab 512 1024) .f32) (ix2 s j) = 0 := by pointwise
  rw [hz]

/-- The reference's feed-forward of a row. -/
theorem ref_ffn (x0 : S32x2048x1024.Idx → EReal) (x4 x5 : S1024x2816.Idx → EReal) (x6 : S2816x1024.Idx → EReal) (b : Fin 32) (s : Fin 2048) (j : Fin 1024) :
    val_main_v12 (F := Ideal) x0 x4 x5 x6 (ix3 b s j) = ffn (fun i => x0 (ix3 b s i)) x4 x5 x6 j := by
  unfold ffn unitOf swi
  pointwise [val_main_v8, val_main_call0_v0, val_main_call0_v1, val_main_call0_cst, val_main_call0_v2, val_main_call0_v3, val_main_call0_cst_0, val_main_call0_v4, val_main_call0_v5, val_main_v9, val_main_v10, val_main_v11, val_main_v12]
  simp only [zero_sub]

variable (m : (ℓ : Loc nD τ sig) → Buf (Elt Ideal) ℓ) (c : Dev nD)

/-- The arguments: the tokens, the residual stream, the modulations, the norm's weight and the three matrices. -/
abbrev argF : S32x2048x1024.Idx → EReal := m (c.tc.loc main_arg0)
abbrev argX : S32x2048x1024.Idx → EReal := m (c.tc.loc main_arg1)
abbrev argM : S40x6144.Idx → EReal := m (c.tc.loc main_arg2)
abbrev argG : S1024.Idx → EReal := m (c.tc.loc main_arg3)
abbrev argW1 : S1024x2816.Idx → EReal := m (c.tc.loc main_arg4)
abbrev argW3 : S1024x2816.Idx → EReal := m (c.tc.loc main_arg5)
abbrev argW2 : S2816x1024.Idx → EReal := m (c.tc.loc main_arg6)

/-- The batch entry and the position of a row of the flattened stream. -/
def batchOf (n : ℕ) (h : n < 65536) : Fin 32 := ⟨n / 2048, by omega⟩
def posOf (n : ℕ) : Fin 2048 := ⟨n % 2048, Nat.mod_lt _ (by decide)⟩

theorem v5_at (n : Fin 65536) (j : Fin 1024) : V m c main_v5 (ix2 n j) = argF m c (ix3 (batchOf n.val n.isLt) (posOf n.val) j) := by
  unfold V V0
  after_reads_at
  rfl

theorem v6_at (n : Fin 65536) (j : Fin 1024) : V m c main_v6 (ix2 n j) = argX m c (ix3 (batchOf n.val n.isLt) (posOf n.val) j) := by
  unfold V V0
  after_reads_at
  rfl

theorem v0_at (b : Fin 40) (j : Fin 6144) : V m c main_v0 (ix3 b 0 j) = argM m c (ix2 b j) := by
  unfold V V0
  after_reads_at

theorem v7_at (j : Fin 1024) : V m c main_v7 (ix2 0 j) = argG m c (ix1 j) := by
  unfold V V0
  after_reads_at

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val / 4, 0, 5] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem row_lt (t : Fin cfg0.N) (r : Fin 512) : t.val * 512 + r.val < 65536 := by
  have ht : t.val < 128 := Nat.lt_of_lt_of_eq t.isLt N_0
  have hr := r.isLt
  omega

theorem blkF_at (t : Fin cfg0.N) (r : Fin 512) (j : Fin 1024) :
    iblk m c 0 t (ix2 r j) = argF m c (ix3 (batchOf _ (row_lt t r)) (posOf (t.val * 512 + r.val)) j) := by
  rw [← v5_at m c ⟨_, row_lt t r⟩ j]
  blk_simp [iblk]
  congr 1
  blk_ext [index0]

theorem blkX_at (t : Fin cfg0.N) (r : Fin 512) (j : Fin 1024) :
    iblk m c 1 t (ix2 r j) = argX m c (ix3 (batchOf _ (row_lt t r)) (posOf (t.val * 512 + r.val)) j) := by
  rw [← v6_at m c ⟨_, row_lt t r⟩ j]
  blk_simp [iblk]
  congr 1
  blk_ext [index1]

/-- The row of modulations of a batch entry, and a column of its part `p`. -/
def rowM (b : Fin 32) : Fin 40 := ⟨b.val, by have := b.isLt; omega⟩
def colM (p : ℕ) (hp : p < 6) (j : Fin 1024) : Fin 6144 := ⟨p * 1024 + j.val, by have := j.isLt; omega⟩

theorem blkM_at (t : Fin cfg0.N) (r : Fin 512) (j : Fin 1024) :
    iblk m c 2 t (ix3 0 0 j) = argM m c (ix2 (rowM (batchOf _ (row_lt t r))) (colM 5 (by decide) j)) := by
  rw [← v0_at m c _ _]
  have hr := r.isLt
  have hb : (rowM (batchOf _ (row_lt t r))).val = t.val / 4 := by
    show (t.val * 512 + r.val) / 2048 = _
    omega
  blk_simp [iblk]
  congr 1
  blk_ext [index2, hb, colM]

theorem blkG_at (t : Fin cfg0.N) (j : Fin 1024) : iblk m c 3 t (ix2 0 j) = argG m c (ix1 j) := by
  rw [← v7_at m c j]
  blk_simp [iblk]
  congr 1
  blk_ext [index3]

theorem blkW1_eq (t : Fin cfg0.N) : iblk m c 4 t = argW1 m c := by
  funext x
  obtain ⟨i, k, rfl⟩ : ∃ (i : Fin 1024) (k : Fin 2816), x = ix2 i k := ⟨x 0, x 1, by funext a; match a with | 0 => rfl | 1 => rfl⟩
  have h : V m c main_v1 (ix2 i k) = argW1 m c (ix2 i k) := by
    unfold V V0
    after_reads_at
  rw [← h]
  blk_simp [iblk]
  congr 1
  blk_ext [index4]

theorem blkW3_eq (t : Fin cfg0.N) : iblk m c 5 t = argW3 m c := by
  funext x
  obtain ⟨i, k, rfl⟩ : ∃ (i : Fin 1024) (k : Fin 2816), x = ix2 i k := ⟨x 0, x 1, by funext a; match a with | 0 => rfl | 1 => rfl⟩
  have h : V m c main_v2 (ix2 i k) = argW3 m c (ix2 i k) := by
    unfold V V0
    after_reads_at
  rw [← h]
  blk_simp [iblk]
  congr 1
  blk_ext [index5]

theorem blkW2_eq (t : Fin cfg0.N) : iblk m c 6 t = argW2 m c := by
  funext x
  obtain ⟨i, k, rfl⟩ : ∃ (i : Fin 2816) (k : Fin 1024), x = ix2 i k := ⟨x 0, x 1, by funext a; match a with | 0 => rfl | 1 => rfl⟩
  have h : V m c main_v3 (ix2 i k) = argW2 m c (ix2 i k) := by
    unfold V V0
    after_reads_at
  rw [← h]
  blk_simp [iblk]
  congr 1
  blk_ext [index6]

/-- The kernel's result: the reference's value of the kernel's arguments. -/
def result : S32x2048x1024.Idx → EReal := val_main_v28 (F := Ideal) (argF m c) (argX m c) (argM m c) (argG m c) (argW1 m c) (argW3 m c) (argW2 m c)

/-- The same, by rows of the flattened stream. -/
def rows : S65536x1024.Idx → EReal := fun x => result m c (ix3 (batchOf (x 0).val (x 0).isLt) (posOf (x 0).val) (x 1))

/-- What a grid point computes, from its blocks. -/
abbrev paid (t : Fin cfg0.N) : FVec Ideal S512x1024 .f32 :=
  k0_pay1 (whole (k0_pay2 (iblk m c 0 t)) (iblk m c 4 t) (iblk m c 5 t) (iblk m c 6 t)) (iblk m c 1 t) (iblk m c 2 t) (iblk m c 3 t)

theorem out_at (t : Fin cfg0.N) (r : Fin 512) (j : Fin 1024) :
    paid m c t (ix2 r j) = result m c (ix3 (batchOf _ (row_lt t r)) (posOf (t.val * 512 + r.val)) j) := by
  have hx (i : Fin 1024) : k0_pay2 (F := Ideal) (iblk m c 0 t) (ix2 r i) = argF m c (ix3 (batchOf _ (row_lt t r)) (posOf (t.val * 512 + r.val)) i) := by
    rw [← blkF_at]
    pointwise [k0_pay2]
  have hw (j : Fin 1024) : whole (k0_pay2 (F := Ideal) (iblk m c 0 t)) (iblk m c 4 t) (iblk m c 5 t) (iblk m c 6 t) (ix2 r j)
      = val_main_v12 (F := Ideal) (argF m c) (argW1 m c) (argW3 m c) (argW2 m c) (ix3 (batchOf _ (row_lt t r)) (posOf (t.val * 512 + r.val)) j) := by
    rw [ref_ffn, blkW1_eq, blkW3_eq, blkW2_eq, whole_apply]
    simp only [hx]
  unfold result
  pointwise [paid, k0_pay1, val_main_v0, val_main_v1, val_main_v2, val_main_v3, val_main_v4, val_main_v5, val_main_v6, val_main_v7, val_main_v13, val_main_cst, val_main_v14, val_main_v15, val_main_cst_0, val_main_v16, val_main_v17, val_main_cst_1, val_main_v18, val_main_v19, val_main_v20, val_main_v21, val_main_v22, val_main_v23, val_main_v24, val_main_v25, val_main_v26, val_main_v27, val_main_v28]
  simp only [hw, blkX_at, blkG_at, blkM_at m c t r]
  rfl

theorem point (t : Fin cfg0.N) (r : Fin 512) (j : Fin 1024) :
    paid m c t (ix2 r j) = rows m c (((cfg0.win 7).blk t).view.emb (ix2 r j)) := by
  have he : ((cfg0.win 7).blk t).view.emb (ix2 r j) = ix2 (⟨t.val * 512 + r.val, row_lt t r⟩ : Fin 65536) j := by
    blk_ext [index7]
  rw [out_at, he]
  rfl

theorem out_rows : (dats m 0 c).arrAt 7 cfg0.N = rows m c := by
  refine (dats m 0 c).arrAt_eq_of_covers 7 (rows m c) (by decide +kernel) fun t _ y => ?_
  obtain ⟨r, j, rfl⟩ : ∃ (r : Fin 512) (j : Fin 1024), y = ix2 r j := ⟨y 0, y 1, by funext a; match a with | 0 => rfl | 1 => rfl⟩
  blk_simp
  rw [after0_7, out_eq]
  frame_out
  exact point m c t r j

/-- The host's result is the reference's value. -/
theorem result_at : Pipeline.afterTail₀ cfgs (dats m) 0 (V0 m) [hostOps1] c main_v9 = result m c := by
  funext x
  obtain ⟨b, s, j, rfl⟩ : ∃ (b : Fin 32) (s : Fin 2048) (j : Fin 1024), x = ix3 b s j :=
    ⟨x 0, x 1, x 2, by funext a; match a with | 0 => rfl | 1 => rfl | 2 => rfl⟩
  have hb := b.isLt
  have hs := s.isLt
  unfold Pipeline.afterTail₀
  after_reads_at
  refine (congrFun (Pipeline.withArrays_arr spec0 (by decide) c (V0 m c) (fun w => (dats m 0 c).arrAt w cfg0.N) 7) _).trans ?_
  rw [out_rows]
  have hb' : batchOf (b.val * 2048 + s.val) (by omega) = b := Fin.ext (by show (b.val * 2048 + s.val) / 2048 = b.val; omega)
  have hs' : posOf (b.val * 2048 + s.val) = s := Fin.ext (by show (b.val * 2048 + s.val) % 2048 = s.val; omega)
  show result m c (ix3 (batchOf (b.val * 2048 + s.val) _) (posOf (b.val * 2048 + s.val)) j) = _
  rw [hb', hs']

/-- The reference's value depends on its arguments alone. -/
theorem reference_congr {x0 y0 : S32x2048x1024.Idx → EReal} {x1 y1 : S32x2048x1024.Idx → EReal} {x2 y2 : S40x6144.Idx → EReal} {x3 y3 : S1024.Idx → EReal}
    {x4 y4 x5 y5 : S1024x2816.Idx → EReal} {x6 y6 : S2816x1024.Idx → EReal}
    (h0 : x0 = y0) (h1 : x1 = y1) (h2 : x2 = y2) (h3 : x3 = y3) (h4 : x4 = y4) (h5 : x5 = y5) (h6 : x6 = y6) :
    val_main_v28 (F := Ideal) x0 x1 x2 x3 x4 x5 x6 = val_main_v28 (F := Ideal) y0 y1 y2 y3 y4 y5 y6 := by
  rw [h0, h1, h2, h3, h4, h5, h6]

/-- The kernel and the reference end with the same result. -/
theorem algebraic_dense : Cert.algebraic_Kernel2Ideal_Reference2Ideal := fun m ρ m' ρ' _ hagree => by
  refine ⟨fun c => result m c, ?_, ?_⟩
  · refine (θ_run Cert.Kernel2Ideal.defs _ _).mono (fun r h c => ⟨?_, h.2 c⟩) (θ_run_and (run_main (F := Ideal) m ρ) (unchanged (F := Ideal) m ρ))
    exact ((h.1 c).2 Cert.Kernel2Ideal.main_v9 (Pipeline.mem_restRefs_of Cert.Kernel2Ideal.main_v9 (by decide) (by decide))).trans (result_at m c)
  · refine (θ_run Cert.Reference2Ideal.defs _ _).mono (fun r h c => ⟨?_, (h c).2⟩) (Cert.Reference2Ideal.Value.run (F := Ideal) m' ρ')
    refine ((h c).1.trans (Cert.Reference2Ideal.Read.val_main_v28_eq (F := Ideal) _ _ _ _ _ _ _)).trans ?_
    obtain ⟨h0, h1, h2, h3, h4, h5, h6⟩ := hagree c
    exact reference_congr h0 h1 h2 h3 h4 h5 h6

end Proof.Dense
end
-- ==== Proof.Merge.lean ====
module

public import proofs.«01_k».proof.Defs
public import proofs.«01_k».proof.Proof.Gen.Kernel3
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.ReadAt

/-!
# The merge of the branches

Three branches are projected, gated, added and projected once more; the sum is normalised, gated and added to the residual
stream, and the stream's next norm is modulated. The kernel does it in blocks of 512 rows of the flattened streams.
-/

@[expose] public section
set_option maxRecDepth 65536
noncomputable section
namespace Proof.Merge
open Cert.Kernel3Ideal Cert.Kernel3Ideal.Gen Cert.Reference3Ideal.Read
open Idealize.ShloMosaic Idealize.ShloMosaic.TcCoe Idealize.SL.Sem
open scoped BigOperators

variable (m : (ℓ : Loc nD τ sig) → Buf (Elt Ideal) ℓ) (c : Dev nD)

/-- The arguments: the three branches, the input projection, the residual stream, the modulations, the weights of the two
norms, the branches' projections and the output projection. -/
abbrev argA : S32x2048x512.Idx → EReal := m (c.tc.loc main_arg0)
abbrev argB : S32x2048x512.Idx → EReal := m (c.tc.loc main_arg1)
abbrev argC : S32x2048x512.Idx → EReal := m (c.tc.loc main_arg2)
abbrev argZ : S32x2048x7168.Idx → EReal := m (c.tc.loc main_arg3)
abbrev argX : S32x2048x1024.Idx → EReal := m (c.tc.loc main_arg4)
abbrev argM : S40x6144.Idx → EReal := m (c.tc.loc main_arg5)
abbrev argPost : S1024.Idx → EReal := m (c.tc.loc main_arg6)
abbrev argPre : S1024.Idx → EReal := m (c.tc.loc main_arg7)
abbrev argWa : S512x1024.Idx → EReal := m (c.tc.loc main_arg8)
abbrev argWb : S512x1024.Idx → EReal := m (c.tc.loc main_arg9)
abbrev argWc : S512x1024.Idx → EReal := m (c.tc.loc main_arg10)
abbrev argWo : S1024x1024.Idx → EReal := m (c.tc.loc main_arg11)

/-- The batch entry and the position of a row of the flattened stream. -/
def batchOf (n : ℕ) (h : n < 65536) : Fin 32 := ⟨n / 2048, by omega⟩
def posOf (n : ℕ) : Fin 2048 := ⟨n % 2048, Nat.mod_lt _ (by decide)⟩

/-- The row of modulations of a batch entry, and a column of its part `p`. -/
def rowM (b : Fin 32) : Fin 40 := ⟨b.val, by have := b.isLt; omega⟩
def colM (p : ℕ) (hp : p < 6) (j : Fin 1024) : Fin 6144 := ⟨p * 1024 + j.val, by have := j.isLt; omega⟩

/-- A column of part `p` of the input projection. -/
def colZ (p : ℕ) (hp : p < 7) (j : Fin 1024) : Fin 7168 := ⟨p * 1024 + j.val, by have := j.isLt; omega⟩

theorem colZ_five (h : 5 < 7) (j : Fin 1024) : colZ 5 h j = ⟨4096 + (1024 + j.val), by have := j.isLt; omega⟩ :=
  Fin.ext (by show 5 * 1024 + j.val = 4096 + (1024 + j.val); omega)
theorem colZ_six (h : 6 < 7) (j : Fin 1024) : colZ 6 h j = ⟨4096 + (2048 + j.val), by have := j.isLt; omega⟩ :=
  Fin.ext (by show 6 * 1024 + j.val = 4096 + (2048 + j.val); omega)

theorem row_lt (t : Fin cfg0.N) (r : Fin 512) : t.val * 512 + r.val < 65536 := by
  have ht : t.val < 128 := Nat.lt_of_lt_of_eq t.isLt N_0
  have hr := r.isLt
  omega

theorem hostA_at (n : Fin 65536) (j : Fin 512) : V m c main_v6 (ix2 n j) = argA m c (ix3 (batchOf n.val n.isLt) (posOf n.val) j) := by
  unfold V V0
  after_reads_at
  rfl

theorem hostB_at (n : Fin 65536) (j : Fin 512) : V m c main_v8 (ix2 n j) = argB m c (ix3 (batchOf n.val n.isLt) (posOf n.val) j) := by
  unfold V V0
  after_reads_at
  rfl

theorem hostC_at (n : Fin 65536) (j : Fin 512) : V m c main_v10 (ix2 n j) = argC m c (ix3 (batchOf n.val n.isLt) (posOf n.val) j) := by
  unfold V V0
  after_reads_at
  rfl

theorem hostZ_at (n : Fin 65536) (j : Fin 7168) : V m c main_v12 (ix2 n j) = argZ m c (ix3 (batchOf n.val n.isLt) (posOf n.val) j) := by
  unfold V V0
  after_reads_at
  rfl

theorem hostX_at (n : Fin 65536) (j : Fin 1024) : V m c main_v13 (ix2 n j) = argX m c (ix3 (batchOf n.val n.isLt) (posOf n.val) j) := by
  unfold V V0
  after_reads_at
  rfl

theorem hostM_at (b : Fin 40) (j : Fin 6144) : V m c main_v0 (ix3 b 0 j) = argM m c (ix2 b j) := by
  unfold V V0
  after_reads_at

theorem hostPost_at (j : Fin 1024) : V m c main_v14 (ix2 0 j) = argPost m c (ix1 j) := by
  unfold V V0
  after_reads_at

theorem hostPre_at (j : Fin 1024) : V m c main_v15 (ix2 0 j) = argPre m c (ix1 j) := by
  unfold V V0
  after_reads_at

theorem hostWa_at (i : Fin 512) (j : Fin 1024) : V m c main_v1 (ix2 i j) = argWa m c (ix2 i j) := by
  unfold V V0
  after_reads_at

theorem hostWb_at (i : Fin 512) (j : Fin 1024) : V m c main_v2 (ix2 i j) = argWb m c (ix2 i j) := by
  unfold V V0
  after_reads_at

theorem hostWc_at (i : Fin 512) (j : Fin 1024) : V m c main_v3 (ix2 i j) = argWc m c (ix2 i j) := by
  unfold V V0
  after_reads_at

theorem hostWo_at (i : Fin 1024) (j : Fin 1024) : V m c main_v4 (ix2 i j) = argWo m c (ix2 i j) := by
  unfold V V0
  after_reads_at

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 4] := (by decide +kernel : ∀ t : Fin grid0.N, _)
theorem index4 : ∀ t : Fin cfg0.N, win0_4.index t = ![t.val, 5] := (by decide +kernel : ∀ t : Fin grid0.N, _)
theorem index5 : ∀ t : Fin cfg0.N, win0_5.index t = ![t.val, 6] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val / 4, 0, 2] := (by decide +kernel : ∀ t : Fin grid0.N, _)
theorem index8 : ∀ t : Fin cfg0.N, win0_8.index t = ![t.val / 4, 0, 3] := (by decide +kernel : ∀ t : Fin grid0.N, _)
theorem index9 : ∀ t : Fin cfg0.N, win0_9.index t = ![t.val / 4, 0, 4] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![t.val, 0] := (by decide +kernel : ∀ t : Fin grid0.N, _)
theorem index17 : ∀ t : Fin cfg0.N, win0_17.index t = ![t.val, 0] := (by decide +kernel : ∀ t : Fin grid0.N, _)

theorem blkA_at (t : Fin cfg0.N) (r : Fin 512) (j : Fin 512) :
    iblk m c 0 t (ix2 r j) = argA m c (ix3 (batchOf _ (row_lt t r)) (posOf (t.val * 512 + r.val)) j) := by
  rw [← hostA_at m c ⟨_, row_lt t r⟩ j]
  blk_simp [iblk]
  congr 1
  blk_ext [index0]

theorem blkB_at (t : Fin cfg0.N) (r : Fin 512) (j : Fin 512) :
    iblk m c 1 t (ix2 r j) = argB m c (ix3 (batchOf _ (row_lt t r)) (posOf (t.val * 512 + r.val)) j) := by
  rw [← hostB_at m c ⟨_, row_lt t r⟩ j]
  blk_simp [iblk]
  congr 1
  blk_ext [index1]

theorem blkC_at (t : Fin cfg0.N) (r : Fin 512) (j : Fin 512) :
    iblk m c 2 t (ix2 r j) = argC m c (ix3 (batchOf _ (row_lt t r)) (posOf (t.val * 512 + r.val)) j) := by
  rw [← hostC_at m c ⟨_, row_lt t r⟩ j]
  blk_simp [iblk]
  congr 1
  blk_ext [index2]

theorem blkX_at (t : Fin cfg0.N) (r : Fin 512) (j : Fin 1024) :
    iblk m c 6 t (ix2 r j) = argX m c (ix3 (batchOf _ (row_lt t r)) (posOf (t.val * 512 + r.val)) j) := by
  rw [← hostX_at m c ⟨_, row_lt t r⟩ j]
  blk_simp [iblk]
  congr 1
  blk_ext [index6]

theorem blkZ4_at (t : Fin cfg0.N) (r : Fin 512) (j : Fin 1024) :
    iblk m c 3 t (ix2 r j) = argZ m c (ix3 (batchOf _ (row_lt t r)) (posOf (t.val * 512 + r.val)) (colZ 4 (by decide) j)) := by
  rw [← hostZ_at m c ⟨_, row_lt t r⟩ _]
  blk_simp [iblk]
  congr 1
  blk_ext [index3, colZ]

theorem blkZ5_at (t : Fin cfg0.N) (r : Fin 512) (j : Fin 1024) :
    iblk m c 4 t (ix2 r j) = argZ m c (ix3 (batchOf _ (row_lt t r)) (posOf (t.val * 512 + r.val)) (colZ 5 (by decide) j)) := by
  rw [← hostZ_at m c ⟨_, row_lt t r⟩ _]
  blk_simp [iblk]
  congr 1
  blk_ext [index4, colZ]

theorem blkZ6_at (t : Fin cfg0.N) (r : Fin 512) (j : Fin 1024) :
    iblk m c 5 t (ix2 r j) = argZ m c (ix3 (batchOf _ (row_lt t r)) (posOf (t.val * 512 + r.val)) (colZ 6 (by decide) j)) := by
  rw [← hostZ_at m c ⟨_, row_lt t r⟩ _]
  blk_simp [iblk]
  congr 1
  blk_ext [index5, colZ]

theorem blkM2_at (t : Fin cfg0.N) (r : Fin 512) (j : Fin 1024) :
    iblk m c 7 t (ix3 0 0 j) = argM m c (ix2 (rowM (batchOf _ (row_lt t r))) (colM 2 (by decide) j)) := by
  rw [← hostM_at m c _ _]
  have hr := r.isLt
  have hb : (rowM (batchOf _ (row_lt t r))).val = t.val / 4 := by
    show (t.val * 512 + r.val) / 2048 = _
    omega
  blk_simp [iblk]
  congr 1
  blk_ext [index7, hb, colM]

theorem blkM3_at (t : Fin cfg0.N) (r : Fin 512) (j : Fin 1024) :
    iblk m c 8 t (ix3 0 0 j) = argM m c (ix2 (rowM (batchOf _ (row_lt t r))) (colM 3 (by decide) j)) := by
  rw [← hostM_at m c _ _]
  have hr := r.isLt
  have hb : (rowM (batchOf _ (row_lt t r))).val = t.val / 4 := by
    show (t.val * 512 + r.val) / 2048 = _
    omega
  blk_simp [iblk]
  congr 1
  blk_ext [index8, hb, colM]

theorem blkM4_at (t : Fin cfg0.N) (r : Fin 512) (j : Fin 1024) :
    iblk m c 9 t (ix3 0 0 j) = argM m c (ix2 (rowM (batchOf _ (row_lt t r))) (colM 4 (by decide) j)) := by
  rw [← hostM_at m c _ _]
  have hr := r.isLt
  have hb : (rowM (batchOf _ (row_lt t r))).val = t.val / 4 := by
    show (t.val * 512 + r.val) / 2048 = _
    omega
  blk_simp [iblk]
  congr 1
  blk_ext [index9, hb, colM]

theorem blkPost_at (t : Fin cfg0.N) (j : Fin 1024) : iblk m c 10 t (ix2 0 j) = argPost m c (ix1 j) := by
  rw [← hostPost_at m c j]
  blk_simp [iblk]
  congr 1
  blk_ext [index10]

theorem blkPre_at (t : Fin cfg0.N) (j : Fin 1024) : iblk m c 11 t (ix2 0 j) = argPre m c (ix1 j) := by
  rw [← hostPre_at m c j]
  blk_simp [iblk]
  congr 1
  blk_ext [index11]

theorem blkWa_at (t : Fin cfg0.N) (i : Fin 512) (j : Fin 1024) : iblk m c 12 t (ix2 i j) = argWa m c (ix2 i j) := by
  rw [← hostWa_at m c i j]
  blk_simp [iblk]
  congr 1
  blk_ext [index12]

theorem blkWb_at (t : Fin cfg0.N) (i : Fin 512) (j : Fin 1024) : iblk m c 13 t (ix2 i j) = argWb m c (ix2 i j) := by
  rw [← hostWb_at m c i j]
  blk_simp [iblk]
  congr 1
  blk_ext [index13]

theorem blkWc_at (t : Fin cfg0.N) (i : Fin 512) (j : Fin 1024) : iblk m c 14 t (ix2 i j) = argWc m c (ix2 i j) := by
  rw [← hostWc_at m c i j]
  blk_simp [iblk]
  congr 1
  blk_ext [index14]

theorem blkWo_at (t : Fin cfg0.N) (i : Fin 1024) (j : Fin 1024) : iblk m c 15 t (ix2 i j) = argWo m c (ix2 i j) := by
  rw [← hostWo_at m c i j]
  blk_simp [iblk]
  congr 1
  blk_ext [index15]

/-- The kernel's results: the reference's values of the kernel's arguments. -/
def stream : S32x2048x1024.Idx → EReal := val_main_v46 (F := Ideal) (argA m c) (argB m c) (argC m c) (argZ m c) (argX m c) (argM m c) (argPost m c) (argWa m c) (argWb m c) (argWc m c) (argWo m c)
def normed : S32x2048x1024.Idx → EReal := val_main_v65 (F := Ideal) (argA m c) (argB m c) (argC m c) (argZ m c) (argX m c) (argM m c) (argPost m c) (argPre m c) (argWa m c) (argWb m c) (argWc m c) (argWo m c)

/-- The same, by rows of the flattened stream. -/
def rowsOf (G : S32x2048x1024.Idx → EReal) : S65536x1024.Idx → EReal := fun x => G (ix3 (batchOf (x 0).val (x 0).isLt) (posOf (x 0).val) (x 1))

/-- What a grid point computes, from its blocks: a block of the stream, and of its next norm. -/
abbrev paidStream (t : Fin cfg0.N) : FVec Ideal S512x1024 .f32 :=
  k0_pay6 (k0_pay2 (iblk m c 1 t) (iblk m c 13 t)) (k0_pay3 (iblk m c 2 t) (iblk m c 14 t)) (k0_pay4 (iblk m c 0 t) (iblk m c 12 t) (iblk m c 3 t))
    (k0_pay5 (iblk m c 4 t)) (Scalar.ofBits .f32 0x3F800000#32) (iblk m c 5 t) (iblk m c 15 t) (iblk m c 6 t) (iblk m c 7 t) (iblk m c 10 t)
abbrev paidNormed (t : Fin cfg0.N) : FVec Ideal S512x1024 .bf16 :=
  k0_pay1 (paidStream m c t) (iblk m c 11 t) (iblk m c 9 t) (iblk m c 8 t)

theorem stream_at (t : Fin cfg0.N) (r : Fin 512) (j : Fin 1024) :
    paidStream m c t (ix2 r j) = stream m c (ix3 (batchOf _ (row_lt t r)) (posOf (t.val * 512 + r.val)) j) := by
  unfold stream
  pointwise [paidStream, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_v22, val_main_v23, val_main_v24, val_main_v25, val_main_v26, val_main_v27, val_main_v28, val_main_v29, val_main_v30, val_main_v31, val_main_cst_1, val_main_v32, val_main_v33, val_main_cst_2, val_main_v34, val_main_v35, val_main_cst_3, val_main_v36, val_main_v37, val_main_v38, val_main_v39, val_main_v40, val_main_v41, val_main_v42, val_main_v43, val_main_v44, val_main_v45, val_main_v46]
  simp only [zero_sub, blkA_at, blkB_at, blkC_at, blkZ4_at, blkZ5_at, blkZ6_at, colZ_five, colZ_six, blkX_at, blkM2_at m c t r, blkPost_at, blkWa_at, blkWb_at, blkWc_at, blkWo_at]
  rfl

theorem normed_at (t : Fin cfg0.N) (r : Fin 512) (j : Fin 1024) :
    paidNormed m c t (ix2 r j) = normed m c (ix3 (batchOf _ (row_lt t r)) (posOf (t.val * 512 + r.val)) j) := by
  have hs (j : Fin 1024) : paidStream m c t (ix2 r j) = val_main_v46 (F := Ideal) (argA m c) (argB m c) (argC m c) (argZ m c) (argX m c) (argM m c) (argPost m c) (argWa m c) (argWb m c) (argWc m c) (argWo m c) (ix3 (batchOf _ (row_lt t r)) (posOf (t.val * 512 + r.val)) j) :=
    stream_at m c t r j
  unfold paidNormed
  generalize paidStream m c t = P at hs ⊢
  unfold normed
  pointwise [k0_pay1, val_main_v0, val_main_v1, val_main_v2, val_main_v3, val_main_v4, val_main_v5, val_main_v6, val_main_v7, val_main_v47, val_main_cst_4, val_main_v48, val_main_v49, val_main_cst_5, val_main_v50, val_main_v51, val_main_cst_6, val_main_v52, val_main_v53, val_main_v54, val_main_v55, val_main_v56, val_main_v57, val_main_v58, val_main_v59, val_main_cst_7, val_main_v60, val_main_v61, val_main_v62, val_main_v63, val_main_v64, val_main_v65]
  simp only [hs, blkM3_at m c t r, blkM4_at m c t r, blkPre_at]
  rfl

theorem stream_rows : (dats m 0 c).arrAt 16 cfg0.N = rowsOf (stream m c) := by
  refine (dats m 0 c).arrAt_eq_of_covers 16 (rowsOf (stream m c)) (by decide +kernel) fun t _ y => ?_
  obtain ⟨r, j, rfl⟩ : ∃ (r : Fin 512) (j : Fin 1024), y = ix2 r j := ⟨y 0, y 1, by funext a; match a with | 0 => rfl | 1 => rfl⟩
  have he : ((cfg0.win 16).blk t).view.emb (ix2 r j) = ix2 (⟨t.val * 512 + r.val, row_lt t r⟩ : Fin 65536) j := by
    blk_ext [index16]
  blk_simp
  rw [after0_16]
  unfold out0_16 k0_pay7
  frame_out
  exact (stream_at m c t r j).trans (by rw [he]; rfl)

theorem normed_rows : (dats m 0 c).arrAt 17 cfg0.N = rowsOf (normed m c) := by
  refine (dats m 0 c).arrAt_eq_of_covers 17 (rowsOf (normed m c)) (by decide +kernel) fun t _ y => ?_
  obtain ⟨r, j, rfl⟩ : ∃ (r : Fin 512) (j : Fin 1024), y = ix2 r j := ⟨y 0, y 1, by funext a; match a with | 0 => rfl | 1 => rfl⟩
  have he : ((cfg0.win 17).blk t).view.emb (ix2 r j) = ix2 (⟨t.val * 512 + r.val, row_lt t r⟩ : Fin 65536) j := by
    blk_ext [index17]
  blk_simp
  rw [after0_17]
  unfold out0_17 k0_pay7
  frame_out
  exact (normed_at m c t r j).trans (by rw [he]; rfl)

/-- A result of the host is the reference's value. -/
theorem stream_result : Pipeline.afterTail₀ cfgs (dats m) 0 (V0 m) [hostOps1] c main_v17 = stream m c := by
  funext x
  obtain ⟨b, s, j, rfl⟩ : ∃ (b : Fin 32) (s : Fin 2048) (j : Fin 1024), x = ix3 b s j :=
    ⟨x 0, x 1, x 2, by funext a; match a with | 0 => rfl | 1 => rfl | 2 => rfl⟩
  have hb := b.isLt
  have hs := s.isLt
  unfold Pipeline.afterTail₀
  after_reads_at
  refine (congrFun (Pipeline.withArrays_arr_shared spec0 c (V0 m c) (fun w => (dats m 0 c).arrAt w cfg0.N)
    ((dats m 0 c).arrAt_sharedIn sharedIn0 (V0 m c) (A_eq m c) cfg0.N) 16) _).trans ?_
  rw [stream_rows]
  have hb' : batchOf (b.val * 2048 + s.val) (by omega) = b := Fin.ext (by show (b.val * 2048 + s.val) / 2048 = b.val; omega)
  have hs' : posOf (b.val * 2048 + s.val) = s := Fin.ext (by show (b.val * 2048 + s.val) % 2048 = s.val; omega)
  show stream m c (ix3 (batchOf (b.val * 2048 + s.val) _) (posOf (b.val * 2048 + s.val)) j) = _
  rw [hb', hs']

/-- A result of the host is the reference's value. -/
theorem normed_result : Pipeline.afterTail₀ cfgs (dats m) 0 (V0 m) [hostOps1] c main_v19 = normed m c := by
  funext x
  obtain ⟨b, s, j, rfl⟩ : ∃ (b : Fin 32) (s : Fin 2048) (j : Fin 1024), x = ix3 b s j :=
    ⟨x 0, x 1, x 2, by funext a; match a with | 0 => rfl | 1 => rfl | 2 => rfl⟩
  have hb := b.isLt
  have hs := s.isLt
  unfold Pipeline.afterTail₀
  after_reads_at
  refine (congrFun (Pipeline.withArrays_arr_shared spec0 c (V0 m c) (fun w => (dats m 0 c).arrAt w cfg0.N)
    ((dats m 0 c).arrAt_sharedIn sharedIn0 (V0 m c) (A_eq m c) cfg0.N) 17) _).trans ?_
  rw [normed_rows]
  have hb' : batchOf (b.val * 2048 + s.val) (by omega) = b := Fin.ext (by show (b.val * 2048 + s.val) / 2048 = b.val; omega)
  have hs' : posOf (b.val * 2048 + s.val) = s := Fin.ext (by show (b.val * 2048 + s.val) % 2048 = s.val; omega)
  show normed m c (ix3 (batchOf (b.val * 2048 + s.val) _) (posOf (b.val * 2048 + s.val)) j) = _
  rw [hb', hs']

/-- The reference's values depend on its arguments alone. -/
theorem stream_congr {x0 y0 : S32x2048x512.Idx → EReal} {x1 y1 : S32x2048x512.Idx → EReal} {x2 y2 : S32x2048x512.Idx → EReal} {x3 y3 : S32x2048x7168.Idx → EReal} {x4 y4 : S32x2048x1024.Idx → EReal} {x5 y5 : S40x6144.Idx → EReal} {x6 y6 : S1024.Idx → EReal} {x8 y8 : S512x1024.Idx → EReal} {x9 y9 : S512x1024.Idx → EReal} {x10 y10 : S512x1024.Idx → EReal} {x11 y11 : S1024x1024.Idx → EReal}
    (h0 : x0 = y0) (h1 : x1 = y1) (h2 : x2 = y2) (h3 : x3 = y3) (h4 : x4 = y4) (h5 : x5 = y5) (h6 : x6 = y6) (h8 : x8 = y8) (h9 : x9 = y9) (h10 : x10 = y10) (h11 : x11 = y11) :
    val_main_v46 (F := Ideal) x0 x1 x2 x3 x4 x5 x6 x8 x9 x10 x11 = val_main_v46 (F := Ideal) y0 y1 y2 y3 y4 y5 y6 y8 y9 y10 y11 := by
  rw [h0, h1, h2, h3, h4, h5, h6, h8, h9, h10, h11]

theorem normed_congr {x0 y0 : S32x2048x512.Idx → EReal} {x1 y1 : S32x2048x512.Idx → EReal} {x2 y2 : S32x2048x512.Idx → EReal} {x3 y3 : S32x2048x7168.Idx → EReal} {x4 y4 : S32x2048x1024.Idx → EReal} {x5 y5 : S40x6144.Idx → EReal} {x6 y6 : S1024.Idx → EReal} {x7 y7 : S1024.Idx → EReal} {x8 y8 : S512x1024.Idx → EReal} {x9 y9 : S512x1024.Idx → EReal} {x10 y10 : S512x1024.Idx → EReal} {x11 y11 : S1024x1024.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    val_main_v65 (F := Ideal) x0 x1 x2 x3 x4 x5 x6 x7 x8 x9 x10 x11 = val_main_v65 (F := Ideal) y0 y1 y2 y3 y4 y5 y6 y7 y8 y9 y10 y11 := by
  rw [h0, h1, h2, h3, h4, h5, h6, h7, h8, h9, h10, h11]

/-- The kernel and the reference end with the same results. -/
theorem algebraic_merge : Cert.algebraic_Kernel3Ideal_Reference3Ideal := fun m ρ m' ρ' _ hagree => by
  refine ⟨fun c => stream m c, fun c => normed m c, ?_, ?_⟩
  · refine (θ_run Cert.Kernel3Ideal.defs _ _).mono (fun r h c => ⟨?_, ?_, h.2 c⟩) (θ_run_and (run_main (F := Ideal) m ρ) (unchanged (F := Ideal) m ρ))
    · exact ((h.1 c).2 Cert.Kernel3Ideal.main_v17 (Pipeline.mem_restRefs_of Cert.Kernel3Ideal.main_v17 (by decide) (by decide))).trans (stream_result m c)
    · exact ((h.1 c).2 Cert.Kernel3Ideal.main_v19 (Pipeline.mem_restRefs_of Cert.Kernel3Ideal.main_v19 (by decide) (by decide))).trans (normed_result m c)
  · refine (θ_run Cert.Reference3Ideal.defs _ _).mono (fun r h c => ⟨?_, ?_, (h c).2.2⟩) (Cert.Reference3Ideal.Value.run (F := Ideal) m' ρ')
    · refine ((h c).1.trans (Cert.Reference3Ideal.Read.val_main_v46_eq (F := Ideal) m' c)).trans ?_
      obtain ⟨h0, h1, h2, h3, h4, h5, h6, h7, h8, h9, h10, h11⟩ := hagree c
      exact stream_congr h0 h1 h2 h3 h4 h5 h6 h8 h9 h10 h11
    · refine ((h c).2.1.trans (Cert.Reference3Ideal.Read.val_main_v65_eq (F := Ideal) m' c)).trans ?_
      obtain ⟨h0, h1, h2, h3, h4, h5, h6, h7, h8, h9, h10, h11⟩ := hagree c
      exact normed_congr h0 h1 h2 h3 h4 h5 h6 h7 h8 h9 h10 h11

end Proof.Merge
end
-- ==== Proof.Residual.lean ====
module

public import proofs.«01_k».proof.Defs
public import proofs.«01_k».proof.Proof.Gen.Kernel4
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.ReadAt

/-!
# The last residual

The experts' output, normalised, scaled and gated, is added to the residual stream: the kernel does it in blocks of 512
rows of the flattened stream, the reference on the stream itself.
-/

@[expose] public section
set_option maxRecDepth 65536
noncomputable section
namespace Proof.Residual
open Cert.Kernel4Ideal Cert.Kernel4Ideal.Gen Cert.Reference4Ideal.Read
open Idealize.ShloMosaic Idealize.ShloMosaic.TcCoe Idealize.SL.Sem
open scoped BigOperators

variable (m : (ℓ : Loc nD τ sig) → Buf (Elt Ideal) ℓ) (c : Dev nD)

/-- The arguments: the experts' output, the residual stream, the modulations and the norm's weight. -/
abbrev argF : S32x2048x1024.Idx → EReal := m (c.tc.loc main_arg0)
abbrev argX : S32x2048x1024.Idx → EReal := m (c.tc.loc main_arg1)
abbrev argM : S40x6144.Idx → EReal := m (c.tc.loc main_arg2)
abbrev argG : S1024.Idx → EReal := m (c.tc.loc main_arg3)

/-- The batch entry and the position of a row of the flattened stream. -/
def batchOf (n : ℕ) (h : n < 65536) : Fin 32 := ⟨n / 2048, by omega⟩
def posOf (n : ℕ) : Fin 2048 := ⟨n % 2048, Nat.mod_lt _ (by decide)⟩

theorem v1_at (n : Fin 65536) (j : Fin 1024) : V m c main_v1 (ix2 n j) = argF m c (ix3 (batchOf n.val n.isLt) (posOf n.val) j) := by
  unfold V V0
  after_reads_at
  rfl

theorem v2_at (n : Fin 65536) (j : Fin 1024) : V m c main_v2 (ix2 n j) = argX m c (ix3 (batchOf n.val n.isLt) (posOf n.val) j) := by
  unfold V V0
  after_reads_at
  rfl

theorem v0_at (b : Fin 40) (j : Fin 6144) : V m c main_v0 (ix3 b 0 j) = argM m c (ix2 b j) := by
  unfold V V0
  after_reads_at

theorem v3_at (j : Fin 1024) : V m c main_v3 (ix2 0 j) = argG m c (ix1 j) := by
  unfold V V0
  after_reads_at

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val / 4, 0, 5] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

theorem row_lt (t : Fin cfg0.N) (r : Fin 512) : t.val * 512 + r.val < 65536 := by
  have ht : t.val < 128 := Nat.lt_of_lt_of_eq t.isLt N_0
  have hr := r.isLt
  omega

theorem blkF_at (t : Fin cfg0.N) (r : Fin 512) (j : Fin 1024) :
    iblk m c 0 t (ix2 r j) = argF m c (ix3 (batchOf _ (row_lt t r)) (posOf (t.val * 512 + r.val)) j) := by
  rw [← v1_at m c ⟨_, row_lt t r⟩ j]
  blk_simp [iblk]
  congr 1
  blk_ext [index0]

theorem blkX_at (t : Fin cfg0.N) (r : Fin 512) (j : Fin 1024) :
    iblk m c 1 t (ix2 r j) = argX m c (ix3 (batchOf _ (row_lt t r)) (posOf (t.val * 512 + r.val)) j) := by
  rw [← v2_at m c ⟨_, row_lt t r⟩ j]
  blk_simp [iblk]
  congr 1
  blk_ext [index1]

/-- The row of modulations of a batch entry, and a column of its part `p`. -/
def rowM (b : Fin 32) : Fin 40 := ⟨b.val, by have := b.isLt; omega⟩
def colM (p : ℕ) (hp : p < 6) (j : Fin 1024) : Fin 6144 := ⟨p * 1024 + j.val, by have := j.isLt; omega⟩

theorem blkM_at (t : Fin cfg0.N) (r : Fin 512) (j : Fin 1024) :
    iblk m c 2 t (ix3 0 0 j) = argM m c (ix2 (rowM (batchOf _ (row_lt t r))) (colM 5 (by decide) j)) := by
  rw [← v0_at m c _ _]
  have hr := r.isLt
  have hb : (rowM (batchOf _ (row_lt t r))).val = t.val / 4 := by
    show (t.val * 512 + r.val) / 2048 = _
    omega
  blk_simp [iblk]
  congr 1
  blk_ext [index2, hb, colM]

theorem blkG_at (t : Fin cfg0.N) (j : Fin 1024) : iblk m c 3 t (ix2 0 j) = argG m c (ix1 j) := by
  rw [← v3_at m c j]
  blk_simp [iblk]
  congr 1
  blk_ext [index3]

/-- The kernel's result: the reference's value of the kernel's arguments. -/
def result : S32x2048x1024.Idx → EReal := val_main_v23 (F := Ideal) (argF m c) (argX m c) (argM m c) (argG m c)

/-- The same, by rows of the flattened stream. -/
def rows : S65536x1024.Idx → EReal := fun x => result m c (ix3 (batchOf (x 0).val (x 0).isLt) (posOf (x 0).val) (x 1))

theorem out_at (t : Fin cfg0.N) (r : Fin 512) (j : Fin 1024) :
    k0_pay1 (iblk m c 1 t) (iblk m c 2 t) (iblk m c 0 t) (iblk m c 3 t) (ix2 r j) = result m c (ix3 (batchOf _ (row_lt t r)) (posOf (t.val * 512 + r.val)) j) := by
  unfold result
  pointwise [k0_pay1, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23]
  simp only [blkF_at, blkX_at, blkG_at, blkM_at m c t r]
  rfl

theorem point (t : Fin cfg0.N) (r : Fin 512) (j : Fin 1024) :
    k0_pay1 (iblk m c 1 t) (iblk m c 2 t) (iblk m c 0 t) (iblk m c 3 t) (ix2 r j) = rows m c (((cfg0.win 4).blk t).view.emb (ix2 r j)) := by
  have he : ((cfg0.win 4).blk t).view.emb (ix2 r j) = ix2 (⟨t.val * 512 + r.val, row_lt t r⟩ : Fin 65536) j := by
    blk_ext [index4]
  rw [out_at, he]
  rfl

theorem out_rows : (dats m 0 c).arrAt 4 cfg0.N = rows m c := by
  refine (dats m 0 c).arrAt_eq_of_covers 4 (rows m c) (by decide +kernel) fun t _ y => ?_
  obtain ⟨r, j, rfl⟩ : ∃ (r : Fin 512) (j : Fin 1024), y = ix2 r j := ⟨y 0, y 1, by funext a; match a with | 0 => rfl | 1 => rfl⟩
  blk_simp
  rw [after0_4]
  frame_out
  exact point m c t r j

/-- The host's result is the reference's value. -/
theorem result_at : Pipeline.afterTail₀ cfgs (dats m) 0 (V0 m) [hostOps1] c main_v5 = result m c := by
  funext x
  obtain ⟨b, s, j, rfl⟩ : ∃ (b : Fin 32) (s : Fin 2048) (j : Fin 1024), x = ix3 b s j :=
    ⟨x 0, x 1, x 2, by funext a; match a with | 0 => rfl | 1 => rfl | 2 => rfl⟩
  have hb := b.isLt
  have hs := s.isLt
  unfold Pipeline.afterTail₀
  after_reads_at
  refine (congrFun (Pipeline.withArrays_arr spec0 (by decide) c (V0 m c) (fun w => (dats m 0 c).arrAt w cfg0.N) 4) _).trans ?_
  rw [out_rows]
  have hb' : batchOf (b.val * 2048 + s.val) (by omega) = b := Fin.ext (by show (b.val * 2048 + s.val) / 2048 = b.val; omega)
  have hs' : posOf (b.val * 2048 + s.val) = s := Fin.ext (by show (b.val * 2048 + s.val) % 2048 = s.val; omega)
  show result m c (ix3 (batchOf (b.val * 2048 + s.val) _) (posOf (b.val * 2048 + s.val)) j) = _
  rw [hb', hs']

/-- The reference's value depends on its arguments alone. -/
theorem reference_congr {x0 y0 : S32x2048x1024.Idx → EReal} {x1 y1 : S32x2048x1024.Idx → EReal} {x2 y2 : S40x6144.Idx → EReal} {x3 y3 : S1024.Idx → EReal}
    (h0 : x0 = y0) (h1 : x1 = y1) (h2 : x2 = y2) (h3 : x3 = y3) :
    val_main_v23 (F := Ideal) x0 x1 x2 x3 = val_main_v23 (F := Ideal) y0 y1 y2 y3 := by
  rw [h0, h1, h2, h3]

/-- The kernel and the reference end with the same result. -/
theorem algebraic_residual : Cert.algebraic_Kernel4Ideal_Reference4Ideal := fun m ρ m' ρ' _ hagree => by
  refine ⟨fun c => result m c, ?_, ?_⟩
  · refine (θ_run Cert.Kernel4Ideal.defs _ _).mono (fun r h c => ⟨?_, h.2 c⟩) (θ_run_and (run_main (F := Ideal) m ρ) (unchanged (F := Ideal) m ρ))
    exact ((h.1 c).2 Cert.Kernel4Ideal.main_v5 (Pipeline.mem_restRefs_of Cert.Kernel4Ideal.main_v5 (by decide) (by decide))).trans (result_at m c)
  · refine (θ_run Cert.Reference4Ideal.defs _ _).mono (fun r h c => ⟨?_, (h c).2⟩) (Cert.Reference4Ideal.Value.run (F := Ideal) m' ρ')
    refine ((h c).1.trans (Cert.Reference4Ideal.Read.val_main_v23_eq (F := Ideal) _ _ _ _)).trans ?_
    obtain ⟨h0, h1, h2, h3⟩ := hagree c
    exact reference_congr h0 h1 h2 h3

end Proof.Residual
end
-- ==== Proof.ProjBody.lean ====
module

public import proofs.«01_k».proof.Proof.TripRun
public import proofs.«01_k».proof.Proof.Gen.Kernel5Ideal.Skeleton

/-! The input projection's body at one grid point. The first point of a row of blocks normalises and
    modulates the tokens into the scratch array, writes the gate input's columns and rotates the query
    and key columns of its own block of results; every other point only multiplies the scratch array by
    its columns of the weight. -/

@[expose] public section

set_option maxRecDepth 65536
set_option maxHeartbeats 1600000

noncomputable section

namespace Proof.Proj

open Cert.Kernel5Ideal Cert.Kernel5Ideal.Gen
open Proof.Moe (hz2 mem_unit_zero)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A store over a whole block leaves what it stores. -/
theorem read_store {κ : Kind} {sp : Space} {S : Shape} {e : EltTy} {off : Fin S.rank → Nat} (h : off = fun _ => 0) (inb : ∀ a, off a + S.size a ≤ S.size a)
    (v : View sig κ sp S e) (f : v.ty.Contents (Elt F)) (w : S.Idx → Elt F e) :
    v.read (Elt F) (v.writes (Elt F) f [(⟨Rect.unit off S.size inb, w⟩ : View.Piece (Elt F) S e)]) = w :=
  (View.read_writes_eq_canon v f _ fun y => ⟨⟨Rect.unit off S.size inb, w⟩, List.mem_singleton_self _, mem_unit_zero h inb y⟩).trans
    (View.canon_unit_zero h inb w)

/-! ## The programs -/

/-- The normalised tokens and the gate input's columns, written. -/
def first (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) : Prog (TpuEff nD τ sig (Elt F) Λ₀ .tc) PUnit := do
  let v13 : Vec F S2048x1024 .f32 ← Prog.lift (.load arg2 (Rect.unit (s := S2048x1024) ![0, 0] S2048x1024.size inb_S2048x1024_S2048x1024_0_0).toLoadRect (View.loadsAt_vmem h_S2048x1024))
  let v15 : Vec F S1x1024 .f32 ← Prog.lift (.load arg3 (Rect.unit (s := S1x1024) ![0, 0] S1x1024.size inb_S1x1024_S1x1024_0_0).toLoadRect (View.loadsAt_vmem h_S1x1024))
  let v29 : Vec F S1x1x1024 .f32 ← Prog.lift (.load arg5 (Rect.unit (s := S1x1x1024) ![0, 0, 0] S1x1x1024.size inb_S1x1x1024_S1x1x1024_0_0_0).toLoadRect (View.loadsAt_vmem h_S1x1x1024))
  let v35 : Vec F S1x1x1024 .f32 ← Prog.lift (.load arg4 (Rect.unit (s := S1x1x1024) ![0, 0, 0] S1x1x1024.size inb_S1x1x1024_S1x1x1024_0_0_0).toLoadRect (View.loadsAt_vmem h_S1x1x1024))
  let v40 : Vec F S2048x1024 .bf16 ← Prog.lift (.load arg14 (Rect.unit (s := S2048x1024) ![0, 0] S2048x1024.size inb_S2048x1024_S2048x1024_0_0).toLoadRect (View.loadsAt_vmem h_S2048x1024))
  Prog.lift (.store arg14 (Rect.unit (s := S2048x1024) ![0, 0] S2048x1024.size inb_S2048x1024_S2048x1024_0_0) (k0_pay2 v13 v15 v29 v35) Finset.univ (View.stores_vmem h_S2048x1024 (harg14.storeExact_slice rfl _ packedbf16_S2048x1024_S2048x1024_0_0) (fun _ => rfl)) (.inl rfl))
  let v43 : Vec F S1024x128 .bf16 ← Prog.lift (.load arg7 (Rect.unit (s := S1024x128) ![0, 0] S1024x128.size inb_S1024x128_S1024x128_0_0).toLoadRect (View.loadsAt_vmem h_S1024x128))
  let v47 : Vec F S2048x128 .bf16 ← Prog.lift (.load arg13 (Rect.unit (s := S2048x128) ![0, 0] S2048x128.size inb_S2048x128_S2048x128_0_0).toLoadRect (View.loadsAt_vmem h_S2048x128))
  Prog.lift (.store arg13 (Rect.unit (s := S2048x128) ![0, 0] S2048x128.size inb_S2048x128_S2048x128_0_0) (k0_pay3 v13 v15 v29 v35 v43) Finset.univ (View.stores_vmem h_S2048x128 (harg13.storeExact_slice rfl _ packedbf16_S2048x128_S2048x128_0_0) (fun _ => rfl)) (.inl rfl))
  pure ⟨⟩

/-- The block's columns, rotated and written. -/
def rotated (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) : Prog (TpuEff nD τ sig (Elt F) Λ₀ .tc) PUnit := do
  let v3 : Vec F S2048x1024 .bf16 ← Prog.lift (.load arg14 (Rect.unit (s := S2048x1024) ![0, 0] S2048x1024.size inb_S2048x1024_S2048x1024_0_0).toLoadRect (View.loadsAt_vmem h_S2048x1024))
  let v4 : Vec F S1024x1024 .bf16 ← Prog.lift (.load arg6 (Rect.unit (s := S1024x1024) ![0, 0] S1024x1024.size inb_S1024x1024_S1024x1024_0_0).toLoadRect (View.loadsAt_vmem h_S1024x1024))
  let ⟨v22, v32, v42, v52⟩ : Σ' (v22 : FVec F S2048x128 .bf16) (v32 : FVec F S2048x128 .bf16) (v42 : FVec F S2048x128 .bf16), FVec F S2048x128 .bf16 ← k0_part1 i arg2 harg2 arg3 harg3 arg4 harg4 arg5 harg5 arg6 harg6 arg7 harg7 arg8 harg8 arg9 harg9 arg10 harg10 arg11 harg11 arg12 harg12 arg13 harg13 arg14 harg14 (k0_pay4 v3 v4)
  let ⟨v62, v72, v82, v92⟩ : Σ' (v62 : FVec F S2048x128 .bf16) (v72 : FVec F S2048x128 .bf16) (v82 : FVec F S2048x128 .bf16), FVec F S2048x128 .bf16 ← k0_part2 i arg2 harg2 arg3 harg3 arg4 harg4 arg5 harg5 arg6 harg6 arg7 harg7 arg8 harg8 arg9 harg9 arg10 harg10 arg11 harg11 arg12 harg12 arg13 harg13 arg14 harg14 (k0_pay4 v3 v4)
  let v94 : Vec F S2048x1024 .bf16 ← Prog.lift (.load arg12 (Rect.unit (s := S2048x1024) ![0, 0] S2048x1024.size inb_S2048x1024_S2048x1024_0_0).toLoadRect (View.loadsAt_vmem h_S2048x1024))
  Prog.lift (.store arg12 (Rect.unit (s := S2048x1024) ![0, 0] S2048x1024.size inb_S2048x1024_S2048x1024_0_0) (k0_pay5 v22 v32 v42 v52 v62 v72 v82 v92) Finset.univ (View.stores_vmem h_S2048x1024 (harg12.storeExact_slice rfl _ packedbf16_S2048x1024_S2048x1024_0_0) (fun _ => rfl)) (.inl rfl))
  pure ⟨⟩

/-- The block's columns, written. -/
def plain (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) : Prog (TpuEff nD τ sig (Elt F) Λ₀ .tc) PUnit := do
  let v3 : Vec F S2048x1024 .bf16 ← Prog.lift (.load arg14 (Rect.unit (s := S2048x1024) ![0, 0] S2048x1024.size inb_S2048x1024_S2048x1024_0_0).toLoadRect (View.loadsAt_vmem h_S2048x1024))
  let v4 : Vec F S1024x1024 .bf16 ← Prog.lift (.load arg6 (Rect.unit (s := S1024x1024) ![0, 0] S1024x1024.size inb_S1024x1024_S1024x1024_0_0).toLoadRect (View.loadsAt_vmem h_S1024x1024))
  let v14 : Vec F S2048x1024 .bf16 ← Prog.lift (.load arg12 (Rect.unit (s := S2048x1024) ![0, 0] S2048x1024.size inb_S2048x1024_S2048x1024_0_0).toLoadRect (View.loadsAt_vmem h_S2048x1024))
  Prog.lift (.store arg12 (Rect.unit (s := S2048x1024) ![0, 0] S2048x1024.size inb_S2048x1024_S2048x1024_0_0) (k0_pay6 v3 v4) Finset.univ (View.stores_vmem h_S2048x1024 (harg12.storeExact_slice rfl _ packedbf16_S2048x1024_S2048x1024_0_0) (fun _ => rfl)) (.inl rfl))
  pure ⟨⟩

theorem body_first (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) (h1 : k0_cond1 i = 1#1) (h2 : k0_cond2 i = 1#1) (h3 : ¬ k0_cond3 i = 1#1) :
    cc0_inproj_rope (F := F) i arg2 harg2 arg3 harg3 arg4 harg4 arg5 harg5 arg6 harg6 arg7 harg7 arg8 harg8 arg9 harg9 arg10 harg10 arg11 harg11 arg12 harg12 arg13 harg13 arg14 harg14 = (do first (F := F) i arg2 harg2 arg3 harg3 arg4 harg4 arg5 harg5 arg6 harg6 arg7 harg7 arg8 harg8 arg9 harg9 arg10 harg10 arg11 harg11 arg12 harg12 arg13 harg13 arg14 harg14; rotated (F := F) i arg2 harg2 arg3 harg3 arg4 harg4 arg5 harg5 arg6 harg6 arg7 harg7 arg8 harg8 arg9 harg9 arg10 harg10 arg11 harg11 arg12 harg12 arg13 harg13 arg14 harg14) := by
  rw [cc0_inproj_rope_eq_skeleton]
  unfold cc0_inproj_rope_skel
  simp only [dif_pos h1, dif_pos h2, dif_neg h3]
  rfl

theorem body_plain (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) (h1 : ¬ k0_cond1 i = 1#1) (h2 : ¬ k0_cond2 i = 1#1) (h3 : k0_cond3 i = 1#1) :
    cc0_inproj_rope (F := F) i arg2 harg2 arg3 harg3 arg4 harg4 arg5 harg5 arg6 harg6 arg7 harg7 arg8 harg8 arg9 harg9 arg10 harg10 arg11 harg11 arg12 harg12 arg13 harg13 arg14 harg14 = plain (F := F) i arg2 harg2 arg3 harg3 arg4 harg4 arg5 harg5 arg6 harg6 arg7 harg7 arg8 harg8 arg9 harg9 arg10 harg10 arg11 harg11 arg12 harg12 arg13 harg13 arg14 harg14 := by
  rw [cc0_inproj_rope_eq_skeleton]
  unfold cc0_inproj_rope_skel
  simp only [dif_neg h1, dif_neg h2, dif_pos h3]
  rfl

/-! ## What they leave -/

/-- The normalised tokens. -/
def hOf (X : Vec F S2048x1024 .f32) (g : Vec F S1x1024 .f32) (sh : Vec F S1x1x1024 .f32) (sc : Vec F S1x1x1024 .f32) : Vec F S2048x1024 .bf16 := k0_pay2 (View.ld X (Rect.unit (s := S2048x1024) ![0, 0] S2048x1024.size inb_S2048x1024_S2048x1024_0_0)) (View.ld g (Rect.unit (s := S1x1024) ![0, 0] S1x1024.size inb_S1x1024_S1x1024_0_0)) (View.ld sc (Rect.unit (s := S1x1x1024) ![0, 0, 0] S1x1x1024.size inb_S1x1x1024_S1x1x1024_0_0_0)) (View.ld sh (Rect.unit (s := S1x1x1024) ![0, 0, 0] S1x1x1024.size inb_S1x1x1024_S1x1x1024_0_0_0))
/-- The gate input's columns. -/
def gaOf (X : Vec F S2048x1024 .f32) (g : Vec F S1x1024 .f32) (sh : Vec F S1x1x1024 .f32) (sc : Vec F S1x1x1024 .f32) (Wa : Vec F S1024x128 .bf16) : Vec F S2048x128 .bf16 := k0_pay3 (View.ld X (Rect.unit (s := S2048x1024) ![0, 0] S2048x1024.size inb_S2048x1024_S2048x1024_0_0)) (View.ld g (Rect.unit (s := S1x1024) ![0, 0] S1x1024.size inb_S1x1024_S1x1024_0_0)) (View.ld sc (Rect.unit (s := S1x1x1024) ![0, 0, 0] S1x1x1024.size inb_S1x1x1024_S1x1x1024_0_0_0)) (View.ld sh (Rect.unit (s := S1x1x1024) ![0, 0, 0] S1x1x1024.size inb_S1x1x1024_S1x1x1024_0_0_0)) (View.ld Wa (Rect.unit (s := S1024x128) ![0, 0] S1024x128.size inb_S1024x128_S1024x128_0_0))
/-- The block's columns in 32 bits. -/
def acc (H : Vec F S2048x1024 .bf16) (W : Vec F S1024x1024 .bf16) : FVec F S2048x1024 .f32 := k0_pay4 (View.ld H (Rect.unit (s := S2048x1024) ![0, 0] S2048x1024.size inb_S2048x1024_S2048x1024_0_0)) (View.ld W (Rect.unit (s := S1024x1024) ![0, 0] S1024x1024.size inb_S1024x1024_S1024x1024_0_0))
/-- The block's columns. -/
def plainOf (H : Vec F S2048x1024 .bf16) (W : Vec F S1024x1024 .bf16) : Vec F S2048x1024 .bf16 := k0_pay6 (View.ld H (Rect.unit (s := S2048x1024) ![0, 0] S2048x1024.size inb_S2048x1024_S2048x1024_0_0)) (View.ld W (Rect.unit (s := S1024x1024) ![0, 0] S1024x1024.size inb_S1024x1024_S1024x1024_0_0))
/-- The block's columns, rotated. -/
def rotatedOf (H : Vec F S2048x1024 .bf16) (W : Vec F S1024x1024 .bf16) (qc : Vec F S2048x128 .f32) (qs : Vec F S2048x128 .f32) (kc : Vec F S2048x128 .f32) (ks : Vec F S2048x128 .f32) : Vec F S2048x1024 .bf16 :=
  k0_pay5 (k0_pay7 (acc H W) (View.ld qc (Rect.unit (s := S2048x128) ![0, 0] S2048x128.size inb_S2048x128_S2048x128_0_0)) (View.ld qs (Rect.unit (s := S2048x128) ![0, 0] S2048x128.size inb_S2048x128_S2048x128_0_0))) (k0_pay8 (acc H W) (View.ld qc (Rect.unit (s := S2048x128) ![0, 0] S2048x128.size inb_S2048x128_S2048x128_0_0)) (View.ld qs (Rect.unit (s := S2048x128) ![0, 0] S2048x128.size inb_S2048x128_S2048x128_0_0))) (k0_pay9 (acc H W) (View.ld qc (Rect.unit (s := S2048x128) ![0, 0] S2048x128.size inb_S2048x128_S2048x128_0_0)) (View.ld qs (Rect.unit (s := S2048x128) ![0, 0] S2048x128.size inb_S2048x128_S2048x128_0_0))) (k0_pay10 (acc H W) (View.ld qc (Rect.unit (s := S2048x128) ![0, 0] S2048x128.size inb_S2048x128_S2048x128_0_0)) (View.ld qs (Rect.unit (s := S2048x128) ![0, 0] S2048x128.size inb_S2048x128_S2048x128_0_0))) (k0_pay11 (acc H W) (View.ld kc (Rect.unit (s := S2048x128) ![0, 0] S2048x128.size inb_S2048x128_S2048x128_0_0)) (View.ld ks (Rect.unit (s := S2048x128) ![0, 0] S2048x128.size inb_S2048x128_S2048x128_0_0))) (k0_pay12 (acc H W) (View.ld kc (Rect.unit (s := S2048x128) ![0, 0] S2048x128.size inb_S2048x128_S2048x128_0_0)) (View.ld ks (Rect.unit (s := S2048x128) ![0, 0] S2048x128.size inb_S2048x128_S2048x128_0_0))) (k0_pay13 (acc H W) (View.ld kc (Rect.unit (s := S2048x128) ![0, 0] S2048x128.size inb_S2048x128_S2048x128_0_0)) (View.ld ks (Rect.unit (s := S2048x128) ![0, 0] S2048x128.size inb_S2048x128_S2048x128_0_0))) (k0_pay14 (acc H W) (View.ld kc (Rect.unit (s := S2048x128) ![0, 0] S2048x128.size inb_S2048x128_S2048x128_0_0)) (View.ld ks (Rect.unit (s := S2048x128) ![0, 0] S2048x128.size inb_S2048x128_S2048x128_0_0)))

/-- Everything a grid point holds. -/
def All (c : Dev nD) (arg2 : Memref sig .tc .vmem S2048x1024 .f32) (arg3 : Memref sig .tc .vmem S1x1024 .f32) (arg4 : Memref sig .tc .vmem S1x1x1024 .f32) (arg5 : Memref sig .tc .vmem S1x1x1024 .f32) (arg6 : Memref sig .tc .vmem S1024x1024 .bf16) (arg7 : Memref sig .tc .vmem S1024x128 .bf16) (arg8 : Memref sig .tc .vmem S2048x128 .f32) (arg9 : Memref sig .tc .vmem S2048x128 .f32) (arg10 : Memref sig .tc .vmem S2048x128 .f32) (arg11 : Memref sig .tc .vmem S2048x128 .f32) (arg12 : Memref sig .tc .vmem S2048x1024 .bf16) (arg13 : Memref sig .tc .vmem S2048x128 .bf16) (arg14 : Memref sig .tc .vmem S2048x1024 .bf16) (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) : sProp 𝕄 :=
  iprop(owns (c : Thread nD τ) arg2 fullShare X ∗ owns (c : Thread nD τ) arg3 fullShare g ∗ owns (c : Thread nD τ) arg4 fullShare sh ∗ owns (c : Thread nD τ) arg5 fullShare sc ∗ owns (c : Thread nD τ) arg6 fullShare W ∗ owns (c : Thread nD τ) arg7 fullShare Wa ∗ owns (c : Thread nD τ) arg8 fullShare qc ∗ owns (c : Thread nD τ) arg9 fullShare qs ∗ owns (c : Thread nD τ) arg10 fullShare kc ∗ owns (c : Thread nD τ) arg11 fullShare ks ∗ owns (c : Thread nD τ) arg12 fullShare Z ∗ owns (c : Thread nD τ) arg13 fullShare G ∗ owns (c : Thread nD τ) arg14 fullShare H)

section
attribute [local irreducible] k0_pay1 k0_pay2 k0_pay3 k0_pay4 k0_pay5 k0_pay6 k0_pay7 k0_pay8 k0_pay9 k0_pay10 k0_pay11 k0_pay12 k0_pay13 k0_pay14

theorem first_run (𝒱 : Variants) (c : Dev nD) (bd : Option 𝒱.V) (E : Set ℕ) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole)
    (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) :
    (All c arg2 arg3 arg4 arg5 arg6 arg7 arg8 arg9 arg10 arg11 arg12 arg13 arg14 X g sh sc W Wa qc qs kc ks Z G H : sProp 𝕄)
      ⊢ wp frame (wpE (defs₀ (F := F)) 𝒱 (c : Thread nD τ) bd) E (first (F := F) i arg2 harg2 arg3 harg3 arg4 harg4 arg5 harg5 arg6 harg6 arg7 harg7 arg8 harg8 arg9 harg9 arg10 harg10 arg11 harg11 arg12 harg12 arg13 harg13 arg14 harg14)
        (fun _ => All c arg2 arg3 arg4 arg5 arg6 arg7 arg8 arg9 arg10 arg11 arg12 arg13 arg14 X g sh sc W Wa qc qs kc ks Z (gaOf X g sh sc Wa) (hOf X g sh sc)) := by
  unfold All owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  subst h2 h3 h4 h5 h6 h7 h8 h9 h10 h11 h12 h13 h14
  unfold first

  sl_exec
  sl_step
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; refine (read_store hz2 _ _ _ _).trans ?_; rfl
  iexists _; isplitr; swap; · iexact H14
  ipureintro; refine (read_store hz2 _ _ _ _).trans ?_; rfl

theorem rotated_run (𝒱 : Variants) (c : Dev nD) (bd : Option 𝒱.V) (E : Set ℕ) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole)
    (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) :
    (All c arg2 arg3 arg4 arg5 arg6 arg7 arg8 arg9 arg10 arg11 arg12 arg13 arg14 X g sh sc W Wa qc qs kc ks Z G H : sProp 𝕄)
      ⊢ wp frame (wpE (defs₀ (F := F)) 𝒱 (c : Thread nD τ) bd) E (rotated (F := F) i arg2 harg2 arg3 harg3 arg4 harg4 arg5 harg5 arg6 harg6 arg7 harg7 arg8 harg8 arg9 harg9 arg10 harg10 arg11 harg11 arg12 harg12 arg13 harg13 arg14 harg14)
        (fun _ => All c arg2 arg3 arg4 arg5 arg6 arg7 arg8 arg9 arg10 arg11 arg12 arg13 arg14 X g sh sc W Wa qc qs kc ks (rotatedOf H W qc qs kc ks) G H) := by
  unfold All owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  subst h2 h3 h4 h5 h6 h7 h8 h9 h10 h11 h12 h13 h14
  unfold rotated
  rw [k0_part1_eq_skeleton, k0_part2_eq_skeleton]; unfold k0_part1_skel k0_part2_skel
  sl_exec
  sl_step
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; refine (read_store hz2 _ _ _ _).trans ?_; rfl
  isplitl [H13]
  · iexists _; isplitr; swap; · iexact H13
    ipureintro; rfl
  iexists _; isplitr; swap; · iexact H14
  ipureintro; rfl

theorem plain_run (𝒱 : Variants) (c : Dev nD) (bd : Option 𝒱.V) (E : Set ℕ) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole)
    (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) :
    (All c arg2 arg3 arg4 arg5 arg6 arg7 arg8 arg9 arg10 arg11 arg12 arg13 arg14 X g sh sc W Wa qc qs kc ks Z G H : sProp 𝕄)
      ⊢ wp frame (wpE (defs₀ (F := F)) 𝒱 (c : Thread nD τ) bd) E (plain (F := F) i arg2 harg2 arg3 harg3 arg4 harg4 arg5 harg5 arg6 harg6 arg7 harg7 arg8 harg8 arg9 harg9 arg10 harg10 arg11 harg11 arg12 harg12 arg13 harg13 arg14 harg14)
        (fun _ => All c arg2 arg3 arg4 arg5 arg6 arg7 arg8 arg9 arg10 arg11 arg12 arg13 arg14 X g sh sc W Wa qc qs kc ks (plainOf H W) G H) := by
  unfold All owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩
  subst h2 h3 h4 h5 h6 h7 h8 h9 h10 h11 h12 h13 h14
  unfold plain

  sl_exec
  sl_step
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; refine (read_store hz2 _ _ _ _).trans ?_; rfl
  isplitl [H13]
  · iexists _; isplitr; swap; · iexact H13
    ipureintro; rfl
  iexists _; isplitr; swap; · iexact H14
  ipureintro; rfl

end

theorem first_body_run (𝒱 : Variants) (c : Dev nD) (bd : Option 𝒱.V) (E : Set ℕ) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) (h1 : k0_cond1 i = 1#1) (h2 : k0_cond2 i = 1#1) (h3 : ¬ k0_cond3 i = 1#1)
    (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) :
    (All c arg2 arg3 arg4 arg5 arg6 arg7 arg8 arg9 arg10 arg11 arg12 arg13 arg14 X g sh sc W Wa qc qs kc ks Z G H : sProp 𝕄)
      ⊢ wp frame (wpE (defs₀ (F := F)) 𝒱 (c : Thread nD τ) bd) E (cc0_inproj_rope (F := F) i arg2 harg2 arg3 harg3 arg4 harg4 arg5 harg5 arg6 harg6 arg7 harg7 arg8 harg8 arg9 harg9 arg10 harg10 arg11 harg11 arg12 harg12 arg13 harg13 arg14 harg14)
        (fun _ => All c arg2 arg3 arg4 arg5 arg6 arg7 arg8 arg9 arg10 arg11 arg12 arg13 arg14 X g sh sc W Wa qc qs kc ks (rotatedOf (hOf X g sh sc) W qc qs kc ks) (gaOf X g sh sc Wa) (hOf X g sh sc)) := by
  rw [body_first i arg2 harg2 arg3 harg3 arg4 harg4 arg5 harg5 arg6 harg6 arg7 harg7 arg8 harg8 arg9 harg9 arg10 harg10 arg11 harg11 arg12 harg12 arg13 harg13 arg14 harg14 h1 h2 h3]
  exact Hoare.bind _ _ _ (first_run 𝒱 c bd E i arg2 harg2 arg3 harg3 arg4 harg4 arg5 harg5 arg6 harg6 arg7 harg7 arg8 harg8 arg9 harg9 arg10 harg10 arg11 harg11 arg12 harg12 arg13 harg13 arg14 harg14 X g sh sc W Wa qc qs kc ks Z G H) fun _ => rotated_run 𝒱 c bd E i arg2 harg2 arg3 harg3 arg4 harg4 arg5 harg5 arg6 harg6 arg7 harg7 arg8 harg8 arg9 harg9 arg10 harg10 arg11 harg11 arg12 harg12 arg13 harg13 arg14 harg14 X g sh sc W Wa qc qs kc ks Z _ _

theorem plain_body_run (𝒱 : Variants) (c : Dev nD) (bd : Option 𝒱.V) (E : Set ℕ) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x1024 .bf16) (harg12 : arg12.IsWhole) (arg13 : Memref sig .tc .vmem S2048x128 .bf16) (harg13 : arg13.IsWhole) (arg14 : Memref sig .tc .vmem S2048x1024 .bf16) (harg14 : arg14.IsWhole) (h1 : ¬ k0_cond1 i = 1#1) (h2 : ¬ k0_cond2 i = 1#1) (h3 : k0_cond3 i = 1#1)
    (X : Vec F S2048x1024 .f32) (g : Vec F S1x1024 .f32) (sh : Vec F S1x1x1024 .f32) (sc : Vec F S1x1x1024 .f32) (W : Vec F S1024x1024 .bf16) (Wa : Vec F S1024x128 .bf16) (qc : Vec F S2048x128 .f32) (qs : Vec F S2048x128 .f32) (kc : Vec F S2048x128 .f32) (ks : Vec F S2048x128 .f32) (Z : Vec F S2048x1024 .bf16) (G : Vec F S2048x128 .bf16) (H : Vec F S2048x1024 .bf16) :
    (All c arg2 arg3 arg4 arg5 arg6 arg7 arg8 arg9 arg10 arg11 arg12 arg13 arg14 X g sh sc W Wa qc qs kc ks Z G H : sProp 𝕄)
      ⊢ wp frame (wpE (defs₀ (F := F)) 𝒱 (c : Thread nD τ) bd) E (cc0_inproj_rope (F := F) i arg2 harg2 arg3 harg3 arg4 harg4 arg5 harg5 arg6 harg6 arg7 harg7 arg8 harg8 arg9 harg9 arg10 harg10 arg11 harg11 arg12 harg12 arg13 harg13 arg14 harg14)
        (fun _ => All c arg2 arg3 arg4 arg5 arg6 arg7 arg8 arg9 arg10 arg11 arg12 arg13 arg14 X g sh sc W Wa qc qs kc ks (plainOf H W) G H) := by
  rw [body_plain i arg2 harg2 arg3 harg3 arg4 harg4 arg5 harg5 arg6 harg6 arg7 harg7 arg8 harg8 arg9 harg9 arg10 harg10 arg11 harg11 arg12 harg12 arg13 harg13 arg14 harg14 h1 h2 h3]
  exact plain_run 𝒱 c bd E i arg2 harg2 arg3 harg3 arg4 harg4 arg5 harg5 arg6 harg6 arg7 harg7 arg8 harg8 arg9 harg9 arg10 harg10 arg11 harg11 arg12 harg12 arg13 harg13 arg14 harg14 X g sh sc W Wa qc qs kc ks Z G H

end Proof.Proj

end
-- ==== Proof.ProjRun.lean ====
module

public import proofs.«01_k».proof.Proof.ProjBody
public import proofs.«01_k».proof.Proof.Gen.Kernel5Ideal.Frame

/-! The run of the whole input projection: what every grid point leaves, and the launch. -/

@[expose] public section

set_option maxRecDepth 65536

noncomputable section

namespace Proof.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid points leave -/

/-- The normalised tokens and the gate input's columns. -/
structure St (F : FTy → Type) [FloatOps F] where
  h : Vec F S2048x1024 .bf16
  ga : Vec F S2048x128 .bf16

/-- The blocks at a grid point. -/
abbrev blkX (c : Dev nD) (t : Fin cfg0.N) : Vec F S2048x1024 .f32 := iblk m c 0 t
abbrev blkG (c : Dev nD) (t : Fin cfg0.N) : Vec F S1x1024 .f32 := iblk m c 1 t
abbrev blkSh (c : Dev nD) (t : Fin cfg0.N) : Vec F S1x1x1024 .f32 := iblk m c 2 t
abbrev blkSc (c : Dev nD) (t : Fin cfg0.N) : Vec F S1x1x1024 .f32 := iblk m c 3 t
abbrev blkW (c : Dev nD) (t : Fin cfg0.N) : Vec F S1024x1024 .bf16 := iblk m c 4 t
abbrev blkWa (c : Dev nD) (t : Fin cfg0.N) : Vec F S1024x128 .bf16 := iblk m c 5 t
abbrev blkQc (c : Dev nD) (t : Fin cfg0.N) : Vec F S2048x128 .f32 := iblk m c 6 t
abbrev blkQs (c : Dev nD) (t : Fin cfg0.N) : Vec F S2048x128 .f32 := iblk m c 7 t
abbrev blkKc (c : Dev nD) (t : Fin cfg0.N) : Vec F S2048x128 .f32 := iblk m c 8 t
abbrev blkKs (c : Dev nD) (t : Fin cfg0.N) : Vec F S2048x128 .f32 := iblk m c 9 t

/-- What grid point `t` leaves, from what it finds: only the first point of a row changes it. -/
def stepAt (c : Dev nD) (t : Fin cfg0.N) (s : St F) : St F :=
  if t.val % 7 = 0 then ⟨hOf (blkX m c t) (blkG m c t) (blkSh m c t) (blkSc m c t), gaOf (blkX m c t) (blkG m c t) (blkSh m c t) (blkSc m c t) (blkWa m c t)⟩ else s

/-- What the grid points before `n` leave; before the first, anything. -/
def stateAt (c : Dev nD) : ℕ → St F
  | 0 => ⟨fun _ => Scalar.ofBits .bf16 0x0000#16, fun _ => Scalar.ofBits .bf16 0x0000#16⟩
  | n + 1 => if h : n < cfg0.N then stepAt m c ⟨n, h⟩ (stateAt c n) else stateAt c n

theorem stateAt_succ (c : Dev nD) (t : Fin cfg0.N) : stateAt m c (t.val + 1) = stepAt m c t (stateAt m c t.val) := by
  show (if h : t.val < cfg0.N then stepAt m c ⟨t.val, h⟩ (stateAt m c t.val) else stateAt m c t.val) = _
  rw [dif_pos t.isLt]

theorem stateAt_first (c : Dev nD) (t : Fin cfg0.N) (h : t.val % 7 = 0) :
    stateAt m c (t.val + 1) = ⟨hOf (blkX m c t) (blkG m c t) (blkSh m c t) (blkSc m c t), gaOf (blkX m c t) (blkG m c t) (blkSh m c t) (blkSc m c t) (blkWa m c t)⟩ := by
  rw [stateAt_succ]; exact if_pos h
theorem stateAt_plain (c : Dev nD) (t : Fin cfg0.N) (h : t.val % 7 ≠ 0) : stateAt m c (t.val + 1) = stateAt m c t.val := by
  rw [stateAt_succ]; exact if_neg h

/-- The block of results grid point `t` writes. -/
def zAt (c : Dev nD) (t : Fin cfg0.N) : Vec F S2048x1024 .bf16 :=
  if t.val % 7 = 0 then rotatedOf (stateAt m c (t.val + 1)).h (blkW m c t) (blkQc m c t) (blkQs m c t) (blkKc m c t) (blkKs m c t)
  else plainOf (stateAt m c (t.val + 1)).h (blkW m c t)

/-- The second coordinate of a grid point: the block of columns. -/
theorem coord1 (t : Fin cfg0.N) : (grid0.coords t 1).val = t.val % 7 := by
  have h := Pipeline.Grid.coords_val (G := grid0) t 1 (S := 1) (B := 7) (by decide) (by decide)
  rw [h]; omega

theorem conds_first (i : grid0.Coords) (h : (i 1).val = 0) : k0_cond1 i = 1#1 ∧ k0_cond2 i = 1#1 ∧ ¬ k0_cond3 i = 1#1 := by
  unfold k0_cond1 k0_cond2 k0_cond3
  rw [h]; decide
theorem conds_plain (i : grid0.Coords) (h : (i 1).val ≠ 0) : ¬ k0_cond1 i = 1#1 ∧ ¬ k0_cond2 i = 1#1 ∧ k0_cond3 i = 1#1 := by
  have h7 : (i 1).val < 7 := (i 1).isLt
  have key : ∀ n < 7, n ≠ 0 → ¬ Scalar.cmpi .ne (Scalar.extui (Scalar.cmpi .eq (BitVec.ofNat 32 n) 0#32) : BitVec 32) 0#32 = 1#1
      ∧ Scalar.cmpi .ne (Scalar.extui (Scalar.cmpi .ne (BitVec.ofNat 32 n) 0#32) : BitVec 32) 0#32 = 1#1 := by decide
  exact ⟨(key _ h7 h).1, (key _ h7 h).1, (key _ h7 h).2⟩

/-! ## The proof data -/

/-- The invariant between grid points: the normalised tokens as the last point left them. -/
def Φs (c : Dev nD) (n : ℕ) : sProp 𝕄 :=
  if n = 0 then Pipeline.ΦA spec0 c
  else iprop(owns (c : Thread nD τ) (Memref.whole cc0_scratch0) fullShare (stateAt m c n).h ∗ ∃ r, prngReg c r)

/-- The proof data: inputs in place, the outputs' blocks at what is left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => zAt m c t
    | ⟨11, _⟩ => (stateAt m c (t.val + 1)).ga
  Φ t := Φs m c t.val
  q w := Pipeline.shareOf spec0 w
  owed _ := 0

theorem dats_A (c : Dev nD) (w : Fin cfg0.W) : (dats m 0 c).A w = V m c (Pipeline.arrRef spec0 w) := rfl

section
attribute [local irreducible] iblk
theorem before0 (c : Dev nD) (t : Fin cfg0.N) (d) : (dats m 0 c).before 0 t d = iblk m c 0 t := before0_0_of m (dats m 0 c) (dats_A m c 0) (fun _ => rfl) t d
theorem before1 (c : Dev nD) (t : Fin cfg0.N) (d) : (dats m 0 c).before 1 t d = iblk m c 1 t := before0_1_of m (dats m 0 c) (dats_A m c 1) (fun _ => rfl) t d
theorem before2 (c : Dev nD) (t : Fin cfg0.N) (d) : (dats m 0 c).before 2 t d = iblk m c 2 t := before0_2_of m (dats m 0 c) (dats_A m c 2) (fun _ => rfl) t d
theorem before3 (c : Dev nD) (t : Fin cfg0.N) (d) : (dats m 0 c).before 3 t d = iblk m c 3 t := before0_3_of m (dats m 0 c) (dats_A m c 3) (fun _ => rfl) t d
theorem before4 (c : Dev nD) (t : Fin cfg0.N) (d) : (dats m 0 c).before 4 t d = iblk m c 4 t := before0_4_of m (dats m 0 c) (dats_A m c 4) (fun _ => rfl) t d
theorem before5 (c : Dev nD) (t : Fin cfg0.N) (d) : (dats m 0 c).before 5 t d = iblk m c 5 t := before0_5_of m (dats m 0 c) (dats_A m c 5) (fun _ => rfl) t d
theorem before6 (c : Dev nD) (t : Fin cfg0.N) (d) : (dats m 0 c).before 6 t d = iblk m c 6 t := before0_6_of m (dats m 0 c) (dats_A m c 6) (fun _ => rfl) t d
theorem before7 (c : Dev nD) (t : Fin cfg0.N) (d) : (dats m 0 c).before 7 t d = iblk m c 7 t := before0_7_of m (dats m 0 c) (dats_A m c 7) (fun _ => rfl) t d
theorem before8 (c : Dev nD) (t : Fin cfg0.N) (d) : (dats m 0 c).before 8 t d = iblk m c 8 t := before0_8_of m (dats m 0 c) (dats_A m c 8) (fun _ => rfl) t d
theorem before9 (c : Dev nD) (t : Fin cfg0.N) (d) : (dats m 0 c).before 9 t d = iblk m c 9 t := before0_9_of m (dats m 0 c) (dats_A m c 9) (fun _ => rfl) t d
end

theorem idle10 (t : Fin cfg0.N) : cfg0.idle 10 (cfg0.grid.coords t) = false := by
  show (!(k0_cond2 (grid0.coords t) == 1#1) && !(k0_cond3 (grid0.coords t) == 1#1)) = false
  by_cases h : t.val % 7 = 0
  · rw [(conds_first (grid0.coords t) ((coord1 t).trans h)).2.1]; rfl
  · rw [(conds_plain (grid0.coords t) (by rw [coord1]; exact h)).2.2]; simp
theorem idle11_first (t : Fin cfg0.N) (h : t.val % 7 = 0) : cfg0.idle 11 (cfg0.grid.coords t) = false := by
  show (!(k0_cond1 (grid0.coords t) == 1#1)) = false
  rw [(conds_first (grid0.coords t) ((coord1 t).trans h)).1]; rfl
theorem idle11_plain (t : Fin cfg0.N) (h : t.val % 7 ≠ 0) : cfg0.idle 11 (cfg0.grid.coords t) = true := by
  show (!(k0_cond1 (grid0.coords t) == 1#1)) = true
  have := (conds_plain (grid0.coords t) (by rw [coord1]; exact h)).1
  simpa using this

/-- Past a row's first point the gate input's block is as that point left it. -/
theorem before11 (c : Dev nD) (d) : ∀ (n : ℕ) (hn : n < cfg0.N), n % 7 ≠ 0 → (dats m 0 c).before 11 ⟨n, hn⟩ d = (stateAt m c n).ga := by
  intro n
  induction n with
  | zero => intro _ h; exact absurd rfl h
  | succ n ih =>
    intro hn h
    have hn' : n < cfg0.N := Nat.lt_of_succ_lt hn
    have hfl : (cfg0.win 11).flush ⟨n, hn'⟩ = false := by
      rw [Bool.eq_false_iff]; intro hf
      have := (flush0_11 _).mp hf
      simp only at this; omega
    rw [(dats m 0 c).before_of_pos 11 ⟨n + 1, hn⟩ (Nat.succ_ne_zero _) ((cfg0.win 11).fetch_out rfl _) d]
    show (if (cfg0.win 11).flush ⟨n, hn'⟩ = true then d else (dats m 0 c).left 11 ⟨n, hn'⟩ d) = _
    rw [hfl, if_neg Bool.false_ne_true]
    unfold Dat.left
    by_cases h7 : n % 7 = 0
    · rw [idle11_first ⟨n, hn'⟩ h7]
      show (dats m 0 c).kept 11 ⟨n, hn'⟩ d = _
      unfold Dat.kept
      rw [Pipeline.fill_of_clip_none (cfg := cfg0) 11 _ (fun _ => rfl) d ((dats m 0 c).after 11 ⟨n, hn'⟩), Window.fill_cut]
      rfl
    · rw [idle11_plain ⟨n, hn'⟩ h7]
      show (dats m 0 c).before 11 ⟨n, hn'⟩ d = _
      rw [ih hn' h7]
      exact congrArg St.ga (stateAt_plain m c ⟨n, hn'⟩ h7).symm

theorem leaves10 (c : Dev nD) (t : Fin cfg0.N) : owns (c : Thread nD τ) (st0_10 t) fullShare (zAt m c t) ⊢ ((dats m 0 c).leavesExact 10 t : sProp 𝕄) := by
  unfold Dat.leavesExact; rw [idle10 t]; exact BIBase.Entails.refl
theorem leaves11 (c : Dev nD) (t : Fin cfg0.N) : owns (c : Thread nD τ) (st0_11 t) fullShare (stateAt m c (t.val + 1)).ga ⊢ ((dats m 0 c).leavesExact 11 t : sProp 𝕄) := by
  by_cases h : t.val % 7 = 0
  · unfold Dat.leavesExact; rw [idle11_first t h]; exact BIBase.Entails.refl
  · cases hf : (cfg0.win 11).flush t
    · rw [(dats m 0 c).leavesExact_idle 11 t (idle11_plain t h) hf]
      iintro H
      iexists (stateAt m c (t.val + 1)).ga
      rw [before11 m c _ t.val t.isLt h, stateAt_plain m c t h]
      iexact H
    · unfold Dat.leavesExact; rw [idle11_plain t h, hf]; exact BIBase.Entails.refl

/-- A step from contents that the step reads as the state. -/
theorem body_step (c : Dev nD) (t : Fin cfg0.N) (Z : Vec F S2048x1024 .bf16) (s : St F) (hs : stepAt m c t s = stateAt m c (t.val + 1)) :
    (All c (st0_0 t) (st0_1 t) (st0_2 t) (st0_3 t) (st0_4 t) (st0_5 t) (st0_6 t) (st0_7 t) (st0_8 t) (st0_9 t) (st0_10 t) (st0_11 t) (Memref.whole cc0_scratch0) (blkX m c t) (blkG m c t) (blkSh m c t) (blkSc m c t) (blkW m c t) (blkWa m c t) (blkQc m c t) (blkQs m c t) (blkKc m c t) (blkKs m c t) Z s.ga s.h : sProp 𝕄)
      ⊢ wp frame (wpE (defs₀ (F := F)) Variants.none (c : Thread nD τ) none) Set.univ (bodyAt0 (F := F) t)
        (fun _ => All c (st0_0 t) (st0_1 t) (st0_2 t) (st0_3 t) (st0_4 t) (st0_5 t) (st0_6 t) (st0_7 t) (st0_8 t) (st0_9 t) (st0_10 t) (st0_11 t) (Memref.whole cc0_scratch0) (blkX m c t) (blkG m c t) (blkSh m c t) (blkSc m c t) (blkW m c t) (blkWa m c t) (blkQc m c t) (blkQs m c t) (blkKc m c t) (blkKs m c t) (zAt m c t) (stateAt m c (t.val + 1)).ga (stateAt m c (t.val + 1)).h) := by
  by_cases h : t.val % 7 = 0
  · obtain ⟨h1, h2, h3⟩ := conds_first (grid0.coords t) ((coord1 t).trans h)
    unfold zAt; rw [if_pos h, stateAt_first m c t h]
    exact first_body_run (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) h1 h2 h3
      (blkX m c t) (blkG m c t) (blkSh m c t) (blkSc m c t) (blkW m c t) (blkWa m c t) (blkQc m c t) (blkQs m c t) (blkKc m c t) (blkKs m c t) Z s.ga s.h
  · obtain ⟨h1, h2, h3⟩ := conds_plain (grid0.coords t) (by rw [coord1]; exact h)
    have e : stateAt m c (t.val + 1) = s := hs.symm.trans (if_neg h)
    unfold zAt; rw [if_neg h, e]
    exact plain_body_run (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) h1 h2 h3
      (blkX m c t) (blkG m c t) (blkSh m c t) (blkSc m c t) (blkW m c t) (blkWa m c t) (blkQc m c t) (blkQs m c t) (blkKc m c t) (blkKs m c t) Z s.ga s.h

theorem defs₀_row (t : Fin cfg0.N) : defs₀ (F := F) .tc cfg0.body (cfg0.bodyArgs t (cfg0.slots t)) = bodyAt0 t := by
  unfold defs₀; rw [Defs.onTc_tc]

/-- What the body is handed, whichever the point: contents that step to the next state. -/
theorem handed (c : Dev nD) (t : Fin cfg0.N) :
    iprop(Φs m c t.val ∗ (∃ d, owns (c : Thread nD τ) (st0_11 t) fullShare ((dats m 0 c).before 11 t d)))
      ⊢ (iprop((∃ s : St F, ⌜stepAt m c t s = stateAt m c (t.val + 1)⌝ ∗ owns (c : Thread nD τ) (st0_11 t) fullShare s.ga
          ∗ owns (c : Thread nD τ) (Memref.whole cc0_scratch0) fullShare s.h) ∗ ∃ r, prngReg c r) : sProp 𝕄) := by
  unfold Φs
  by_cases h0 : t.val = 0
  · rw [if_pos h0]
    unfold Pipeline.ΦA
    rw [scopedRest0_eq]
    iintro ⟨⟨⟨%f, Hf⟩, Hp⟩, ⟨%d, H5⟩⟩
    isplitr [Hp]; swap; · iexact Hp
    iexists (⟨f, (dats m 0 c).before 11 t d⟩ : St F)
    isplitr
    · ipureintro; rw [stateAt_first m c t (by omega)]; exact if_pos (by omega)
    isplitl [H5]; · iexact H5
    rw [owns_whole]
    iexact Hf
  · rw [if_neg h0]
    iintro ⟨⟨Hf, Hp⟩, ⟨%d, H5⟩⟩
    isplitr [Hp]; swap; · iexact Hp
    iexists (⟨(stateAt m c t.val).h, (dats m 0 c).before 11 t d⟩ : St F)
    isplitr
    · ipureintro
      by_cases h7 : t.val % 7 = 0
      · rw [stateAt_first m c t h7]; exact if_pos h7
      · rw [stateAt_plain m c t h7, before11 m c d t.val t.isLt h7]; exact if_neg h7
    isplitl [H5]; · iexact H5
    iexact Hf

set_option maxHeartbeats 1600000 in
/-- The library's body obligation. -/
theorem body_obligation (c : Dev nD) : BodyObligation (dats m 0 c) (defs₀ (F := F)) Variants.none () Set.univ := fun t => by
  rw [bigSep_W0, bigSep_W0, defs₀_row]
  rw [show (dats m 0 c).Φ t.castSucc = Φs m c t.val from rfl, show (dats m 0 c).Φ t.succ = Φs m c (t.val + 1) from rfl,
    show (dats m 0 c).owesAt () t.succ = (dats m 0 c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  rw [before0 m c t d0, before1 m c t d1, before2 m c t d2, before3 m c t d3, before4 m c t d4, before5 m c t d5, before6 m c t d6, before7 m c t d7, before8 m c t d8, before9 m c t d9]
  ihave HH := (handed m c t) $$ [HΦ H11]
  · isplitl [HΦ]; · iexact HΦ
    iexact H11
  icases HH with ⟨⟨%s, %hs, H11, H12⟩, Hp⟩
  iapply (wp_wand_r frame (wpE (defs₀ (F := F)) Variants.none (c : Thread nD τ) none) Set.univ)
  isplitl [H0 H1 H2 H3 H4 H5 H6 H7 H8 H9 H10 H11 H12]
  · iapply (body_step m c t _ s hs)
    unfold All
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %r HA
    unfold All
    icases HA with ⟨H0, H1, H2, H3, H4, H5, H6, H7, H8, H9, H10, H11, H12⟩
    isplitl [H12 Hp]
    · unfold Φs; rw [if_neg (Nat.succ_ne_zero _)]
      isplitl [H12]; · iexact H12
      iexact Hp
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10 m c t); iexact H10
    iapply (leaves11 m c t); iexact H11

/-- What the invariant says after the last point, forgotten. -/
theorem out_forgets (c : Dev nD) : (dats m 0 c).Φ (Fin.last cfg0.N) ⊢ Pipeline.ΦA spec0 c := by
  show Φs m c cfg0.N ⊢ _
  unfold Φs
  rw [if_neg (by rw [show cfg0.N = 224 from N_0]; decide)]
  unfold Pipeline.ΦA
  rw [scopedRest0_eq, owns_whole]
  iintro ⟨Hf, Hp⟩
  isplitr [Hp]; swap; · iexact Hp
  iexists _; iexact Hf

/-! ## The launch -/

/-- What every run of the kernel ends with. -/
abbrev Ends (r : PUnit × MemSt nD τ sig (Elt F)) : Prop :=
  Pipeline.FramePost cfgs (dats m) 0 (Pipeline.afterTail₀ cfgs (dats m) 0 (V0 m) [hostOps1]) r ∧ r.2.sem = fun _ => 0

theorem run_main : θ_run defs (onTc (τ := τ) (main (F := F))) ⟨m, fun _ => 0, ρ⟩ (Ends m) :=
  Pipeline.θ_run_frame_around_track_shared cfgs (dats m) 0 launch₀0 defs₀ Variants.none m ρ main
    (fun c => (body_obligation m c).loose) (fun _ _ _ => rfl) (fun _ _ => rfl) (V0 m) [hostOps1] sfx_sub sfx_fresh sfx_keeps (hmain m Variants.none)
    (fun _ _ => rfl) (fun c => by show _ ⊢ Φs m c 0; unfold Φs; rw [if_pos rfl]) (out_forgets m)
    (Q' := Ends m) (hQ' := fun _ h => h)

/-- The kernel's arguments end as they began. -/
theorem Ends.args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).2 main_arg0 (Pipeline.mem_restRefs_of main_arg0 (by decide) (by decide))).trans (W_main_arg0 m (dats m) c), ((h.1 c).2 main_arg1 (Pipeline.mem_restRefs_of main_arg1 (by decide) (by decide))).trans (W_main_arg1 m (dats m) c), ((h.1 c).2 main_arg2 (Pipeline.mem_restRefs_of main_arg2 (by decide) (by decide))).trans (W_main_arg2 m (dats m) c), ((h.1 c).2 main_arg3 (Pipeline.mem_restRefs_of main_arg3 (by decide) (by decide))).trans (W_main_arg3 m (dats m) c)⟩

end Proof.Proj

end
-- ==== Proof.ProjFrames.lean ====
module

public import proofs.«01_k».proof.Defs
public import proofs.«01_k».proof.Proof.Gen.Kernel5
public import proofs.«01_k».proof.Proof.Gen.Kernel5.Launch
public import proofs.«01_k».proof.Proof.Gen.Reference5Ideal.Run
public import proofs.«01_k».proof.Proof.ProjRun

/-! The input projection's frames: every program runs, its arguments end unchanged, every counter ends
    at zero. -/

@[expose] public section

set_option maxRecDepth 65536

noncomputable section

namespace Proof.Proj

open Idealize.ShloMosaic Idealize.ShloMosaic.TcCoe Idealize.SL.Sem

theorem frame_kernel5Ideal : Cert.quiescent_Kernel5Ideal := fun m ρ _ =>
  (θ_run Cert.Kernel5Ideal.defs _ _).mono (fun _ h => ⟨fun c => h.args m c, h.2⟩) (run_main (F := Ideal) m ρ)

/-- The two printings of the kernel run one body. -/
theorem defs₀_same : Cert.Kernel5.defs₀ (F := Bits) = Cert.Kernel5Ideal.defs₀ (F := Bits) := by
  unfold Cert.Kernel5.defs₀ Cert.Kernel5Ideal.defs₀
  refine congrArg Defs.onTc ?_
  funext l args
  match l, args with
  | ⟨0, _⟩, (t, s) => rfl
  | ⟨_ + 1, h⟩, _ => exact absurd h (Nat.not_lt.2 (Nat.le_add_left _ _))

theorem defs_same : Cert.Kernel5.defs (F := Bits) = Cert.Kernel5Ideal.defs (F := Bits) :=
  congrArg (Pipeline.defs (Cert.Kernel5Ideal.pcfgs (F := Bits))) defs₀_same

/-! The host stretches of the two printings are the same operations, so their host programs are one program. -/

theorem hostOps0_same : Cert.Kernel5.Gen.hostOps0 (F := Bits) = Cert.Kernel5Ideal.Gen.hostOps0 (F := Bits) := rfl
theorem hostOps0_1_same : Cert.Kernel5.Gen.hostOps0_1 (F := Bits) = Cert.Kernel5Ideal.Gen.hostOps0_1 (F := Bits) := rfl
theorem hostOps0_2_same : Cert.Kernel5.Gen.hostOps0_2 (F := Bits) = Cert.Kernel5Ideal.Gen.hostOps0_2 (F := Bits) := rfl
theorem hostOps0_3_same : Cert.Kernel5.Gen.hostOps0_3 (F := Bits) = Cert.Kernel5Ideal.Gen.hostOps0_3 (F := Bits) := rfl
theorem hostOps0_4_same : Cert.Kernel5.Gen.hostOps0_4 (F := Bits) = Cert.Kernel5Ideal.Gen.hostOps0_4 (F := Bits) := rfl
theorem hostOps0_5_same : Cert.Kernel5.Gen.hostOps0_5 (F := Bits) = Cert.Kernel5Ideal.Gen.hostOps0_5 (F := Bits) := rfl
theorem hostOps0_6_same : Cert.Kernel5.Gen.hostOps0_6 (F := Bits) = Cert.Kernel5Ideal.Gen.hostOps0_6 (F := Bits) := rfl
theorem hostOps0_7_same : Cert.Kernel5.Gen.hostOps0_7 (F := Bits) = Cert.Kernel5Ideal.Gen.hostOps0_7 (F := Bits) := rfl
theorem hostOps0_8_same : Cert.Kernel5.Gen.hostOps0_8 (F := Bits) = Cert.Kernel5Ideal.Gen.hostOps0_8 (F := Bits) := rfl
theorem hostOps0_9_same : Cert.Kernel5.Gen.hostOps0_9 (F := Bits) = Cert.Kernel5Ideal.Gen.hostOps0_9 (F := Bits) := rfl
theorem hostOps0_10_same : Cert.Kernel5.Gen.hostOps0_10 (F := Bits) = Cert.Kernel5Ideal.Gen.hostOps0_10 (F := Bits) := rfl
theorem hostOps0_11_same : Cert.Kernel5.Gen.hostOps0_11 (F := Bits) = Cert.Kernel5Ideal.Gen.hostOps0_11 (F := Bits) := rfl
theorem hostOps0_12_same : Cert.Kernel5.Gen.hostOps0_12 (F := Bits) = Cert.Kernel5Ideal.Gen.hostOps0_12 (F := Bits) := rfl
theorem hostOps0_13_same : Cert.Kernel5.Gen.hostOps0_13 (F := Bits) = Cert.Kernel5Ideal.Gen.hostOps0_13 (F := Bits) := rfl
theorem hostOps0_14_same : Cert.Kernel5.Gen.hostOps0_14 (F := Bits) = Cert.Kernel5Ideal.Gen.hostOps0_14 (F := Bits) := rfl
theorem hostOps0_15_same : Cert.Kernel5.Gen.hostOps0_15 (F := Bits) = Cert.Kernel5Ideal.Gen.hostOps0_15 (F := Bits) := rfl
theorem hostOps0_16_same : Cert.Kernel5.Gen.hostOps0_16 (F := Bits) = Cert.Kernel5Ideal.Gen.hostOps0_16 (F := Bits) := rfl
theorem hostOps0_17_same : Cert.Kernel5.Gen.hostOps0_17 (F := Bits) = Cert.Kernel5Ideal.Gen.hostOps0_17 (F := Bits) := rfl
theorem hostOps0_18_same : Cert.Kernel5.Gen.hostOps0_18 (F := Bits) = Cert.Kernel5Ideal.Gen.hostOps0_18 (F := Bits) := rfl
theorem hostOps1_same : Cert.Kernel5.Gen.hostOps1 (F := Bits) = Cert.Kernel5Ideal.Gen.hostOps1 (F := Bits) := rfl

theorem main_same : Cert.Kernel5.main (F := Bits) = Cert.Kernel5Ideal.main (F := Bits) := funext fun c =>
  (Cert.Kernel5.Gen.main_chain c).trans (Eq.trans (congrArg Pipeline.chain (
    congrArg₂ List.cons (congrArg StableHlo.seq hostOps0_same) <|
    congrArg₂ List.cons (congrArg StableHlo.seq hostOps0_1_same) <|
    congrArg₂ List.cons (congrArg StableHlo.seq hostOps0_2_same) <|
    congrArg₂ List.cons (congrArg StableHlo.seq hostOps0_3_same) <|
    congrArg₂ List.cons (congrArg StableHlo.seq hostOps0_4_same) <|
    congrArg₂ List.cons (congrArg StableHlo.seq hostOps0_5_same) <|
    congrArg₂ List.cons (congrArg StableHlo.seq hostOps0_6_same) <|
    congrArg₂ List.cons (congrArg StableHlo.seq hostOps0_7_same) <|
    congrArg₂ List.cons (congrArg StableHlo.seq hostOps0_8_same) <|
    congrArg₂ List.cons (congrArg StableHlo.seq hostOps0_9_same) <|
    congrArg₂ List.cons (congrArg StableHlo.seq hostOps0_10_same) <|
    congrArg₂ List.cons (congrArg StableHlo.seq hostOps0_11_same) <|
    congrArg₂ List.cons (congrArg StableHlo.seq hostOps0_12_same) <|
    congrArg₂ List.cons (congrArg StableHlo.seq hostOps0_13_same) <|
    congrArg₂ List.cons (congrArg StableHlo.seq hostOps0_14_same) <|
    congrArg₂ List.cons (congrArg StableHlo.seq hostOps0_15_same) <|
    congrArg₂ List.cons (congrArg StableHlo.seq hostOps0_16_same) <|
    congrArg₂ List.cons (congrArg StableHlo.seq hostOps0_17_same) <|
    congrArg₂ List.cons (congrArg StableHlo.seq hostOps0_18_same) <|
    congrArg₂ List.cons rfl <| congrArg₂ List.cons (congrArg StableHlo.seq hostOps1_same) rfl))
  (Cert.Kernel5Ideal.Gen.main_chain c).symm)

theorem frame_kernel5 : Cert.quiescent_Kernel5 := fun m ρ _ => by
  rw [defs_same, main_same]
  exact (θ_run Cert.Kernel5Ideal.defs _ _).mono (fun _ h => ⟨fun c => h.args m c, h.2⟩) (run_main (F := Bits) m ρ)

theorem frame_reference5Ideal : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

end Proof.Proj

end
-- ==== Proof.ProjScale.lean ====
module

public import Idealize.ShloMosaic.Lib.Pipeline.ValueKit

/-! A finite nonnegative factor over sums of extended reals. -/

@[expose] public section
noncomputable section
namespace Proof.Proj
open Idealize.ShloMosaic

/-! ## The query's scale

The kernel scales the rotation tables, the reference the rotated query. A nonnegative finite factor distributes over any sum of
extended reals, so the two agree whatever the entries. -/

/-- The scale of the query. -/
abbrev scale : EReal := Ideal.ofBits .f32 0x3E38AA3B#32

theorem scale_eq : ∃ x : ℝ, 0 ≤ x ∧ scale = (x : EReal) := by
  refine ⟨12102203 / 67108864, by norm_num, ?_⟩
  simp [scale, Ideal.ofBits, Ideal.ieee, -EReal.coe_mul]; norm_num

theorem scale_low (a b u v : EReal) : a * (u * scale) + b * (-v * scale) = (a * u - b * v) * scale := by
  obtain ⟨x, hx, e⟩ := scale_eq
  rw [e, sub_eq_add_neg, EReal.right_distrib_of_nonneg_of_ne_top (EReal.coe_nonneg.mpr hx) (EReal.coe_ne_top x), ← mul_assoc, ← mul_assoc, mul_neg]

theorem scale_high (a b u v : EReal) : a * (u * scale) + b * (v * scale) = (a * u + b * v) * scale := by
  obtain ⟨x, hx, e⟩ := scale_eq
  rw [e, EReal.right_distrib_of_nonneg_of_ne_top (EReal.coe_nonneg.mpr hx) (EReal.coe_ne_top x), ← mul_assoc, ← mul_assoc]

theorem turn_low (a b u v : EReal) : a * u + b * -v = a * u - b * v := by rw [sub_eq_add_neg, mul_neg]

end Proof.Proj
end
-- ==== Proof.ProjPoint.lean ====
module

public import proofs.«01_k».proof.Proof.ProjBody
public import Idealize.ShloMosaic.Lib.Pipeline.ValueKit
public import Idealize.ShloMosaic.Lib.StableHlo.ReadAt

/-! What a grid point of the input projection computes, entry by entry. -/

@[expose] public section
set_option maxRecDepth 65536
noncomputable section
namespace Proof.Proj
open Cert.Kernel5Ideal Cert.Kernel5Ideal.Gen
open Idealize.ShloMosaic Idealize.ShloMosaic.TcCoe
open scoped BigOperators

theorem hOf_at (X : Vec Ideal S2048x1024 .f32) (g : Vec Ideal S1x1024 .f32) (sh sc : Vec Ideal S1x1x1024 .f32) (r : Fin 2048) (k : Fin 1024) :
    hOf X g sh sc (ix2 r k)
    = (X (ix2 r k) * Ideal.rsqrt (Ideal.div (∑ x, X (ix2 r x) * X (ix2 r x)) (Ideal.ofBits FTy.f32 1149239296#32) + Ideal.ofBits FTy.f32 897988541#32) * g (ix2 0 k)
        * (1 + sc (ix3 0 0 k)) + sh (ix3 0 0 k) : EReal) := by
  unfold hOf
  simp only [View.ld_unit_lit]
  pointwise [k0_pay2, k0_pay1]

theorem gaOf_at (X : Vec Ideal S2048x1024 .f32) (g : Vec Ideal S1x1024 .f32) (sh sc : Vec Ideal S1x1x1024 .f32) (Wa : Vec Ideal S1024x128 .bf16) (r : Fin 2048) (n : Fin 128) :
    gaOf X g sh sc Wa (ix2 r n) = (∑ k : Fin 1024, (hOf X g sh sc (ix2 r k) : EReal) * Wa (ix2 k n) : EReal) := by
  unfold hOf gaOf
  simp only [View.ld_unit_lit]
  pointwise [k0_pay2, k0_pay3]

theorem acc_at (H : Vec Ideal S2048x1024 .bf16) (W : Vec Ideal S1024x1024 .bf16) (r : Fin 2048) (n : Fin 1024) :
    acc H W (ix2 r n) = (∑ k : Fin 1024, (H (ix2 r k) : EReal) * W (ix2 k n) : EReal) := by
  unfold acc
  simp only [View.ld_unit_lit]
  pointwise [k0_pay4]

theorem plainOf_at (H : Vec Ideal S2048x1024 .bf16) (W : Vec Ideal S1024x1024 .bf16) (r : Fin 2048) (n : Fin 1024) :
    plainOf H W (ix2 r n) = (∑ k : Fin 1024, (H (ix2 r k) : EReal) * W (ix2 k n) : EReal) := by
  unfold plainOf
  simp only [View.ld_unit_lit]
  pointwise [k0_pay4, k0_pay6]

/-- An entry of a rotated block: the column times its cosine and its partner, half a head away, times its sine. -/
def turned (A : S2048x1024.Idx → EReal) (C S : S2048x128.Idx → EReal) (r : Fin 2048) (n : Fin 1024) : EReal :=
  A (ix2 r n) * C (ix2 r ⟨n.val % 128, Nat.mod_lt _ (by decide)⟩)
    + A (ix2 r ⟨n.val / 128 * 128 + (n.val + 64) % 128, by have := n.isLt; omega⟩) * S (ix2 r ⟨n.val % 128, Nat.mod_lt _ (by decide)⟩)

theorem turned_of (A : S2048x1024.Idx → EReal) (C S : S2048x128.Idx → EReal) (r : Fin 2048) (n a b : Fin 1024) (l : Fin 128)
    (ha : a.val = n.val) (hb : b.val = n.val / 128 * 128 + (n.val + 64) % 128) (hl : l.val = n.val % 128) :
    A (ix2 r a) * C (ix2 r l) + A (ix2 r b) * S (ix2 r l) = turned A C S r n := by
  exact congrArg₂ (· + ·) (congrArg₂ (· * ·) (congrArg (fun a => A (ix2 r a)) (Fin.ext ha)) (congrArg (fun l => C (ix2 r l)) (Fin.ext hl)))
    (congrArg₂ (· * ·) (congrArg (fun b => A (ix2 r b)) (Fin.ext hb)) (congrArg (fun l => S (ix2 r l)) (Fin.ext hl)))

theorem pay7_at (A : FVec Ideal S2048x1024 .f32) (C S : Vec Ideal S2048x128 .f32) (r : Fin 2048) (n : Fin 1024) (l : Fin 128) (h : n.val = 0 + l.val) :
    k0_pay7 A C S (ix2 r l) = turned A C S r n := by
  pointwise [k0_pay7]
  have hl := l.isLt
  exact turned_of A C S r n _ _ l (by show _ = _; dsimp only; omega) (by dsimp only; omega) (by omega)

theorem pay8_at (A : FVec Ideal S2048x1024 .f32) (C S : Vec Ideal S2048x128 .f32) (r : Fin 2048) (n : Fin 1024) (l : Fin 128) (h : n.val = 128 + l.val) :
    k0_pay8 A C S (ix2 r l) = turned A C S r n := by
  pointwise [k0_pay8]
  have hl := l.isLt
  exact turned_of A C S r n _ _ l (by show _ = _; dsimp only; omega) (by dsimp only; omega) (by omega)

theorem pay9_at (A : FVec Ideal S2048x1024 .f32) (C S : Vec Ideal S2048x128 .f32) (r : Fin 2048) (n : Fin 1024) (l : Fin 128) (h : n.val = 256 + l.val) :
    k0_pay9 A C S (ix2 r l) = turned A C S r n := by
  pointwise [k0_pay9]
  have hl := l.isLt
  exact turned_of A C S r n _ _ l (by show _ = _; dsimp only; omega) (by dsimp only; omega) (by omega)

theorem pay10_at (A : FVec Ideal S2048x1024 .f32) (C S : Vec Ideal S2048x128 .f32) (r : Fin 2048) (n : Fin 1024) (l : Fin 128) (h : n.val = 384 + l.val) :
    k0_pay10 A C S (ix2 r l) = turned A C S r n := by
  pointwise [k0_pay10]
  have hl := l.isLt
  exact turned_of A C S r n _ _ l (by show _ = _; dsimp only; omega) (by dsimp only; omega) (by omega)

theorem pay11_at (A : FVec Ideal S2048x1024 .f32) (C S : Vec Ideal S2048x128 .f32) (r : Fin 2048) (n : Fin 1024) (l : Fin 128) (h : n.val = 512 + l.val) :
    k0_pay11 A C S (ix2 r l) = turned A C S r n := by
  pointwise [k0_pay11]
  have hl := l.isLt
  exact turned_of A C S r n _ _ l (by show _ = _; dsimp only; omega) (by dsimp only; omega) (by omega)

theorem pay12_at (A : FVec Ideal S2048x1024 .f32) (C S : Vec Ideal S2048x128 .f32) (r : Fin 2048) (n : Fin 1024) (l : Fin 128) (h : n.val = 640 + l.val) :
    k0_pay12 A C S (ix2 r l) = turned A C S r n := by
  pointwise [k0_pay12]
  have hl := l.isLt
  exact turned_of A C S r n _ _ l (by show _ = _; dsimp only; omega) (by dsimp only; omega) (by omega)

theorem pay13_at (A : FVec Ideal S2048x1024 .f32) (C S : Vec Ideal S2048x128 .f32) (r : Fin 2048) (n : Fin 1024) (l : Fin 128) (h : n.val = 768 + l.val) :
    k0_pay13 A C S (ix2 r l) = turned A C S r n := by
  pointwise [k0_pay13]
  have hl := l.isLt
  exact turned_of A C S r n _ _ l (by show _ = _; dsimp only; omega) (by dsimp only; omega) (by omega)

theorem pay14_at (A : FVec Ideal S2048x1024 .f32) (C S : Vec Ideal S2048x128 .f32) (r : Fin 2048) (n : Fin 1024) (l : Fin 128) (h : n.val = 896 + l.val) :
    k0_pay14 A C S (ix2 r l) = turned A C S r n := by
  pointwise [k0_pay14]
  have hl := l.isLt
  exact turned_of A C S r n _ _ l (by show _ = _; dsimp only; omega) (by dsimp only; omega) (by omega)

theorem pay5_at (a b c d e f g h : FVec Ideal S2048x128 .bf16) (r : Fin 2048) (n : Fin 1024) :
    k0_pay5 a b c d e f g h (ix2 r n) = (if h_ : n.val < 128 then a (ix2 r ⟨n.val, h_⟩)
    else if h_ : n.val - 128 < 128 then b (ix2 r ⟨n.val - 128, h_⟩)
    else if h_ : n.val - 128 - 128 < 128 then c (ix2 r ⟨n.val - 128 - 128, h_⟩)
    else if h_ : n.val - 128 - 128 - 128 < 128 then d (ix2 r ⟨n.val - 128 - 128 - 128, h_⟩)
    else if h_ : n.val - 128 - 128 - 128 - 128 < 128 then e (ix2 r ⟨n.val - 128 - 128 - 128 - 128, h_⟩)
    else if h_ : n.val - 128 - 128 - 128 - 128 - 128 < 128 then f (ix2 r ⟨n.val - 128 - 128 - 128 - 128 - 128, h_⟩)
    else if h_ : n.val - 128 - 128 - 128 - 128 - 128 - 128 < 128 then g (ix2 r ⟨n.val - 128 - 128 - 128 - 128 - 128 - 128, h_⟩)
    else h (ix2 r ⟨n.val - 128 - 128 - 128 - 128 - 128 - 128 - 128, by omega⟩) : EReal) := by
  pointwise [k0_pay5]

theorem pay5_of (a b c d e f g h : FVec Ideal S2048x128 .bf16) (r : Fin 2048) (n : Fin 1024) (v : EReal)
    (h0 : ∀ l : Fin 128, n.val = 0 + l.val → a (ix2 r l) = v) (h1 : ∀ l : Fin 128, n.val = 128 + l.val → b (ix2 r l) = v) (h2 : ∀ l : Fin 128, n.val = 256 + l.val → c (ix2 r l) = v) (h3 : ∀ l : Fin 128, n.val = 384 + l.val → d (ix2 r l) = v) (h4 : ∀ l : Fin 128, n.val = 512 + l.val → e (ix2 r l) = v) (h5 : ∀ l : Fin 128, n.val = 640 + l.val → f (ix2 r l) = v) (h6 : ∀ l : Fin 128, n.val = 768 + l.val → g (ix2 r l) = v) (h7 : ∀ l : Fin 128, n.val = 896 + l.val → h (ix2 r l) = v) :
    k0_pay5 a b c d e f g h (ix2 r n) = v := by
  rw [pay5_at]
  have hn := n.isLt
  split_ifs
  · exact h0 _ (by dsimp only; omega)
  · exact h1 _ (by dsimp only; omega)
  · exact h2 _ (by dsimp only; omega)
  · exact h3 _ (by dsimp only; omega)
  · exact h4 _ (by dsimp only; omega)
  · exact h5 _ (by dsimp only; omega)
  · exact h6 _ (by dsimp only; omega)
  · exact h7 _ (by dsimp only; omega)

theorem rotatedOf_at (H : Vec Ideal S2048x1024 .bf16) (W : Vec Ideal S1024x1024 .bf16) (qc qs kc ks : Vec Ideal S2048x128 .f32) (r : Fin 2048) (n : Fin 1024) :
    rotatedOf H W qc qs kc ks (ix2 r n) = if n.val < 512 then turned (acc H W) qc qs r n else turned (acc H W) kc ks r n := by
  unfold rotatedOf
  have hz : ∀ X : Vec Ideal S2048x128 .f32, View.ld X (Rect.unit (s := S2048x128) ![0, 0] S2048x128.size inb_S2048x128_S2048x128_0_0) = X :=
    fun X => View.ld_unit_lit _ X (by decide)
  rw [hz qc, hz qs, hz kc, hz ks]
  generalize acc H W = A
  refine pay5_of _ _ _ _ _ _ _ _ r n _ (fun l h => (pay7_at A _ _ r n l h).trans (if_pos (show n.val < 512 by omega)).symm) (fun l h => (pay8_at A _ _ r n l h).trans (if_pos (show n.val < 512 by omega)).symm) (fun l h => (pay9_at A _ _ r n l h).trans (if_pos (show n.val < 512 by omega)).symm) (fun l h => (pay10_at A _ _ r n l h).trans (if_pos (show n.val < 512 by omega)).symm) (fun l h => (pay11_at A _ _ r n l h).trans (if_neg (show ¬ n.val < 512 by omega)).symm) (fun l h => (pay12_at A _ _ r n l h).trans (if_neg (show ¬ n.val < 512 by omega)).symm) (fun l h => (pay13_at A _ _ r n l h).trans (if_neg (show ¬ n.val < 512 by omega)).symm) (fun l h => (pay14_at A _ _ r n l h).trans (if_neg (show ¬ n.val < 512 by omega)).symm)

end Proof.Proj
end
-- ==== Proof.ProjHost.lean ====
module

public import proofs.«01_k».proof.Proof.Gen.Kernel5Ideal.Frame
public import Idealize.ShloMosaic.Lib.Pipeline.ValueKit
public import Idealize.ShloMosaic.Lib.StableHlo.ReadAt

/-! What the host hands the input projection. -/

@[expose] public section
set_option maxRecDepth 65536
noncomputable section
namespace Proof.Proj
open Cert.Kernel5Ideal Cert.Kernel5Ideal.Gen
open Idealize.ShloMosaic Idealize.ShloMosaic.TcCoe Idealize.SL.Sem
open scoped BigOperators

section Host
variable (m : (ℓ : Loc nD τ sig) → Buf (Elt Ideal) ℓ) (c : Dev nD)

/-- The arguments: the tokens, the modulations, the norm's weights, the projection. -/
abbrev argX : S32x2048x1024.Idx → EReal := m (c.tc.loc main_arg0)
abbrev argM : S40x6144.Idx → EReal := m (c.tc.loc main_arg1)
abbrev argG : S1024.Idx → EReal := m (c.tc.loc main_arg2)
abbrev argW : S1024x7200.Idx → EReal := m (c.tc.loc main_arg3)

/-- The column a lane comes from: the heads' lanes are laid out by half, component, axis and frequency. -/
def orig (n : ℕ) : ℕ := n / 128 * 128 + n % 64 / 32 * 64 + n % 32 / 16 * 32 + n % 128 / 64 * 16 + n % 16

set_option maxHeartbeats 1000000 in
theorem row_at (j : Fin 2048) : V m c main_v61 (ix1 j) = BitVec.ofNat 32 (j.val / 64) := by
  unfold V V0
  after_reads_at
  revert j
  decide +kernel

set_option maxHeartbeats 1000000 in
theorem col_at (j : Fin 2048) : V m c main_v68 (ix1 j) = BitVec.ofNat 32 (j.val % 64) := by
  unfold V V0
  after_reads_at
  revert j
  decide +kernel

set_option maxHeartbeats 1000000 in
theorem lanes_q (j : Fin 512) : V m c main_v32 (ix2 j 0) = BitVec.ofNat 32 (orig j.val) := by
  unfold V V0
  after_reads_at
  revert j
  decide +kernel

set_option maxHeartbeats 1000000 in
theorem lanes_k (j : Fin 512) : V m c main_v40 (ix2 j 0) = BitVec.ofNat 32 (orig j.val) := by
  unfold V V0
  after_reads_at
  revert j
  decide +kernel

/-- The buffers the host makes, by number. -/
abbrev buf33 : S1024x512.Idx → EReal := V m c main_v33
abbrev buf41 : S1024x512.Idx → EReal := V m c main_v41
abbrev buf52 : S1024x7168.Idx → EReal := V m c main_v52
abbrev buf53 : S1024x128.Idx → EReal := V m c main_v53
abbrev buf60 : S16.Idx → EReal := V m c main_v60
abbrev buf77 : S2048x32.Idx → EReal := V m c main_v77
abbrev buf80 : S2048x32.Idx → EReal := V m c main_v80
abbrev buf83 : S2048x128.Idx → EReal := V m c main_v83
abbrev buf86 : S2048x128.Idx → EReal := V m c main_v86
abbrev buf88 : S2048x128.Idx → EReal := V m c main_v88
abbrev buf90 : S2048x128.Idx → EReal := V m c main_v90
abbrev buf91 : S65536x1024.Idx → EReal := V m c main_v91
abbrev buf92 : S1x1024.Idx → EReal := V m c main_v92
abbrev buf0 : S40x1x6144.Idx → EReal := V m c main_v0

set_option maxHeartbeats 1000000 in
theorem signed_at (l : Fin 2048) (n : Fin 128) : buf86 m c (ix2 l n) = if h : n.val < 32 then -buf80 m c (ix2 l ⟨n.val, h⟩)
    else if h : n.val - 32 < 32 then -buf80 m c (ix2 l ⟨n.val - 32, h⟩)
    else if h : n.val - 32 - 32 < 32 then buf80 m c (ix2 l ⟨n.val - 32 - 32, h⟩)
    else buf80 m c (ix2 l ⟨n.val - 32 - 32 - 32, by omega⟩) := by
  unfold buf80 buf86 V V0
  repeat after_reads_at

set_option maxHeartbeats 1000000 in
theorem qcos_at (l : Fin 2048) (n : Fin 128) : buf88 m c (ix2 l n) = buf83 m c (ix2 l n) * Ideal.ofBits .f32 0x3E38AA3B#32 := by
  unfold buf83 buf88 V V0
  repeat after_reads_at

set_option maxHeartbeats 1000000 in
theorem qsin_at (l : Fin 2048) (n : Fin 128) : buf90 m c (ix2 l n) = buf86 m c (ix2 l n) * Ideal.ofBits .f32 0x3E38AA3B#32 := by
  unfold buf86 buf90 V V0
  repeat after_reads_at

set_option maxHeartbeats 1000000 in
theorem inv_at (f : Fin 16) : buf60 m c (ix1 f) = Ideal.pow (Ideal.ofBits FTy.f32 1176256512#32) (Ideal.div (-(FloatOps.sitofp (F := Ideal) FTy.f32 (BitVec.ofNat 32 f.val) : EReal)) (Ideal.ofBits FTy.f32 1098907648#32)) := by
  unfold buf60 V V0
  repeat after_reads_at

set_option maxHeartbeats 1000000 in
theorem w_at (i : Fin 1024) (n : Fin 7168) : buf52 m c (ix2 i n) = if h : n.val < 512 then buf33 m c (ix2 i ⟨n.val, h⟩)
    else if h : n.val - 512 < 512 then buf41 m c (ix2 i ⟨n.val - 512, h⟩)
    else if h : n.val - 512 - 512 < 512 then argW m c (ix2 i ⟨1024 + (n.val - 512 - 512), by omega⟩)
    else if h : n.val - 512 - 512 - 512 < 512 then argW m c (ix2 i ⟨3072 + (n.val - 512 - 512 - 512), by omega⟩)
    else if h : n.val - 512 - 512 - 512 - 512 < 1024 then argW m c (ix2 i ⟨1536 + (n.val - 512 - 512 - 512 - 512), by omega⟩)
    else if h : n.val - 512 - 512 - 512 - 512 - 1024 < 512 then argW m c (ix2 i ⟨3584 + (n.val - 512 - 512 - 512 - 512 - 1024), by omega⟩)
    else if h : n.val - 512 - 512 - 512 - 512 - 1024 - 512 < 256 then argW m c (ix2 i ⟨2560 + (n.val - 512 - 512 - 512 - 512 - 1024 - 512), by omega⟩)
    else if h : n.val - 512 - 512 - 512 - 512 - 1024 - 512 - 256 < 256 then argW m c (ix2 i ⟨2816 + (n.val - 512 - 512 - 512 - 512 - 1024 - 512 - 256), by omega⟩)
    else argW m c (ix2 i ⟨4128 + (n.val - 512 - 512 - 512 - 512 - 1024 - 512 - 256 - 256), by omega⟩) := by
  unfold buf33 buf41 buf52 V V0
  repeat after_reads_at

set_option maxHeartbeats 1000000 in
theorem x_at (n : Fin 65536) (j : Fin 1024) : buf91 m c (ix2 n j) = argX m c (ix3 ⟨n.val / 2048, by omega⟩ ⟨n.val % 2048, Nat.mod_lt _ (by decide)⟩ j) := by
  unfold buf91 V V0
  repeat after_reads_at

set_option maxHeartbeats 1000000 in
theorem g_at (j : Fin 1024) : buf92 m c (ix2 0 j) = argG m c (ix1 j) := by
  unfold buf92 V V0
  repeat after_reads_at

set_option maxHeartbeats 1000000 in
theorem mod_at (b : Fin 40) (j : Fin 6144) : buf0 m c (ix3 b 0 j) = argM m c (ix2 b j) := by
  unfold buf0 V V0
  repeat after_reads_at

set_option maxHeartbeats 1000000 in
theorem ga_at (i : Fin 1024) (n : Fin 128) (h : n.val < 32) : buf53 m c (ix2 i n) = argW m c (ix2 i ⟨4096 + n.val, by omega⟩) := by
  unfold buf53 V V0
  repeat after_reads_at
  rw [dif_pos h]

set_option maxHeartbeats 1000000 in
theorem cos_at (l : Fin 2048) (n : Fin 128) : buf83 m c (ix2 l n) = buf77 m c (ix2 l ⟨n.val % 32, by omega⟩) := by
  unfold buf77 buf83 V V0
  repeat after_reads_at

set_option maxHeartbeats 1000000 in
theorem halfcos_at (l : Fin 2048) (n : Fin 32) : buf77 m c (ix2 l n) = (if h : n.val < 16 then Ideal.cos ((FloatOps.sitofp (F := Ideal) FTy.f32 ((V m c main_v61 : S2048.Idx → BitVec 32) (ix1 l)) : EReal) * buf60 m c (ix1 ⟨n.val, h⟩)) else Ideal.cos ((FloatOps.sitofp (F := Ideal) FTy.f32 ((V m c main_v68 : S2048.Idx → BitVec 32) (ix1 l)) : EReal) * buf60 m c (ix1 ⟨n.val - 16, by omega⟩))) := by
  unfold buf60 buf77 V V0
  repeat after_reads_at

set_option maxHeartbeats 1000000 in
theorem halfsin_at (l : Fin 2048) (n : Fin 32) : buf80 m c (ix2 l n) = (if h : n.val < 16 then Ideal.sin ((FloatOps.sitofp (F := Ideal) FTy.f32 ((V m c main_v61 : S2048.Idx → BitVec 32) (ix1 l)) : EReal) * buf60 m c (ix1 ⟨n.val, h⟩)) else Ideal.sin ((FloatOps.sitofp (F := Ideal) FTy.f32 ((V m c main_v68 : S2048.Idx → BitVec 32) (ix1 l)) : EReal) * buf60 m c (ix1 ⟨n.val - 16, by omega⟩))) := by
  unfold buf60 buf80 V V0
  repeat after_reads_at

set_option maxHeartbeats 1000000 in
theorem gather_q : buf33 m c = Host.gather gather_S1024x512_S512x1_S1024x512_0_1_n_n_1_1_10241 (extractStridedSlice S1024x512 ![0, 0] (argW m c) slices_S1024x7200_S1024x512_0_0) (V m c main_v32) := by
  unfold buf33 V V0
  after_reads_simp

set_option maxHeartbeats 1000000 in
theorem gather_k : buf41 m c = Host.gather gather_S1024x512_S512x1_S1024x512_0_1_n_n_1_1_10241 (extractStridedSlice S1024x512 ![0, 512] (argW m c) slices_S1024x7200_S1024x512_0_512) (V m c main_v40) := by
  unfold buf41 V V0
  after_reads_simp

end Host
end Proof.Proj
end
-- ==== Proof.ProjRef.lean ====
module

public import proofs.«01_k».proof.Proof.Gen.Reference5Ideal.Run
public import Idealize.ShloMosaic.Lib.Pipeline.ValueKit

/-! The reference's input projection, read at an index. -/

@[expose] public section
set_option maxRecDepth 65536
noncomputable section
namespace Proof.Proj
open Cert.Reference5Ideal Cert.Reference5Ideal.Gen Cert.Reference5Ideal.Value
open Idealize.ShloMosaic Idealize.ShloMosaic.TcCoe Idealize.SL.Sem
open scoped BigOperators

/-! The reference's results, as its own operations of the projected tokens and of the two rotation tables. -/

def hidden (X : FVec Ideal S32x2048x1024 .f32) (M : FVec Ideal S40x6144 .f32) (G : FVec Ideal S1024 .f32) : FVec Ideal S32x2048x1024 .f32 :=
  (addf (mulf (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))) (broadcastInDim S32x2048x1024 ![0, 1, 2] bcast_S32x1x1024_S32x2048x1024_0_1_2 (addf (broadcastInDim S32x1x1024 ![] bcast_S_S32x1x1024 (constant S_ .f32 0x3F800000#32)) (extractStridedSlice S32x1x1024 ![0, 0, 1024] (broadcastInDim S32x1x6144 ![0, 2] bcast_S32x6144_S32x1x6144_0_2 (extractStridedSlice S32x6144 ![0, 0] M slices_S40x6144_S32x6144_0_0)) slices_S32x1x6144_S32x1x1024_0_0_1024)))) (broadcastInDim S32x2048x1024 ![0, 1, 2] bcast_S32x1x1024_S32x2048x1024_0_1_2 (extractStridedSlice S32x1x1024 ![0, 0, 0] (broadcastInDim S32x1x6144 ![0, 2] bcast_S32x6144_S32x1x6144_0_2 (extractStridedSlice S32x6144 ![0, 0] M slices_S40x6144_S32x6144_0_0)) slices_S32x1x6144_S32x1x1024_0_0_0)))

def proj (X : FVec Ideal S32x2048x1024 .f32) (M : FVec Ideal S40x6144 .f32) (G : FVec Ideal S1024 .f32) (W : FVec Ideal S1024x7200 .f32) : FVec Ideal S32x2048x7200 .f32 :=
  Host.dotGeneral dot_S32x2048x1024_S1024x7200_S32x2048x7200_2_0_01_1_n_n none (hidden X M G) W

def angles : FVec Ideal S2048x2x16 .f32 :=
  (mulf (broadcastInDim S2048x2x16 ![0, 1, 2] bcast_S2048x2x1_S2048x2x16_0_1_2 (broadcastInDim S2048x2x1 ![0, 1] bcast_S2048x2_S2048x2x1_0_1 (sitofp .f32 (concatenate S2048x2 1 [⟨S2048x1, (broadcastInDim S2048x1 ![0] bcast_S2048_S2048x1_0 (shapeCast _ (broadcastInDim S32x64 ![0] bcast_S32_S32x64_0 (iotaInDim S32 32 0)) shapeCasts_S32x64_S2048))⟩, ⟨S2048x1, (broadcastInDim S2048x1 ![0] bcast_S2048_S2048x1_0 (shapeCast _ (broadcastInDim S32x64 ![0, 1] bcast_S1x64_S32x64_0_1 (shapeCast _ (iotaInDim S64 32 0) shapeCasts_S64_S1x64)) shapeCasts_S32x64_S2048))⟩] concatenates_S2048x1_S2048x1_S2048x2_d1)))) (broadcastInDim S2048x2x16 ![0, 1, 2] bcast_S1x1x16_S2048x2x16_0_1_2 (broadcastInDim S1x1x16 ![2] bcast_S16_S1x1x16_2 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))

def qRef (P : FVec Ideal S32x2048x7200 .f32) (C S : FVec Ideal S2048x2x16 .f32) : FVec Ideal S32x2048x4x2x64 .f32 :=
  mulf (shapeCast _ (concatenate S32x2048x4x2x2x2x16 5 [⟨S32x2048x4x2x2x1x16, (broadcastInDim S32x2048x4x2x2x1x16 ![0, 1, 2, 3, 4, 6] bcast_S32x2048x4x2x2x16_S32x2048x4x2x2x1x16_0_1_2_3_4_6 (subf (mulf (shapeCast _ (extractStridedSlice S32x2048x4x2x2x1x16 ![0, 0, 0, 0, 0, 0, 0] (shapeCast _ (shapeCast _ (extractStridedSlice S32x2048x512 ![0, 0, 0] P slices_S32x2048x7200_S32x2048x512_0_0_0) shapeCasts_S32x2048x512_S32x2048x4x2x64) shapeCasts_S32x2048x4x2x64_S32x2048x4x2x2x2x16) slices_S32x2048x4x2x2x2x16_S32x2048x4x2x2x1x16_0_0_0_0_0_0_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 C)))) (mulf (shapeCast _ (extractStridedSlice S32x2048x4x2x2x1x16 ![0, 0, 0, 0, 0, 1, 0] (shapeCast _ (shapeCast _ (extractStridedSlice S32x2048x512 ![0, 0, 0] P slices_S32x2048x7200_S32x2048x512_0_0_0) shapeCasts_S32x2048x512_S32x2048x4x2x64) shapeCasts_S32x2048x4x2x64_S32x2048x4x2x2x2x16) slices_S32x2048x4x2x2x2x16_S32x2048x4x2x2x1x16_0_0_0_0_0_1_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 S))))))⟩, ⟨S32x2048x4x2x2x1x16, (broadcastInDim S32x2048x4x2x2x1x16 ![0, 1, 2, 3, 4, 6] bcast_S32x2048x4x2x2x16_S32x2048x4x2x2x1x16_0_1_2_3_4_6 (addf (mulf (shapeCast _ (extractStridedSlice S32x2048x4x2x2x1x16 ![0, 0, 0, 0, 0, 1, 0] (shapeCast _ (shapeCast _ (extractStridedSlice S32x2048x512 ![0, 0, 0] P slices_S32x2048x7200_S32x2048x512_0_0_0) shapeCasts_S32x2048x512_S32x2048x4x2x64) shapeCasts_S32x2048x4x2x64_S32x2048x4x2x2x2x16) slices_S32x2048x4x2x2x2x16_S32x2048x4x2x2x1x16_0_0_0_0_0_1_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 C)))) (mulf (shapeCast _ (extractStridedSlice S32x2048x4x2x2x1x16 ![0, 0, 0, 0, 0, 0, 0] (shapeCast _ (shapeCast _ (extractStridedSlice S32x2048x512 ![0, 0, 0] P slices_S32x2048x7200_S32x2048x512_0_0_0) shapeCasts_S32x2048x512_S32x2048x4x2x64) shapeCasts_S32x2048x4x2x64_S32x2048x4x2x2x2x16) slices_S32x2048x4x2x2x2x16_S32x2048x4x2x2x1x16_0_0_0_0_0_0_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 S))))))⟩] concatenates_S32x2048x4x2x2x1x16_S32x2048x4x2x2x1x16_S32x2048x4x2x2x2x16_d5) shapeCasts_S32x2048x4x2x2x2x16_S32x2048x4x2x64) (broadcastInDim S32x2048x4x2x64 ![] bcast_S_S32x2048x4x2x64 (constant S_ .f32 0x3E38AA3B#32))

def kRef (P : FVec Ideal S32x2048x7200 .f32) (C S : FVec Ideal S2048x2x16 .f32) : FVec Ideal S32x2048x4x2x64 .f32 :=
  shapeCast _ (concatenate S32x2048x4x2x2x2x16 5 [⟨S32x2048x4x2x2x1x16, (broadcastInDim S32x2048x4x2x2x1x16 ![0, 1, 2, 3, 4, 6] bcast_S32x2048x4x2x2x16_S32x2048x4x2x2x1x16_0_1_2_3_4_6 (subf (mulf (shapeCast _ (extractStridedSlice S32x2048x4x2x2x1x16 ![0, 0, 0, 0, 0, 0, 0] (shapeCast _ (shapeCast _ (extractStridedSlice S32x2048x512 ![0, 0, 512] P slices_S32x2048x7200_S32x2048x512_0_0_512) shapeCasts_S32x2048x512_S32x2048x4x2x64) shapeCasts_S32x2048x4x2x64_S32x2048x4x2x2x2x16) slices_S32x2048x4x2x2x2x16_S32x2048x4x2x2x1x16_0_0_0_0_0_0_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 C)))) (mulf (shapeCast _ (extractStridedSlice S32x2048x4x2x2x1x16 ![0, 0, 0, 0, 0, 1, 0] (shapeCast _ (shapeCast _ (extractStridedSlice S32x2048x512 ![0, 0, 512] P slices_S32x2048x7200_S32x2048x512_0_0_512) shapeCasts_S32x2048x512_S32x2048x4x2x64) shapeCasts_S32x2048x4x2x64_S32x2048x4x2x2x2x16) slices_S32x2048x4x2x2x2x16_S32x2048x4x2x2x1x16_0_0_0_0_0_1_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 S))))))⟩, ⟨S32x2048x4x2x2x1x16, (broadcastInDim S32x2048x4x2x2x1x16 ![0, 1, 2, 3, 4, 6] bcast_S32x2048x4x2x2x16_S32x2048x4x2x2x1x16_0_1_2_3_4_6 (addf (mulf (shapeCast _ (extractStridedSlice S32x2048x4x2x2x1x16 ![0, 0, 0, 0, 0, 1, 0] (shapeCast _ (shapeCast _ (extractStridedSlice S32x2048x512 ![0, 0, 512] P slices_S32x2048x7200_S32x2048x512_0_0_512) shapeCasts_S32x2048x512_S32x2048x4x2x64) shapeCasts_S32x2048x4x2x64_S32x2048x4x2x2x2x16) slices_S32x2048x4x2x2x2x16_S32x2048x4x2x2x1x16_0_0_0_0_0_1_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 C)))) (mulf (shapeCast _ (extractStridedSlice S32x2048x4x2x2x1x16 ![0, 0, 0, 0, 0, 0, 0] (shapeCast _ (shapeCast _ (extractStridedSlice S32x2048x512 ![0, 0, 512] P slices_S32x2048x7200_S32x2048x512_0_0_512) shapeCasts_S32x2048x512_S32x2048x4x2x64) shapeCasts_S32x2048x4x2x64_S32x2048x4x2x2x2x16) slices_S32x2048x4x2x2x2x16_S32x2048x4x2x2x1x16_0_0_0_0_0_0_0) shapeCasts_S32x2048x4x2x2x1x16_S32x2048x4x2x2x16) (broadcastInDim S32x2048x4x2x2x16 ![0, 1, 2, 3, 4, 5] bcast_S1x2048x1x1x2x16_S32x2048x4x2x2x16_0_1_2_3_4_5 (broadcastInDim S1x2048x1x1x2x16 ![1, 2, 3, 4, 5] bcast_S2048x1x1x2x16_S1x2048x1x1x2x16_1_2_3_4_5 (broadcastInDim S2048x1x1x2x16 ![0, 3, 4] bcast_S2048x2x16_S2048x1x1x2x16_0_3_4 S))))))⟩] concatenates_S32x2048x4x2x2x1x16_S32x2048x4x2x2x1x16_S32x2048x4x2x2x2x16_d5) shapeCasts_S32x2048x4x2x2x2x16_S32x2048x4x2x64

def restRef (P : FVec Ideal S32x2048x7200 .f32) : FVec Ideal S32x2048x6144 .f32 :=
  (concatenate S32x2048x6144 2 [⟨S32x2048x512, ((extractStridedSlice S32x2048x512 ![0, 0, 1024] P slices_S32x2048x7200_S32x2048x512_0_0_1024) : (⟨S32x2048x512, .f32⟩ : BufTy).Contents (Elt Ideal))⟩, ⟨S32x2048x512, ((extractStridedSlice S32x2048x512 ![0, 0, 3072] P slices_S32x2048x7200_S32x2048x512_0_0_3072) : (⟨S32x2048x512, .f32⟩ : BufTy).Contents (Elt Ideal))⟩, ⟨S32x2048x1024, ((extractStridedSlice S32x2048x1024 ![0, 0, 1536] P slices_S32x2048x7200_S32x2048x1024_0_0_1536) : (⟨S32x2048x1024, .f32⟩ : BufTy).Contents (Elt Ideal))⟩, ⟨S32x2048x512, ((extractStridedSlice S32x2048x512 ![0, 0, 3584] P slices_S32x2048x7200_S32x2048x512_0_0_3584) : (⟨S32x2048x512, .f32⟩ : BufTy).Contents (Elt Ideal))⟩, ⟨S32x2048x256, ((extractStridedSlice S32x2048x256 ![0, 0, 2560] P slices_S32x2048x7200_S32x2048x256_0_0_2560) : (⟨S32x2048x256, .f32⟩ : BufTy).Contents (Elt Ideal))⟩, ⟨S32x2048x256, ((extractStridedSlice S32x2048x256 ![0, 0, 2816] P slices_S32x2048x7200_S32x2048x256_0_0_2816) : (⟨S32x2048x256, .f32⟩ : BufTy).Contents (Elt Ideal))⟩, ⟨S32x2048x3072, ((extractStridedSlice S32x2048x3072 ![0, 0, 4128] P slices_S32x2048x7200_S32x2048x3072_0_0_4128) : (⟨S32x2048x3072, .f32⟩ : BufTy).Contents (Elt Ideal))⟩] concatenates_S32x2048x512_S32x2048x512_S32x2048x1024_S32x2048x512_S32x2048x256_S32x2048x256_S32x2048x3072_S32x2048x6144_d2 : (⟨S32x2048x6144, .f32⟩ : BufTy).Contents (Elt Ideal))

def gaRef (P : FVec Ideal S32x2048x7200 .f32) : FVec Ideal S32x2048x32 .f32 :=
  extractStridedSlice S32x2048x32 ![0, 0, 4096] P slices_S32x2048x7200_S32x2048x32_0_0_4096

section Run
variable (m : (ℓ : Loc nD τ sig) → Buf (Elt Ideal) ℓ) (c : Dev nD)
abbrev projAt : FVec Ideal S32x2048x7200 .f32 := proj (m (c.tc.loc main_arg0)) (m (c.tc.loc main_arg1)) (m (c.tc.loc main_arg2)) (m (c.tc.loc main_arg3))
theorem q_run : res_main_v115 (F := Ideal) m c = qRef (projAt m c) (Host.cos angles) (Host.sin angles) := by unfold res_main_v115; rfl
theorem k_run : res_main_v113 (F := Ideal) m c = kRef (projAt m c) (Host.cos angles) (Host.sin angles) := by unfold res_main_v113; rfl
theorem rest_run : res_main_v116 (F := Ideal) m c = restRef (projAt m c) := by unfold res_main_v116; rfl
end Run

section Read
variable (X : FVec Ideal S32x2048x1024 .f32) (M : FVec Ideal S40x6144 .f32) (G : FVec Ideal S1024 .f32) (W : FVec Ideal S1024x7200 .f32)
variable (P : FVec Ideal S32x2048x7200 .f32) (C S : FVec Ideal S2048x2x16 .f32)

theorem hidden_at (b : Fin 32) (s : Fin 2048) (j : Fin 1024) : hidden X M G (ix3 b s j)
    = (X (ix3 b s j) * Ideal.rsqrt (Ideal.div (∑ x, X (ix3 b s x) * X (ix3 b s x)) (Ideal.ofBits FTy.f32 1149239296#32) + Ideal.ofBits FTy.f32 897988541#32) * G (ix1 j)
        * (1 + M (ix2 ⟨b.val, by omega⟩ ⟨1024 + j.val, by omega⟩)) + M (ix2 ⟨b.val, by omega⟩ ⟨j.val, by omega⟩) : EReal) := by
  pointwise [hidden]

theorem proj_at (b : Fin 32) (s : Fin 2048) (j : Fin 7200) : proj X M G W (ix3 b s j) = (∑ k : Fin 1024, hidden X M G (ix3 b s k) * W (ix2 k j) : EReal) := by
  pointwise [proj]

theorem angles_at (l : Fin 2048) (a : Fin 2) (f : Fin 16) : angles (ix3 l a f)
    = ((FloatOps.sitofp (F := Ideal) FTy.f32 (if h : a.val < 1 then BitVec.ofNat 32 (l.val / 64) else BitVec.ofNat 32 (l.val % 64)) : EReal)
      * Ideal.pow (Ideal.ofBits FTy.f32 1176256512#32) (Ideal.div (-(FloatOps.sitofp (F := Ideal) FTy.f32 (BitVec.ofNat 32 f.val) : EReal)) (Ideal.ofBits FTy.f32 1098907648#32)) : EReal) := by
  pointwise [angles]

theorem gaRef_at (b : Fin 32) (s : Fin 2048) (j : Fin 32) : gaRef P (ix3 b s j) = P (ix3 b s ⟨4096 + j.val, by omega⟩) := by
  pointwise [gaRef]

theorem restRef_at (b : Fin 32) (s : Fin 2048) (j : Fin 6144) : restRef P (ix3 b s j)
    = if h : j.val < 512 then P (ix3 b s ⟨1024 + (j.val), by omega⟩)
    else if h : j.val - 512 < 512 then P (ix3 b s ⟨3072 + (j.val - 512), by omega⟩)
    else if h : j.val - 512 - 512 < 1024 then P (ix3 b s ⟨1536 + (j.val - 512 - 512), by omega⟩)
    else if h : j.val - 512 - 512 - 1024 < 512 then P (ix3 b s ⟨3584 + (j.val - 512 - 512 - 1024), by omega⟩)
    else if h : j.val - 512 - 512 - 1024 - 512 < 256 then P (ix3 b s ⟨2560 + (j.val - 512 - 512 - 1024 - 512), by omega⟩)
    else if h : j.val - 512 - 512 - 1024 - 512 - 256 < 256 then P (ix3 b s ⟨2816 + (j.val - 512 - 512 - 1024 - 512 - 256), by omega⟩)
    else P (ix3 b s ⟨4128 + (j.val - 512 - 512 - 1024 - 512 - 256 - 256), by omega⟩) := by
  pointwise [restRef]

theorem qRef_at (b : Fin 32) (s : Fin 2048) (h : Fin 4) (p : Fin 2) (d : Fin 64) : qRef P C S (ix5 b s h p d)
    = ((if _h : d.val / 16 % 2 < 1 then (P (ix3 b s ⟨h.val * 128 + p.val * 64 + d.val / 32 * 32 + d.val % 16, by omega⟩) : EReal) * C (ix3 s ⟨d.val / 32, by omega⟩ ⟨d.val % 16, by omega⟩) - (P (ix3 b s ⟨h.val * 128 + p.val * 64 + d.val / 32 * 32 + 16 + d.val % 16, by omega⟩) : EReal) * S (ix3 s ⟨d.val / 32, by omega⟩ ⟨d.val % 16, by omega⟩)
      else (P (ix3 b s ⟨h.val * 128 + p.val * 64 + d.val / 32 * 32 + 16 + d.val % 16, by omega⟩) : EReal) * C (ix3 s ⟨d.val / 32, by omega⟩ ⟨d.val % 16, by omega⟩) + (P (ix3 b s ⟨h.val * 128 + p.val * 64 + d.val / 32 * 32 + d.val % 16, by omega⟩) : EReal) * S (ix3 s ⟨d.val / 32, by omega⟩ ⟨d.val % 16, by omega⟩)) * Ideal.ofBits FTy.f32 1043900987#32 : EReal) := by
  pointwise [qRef]

theorem kRef_at (b : Fin 32) (s : Fin 2048) (h : Fin 4) (p : Fin 2) (d : Fin 64) : kRef P C S (ix5 b s h p d)
    = ((if _h : d.val / 16 % 2 < 1 then (P (ix3 b s ⟨512 + (h.val * 128 + p.val * 64 + d.val / 32 * 32 + d.val % 16), by omega⟩) : EReal) * C (ix3 s ⟨d.val / 32, by omega⟩ ⟨d.val % 16, by omega⟩) - (P (ix3 b s ⟨512 + (h.val * 128 + p.val * 64 + d.val / 32 * 32 + 16 + d.val % 16), by omega⟩) : EReal) * S (ix3 s ⟨d.val / 32, by omega⟩ ⟨d.val % 16, by omega⟩)
      else (P (ix3 b s ⟨512 + (h.val * 128 + p.val * 64 + d.val / 32 * 32 + 16 + d.val % 16), by omega⟩) : EReal) * C (ix3 s ⟨d.val / 32, by omega⟩ ⟨d.val % 16, by omega⟩) + (P (ix3 b s ⟨512 + (h.val * 128 + p.val * 64 + d.val / 32 * 32 + d.val % 16), by omega⟩) : EReal) * S (ix3 s ⟨d.val / 32, by omega⟩ ⟨d.val % 16, by omega⟩)) : EReal) := by
  pointwise [kRef]

end Read
end Proof.Proj
end
-- ==== Proof.ProjTables.lean ====
module

public import proofs.«01_k».proof.Proof.ProjHost
public import proofs.«01_k».proof.Proof.ProjRef

/-! The host's weight and rotation tables, from the arguments. -/

@[expose] public section
set_option maxRecDepth 65536
noncomputable section
namespace Proof.Proj
open Cert.Kernel5Ideal Cert.Kernel5Ideal.Gen
open Idealize.ShloMosaic Idealize.ShloMosaic.TcCoe Idealize.SL.Sem
open scoped BigOperators

/-- Column `j` of the gathered matrix is the operand's column whose number entry `j` holds. -/
theorem gather_at (x : S1024x512.Idx → EReal) (idx : IVec S512x1 32) (i : Fin 1024) (j : Fin 512) :
    Host.gather gather_S1024x512_S512x1_S1024x512_0_1_n_n_1_1_10241 x idx (ix2 i j) = x (ix2 i ⟨min (idx (ix2 j 0)).toInt.toNat 511, by omega⟩) := by
  unfold Host.gather
  congr 1
  funext a
  refine Fin.ext ?_
  match a with
  | ⟨0, _⟩ =>
    show GatherDims.start _ _ idx 0 + GatherDims.batchCoord _ _ 0 + GatherDims.offCoord _ _ 0 = i.val
    unfold GatherDims.start GatherDims.batchCoord GatherDims.offCoord
    rw [dif_neg (by decide), dif_neg (by decide), dif_pos (by decide), Nat.zero_add]
    rfl
  | ⟨1, _⟩ =>
    show GatherDims.start _ _ idx 1 + GatherDims.batchCoord _ _ 1 + GatherDims.offCoord _ _ 1 = min (idx (ix2 j 0)).toInt.toNat 511
    unfold GatherDims.start GatherDims.batchCoord GatherDims.offCoord
    rw [dif_pos (by decide), dif_neg (by decide), dif_neg (by decide), Nat.add_zero]
    have h : ∀ y y' : S512x1.Idx, (y 0).val = (y' 0).val → y = y' := fun y y' h => by
      funext b
      match b with
      | ⟨0, _⟩ => exact Fin.ext h
      | ⟨1, _⟩ => exact Subsingleton.elim (α := Fin 1) _ _
    exact congrArg (fun y => min (idx y).toInt.toNat 511) (h _ (ix2 j 0) rfl)

theorem orig_lt (n : ℕ) (h : n < 512) : orig n < 512 := by unfold orig; omega

/-- The argument's column that column `n` of the kernel's weight is. -/
def colOf (n : ℕ) : ℕ :=
  if n < 512 then orig n else if n < 1024 then 512 + orig (n - 512) else if n < 1536 then n else if n < 2048 then n + 1536
  else if n < 3072 then n - 512 else if n < 3584 then n + 512 else if n < 4096 then n - 1024 else n + 32

theorem colOf_lt (n : ℕ) (h : n < 7168) : colOf n < 7200 := by
  have hq : n < 512 → orig n < 512 := orig_lt n
  have hk : n - 512 < 512 → orig (n - 512) < 512 := orig_lt (n - 512)
  unfold colOf
  generalize orig n = a at *
  generalize orig (n - 512) = b at *
  split_ifs <;> omega

theorem clamp (j : Fin 512) : min (BitVec.ofNat 32 (orig j.val)).toInt.toNat 511 = orig j.val := by
  revert j
  decide +kernel

theorem slice_q (W : S1024x7200.Idx → EReal) (idx : IVec S512x1 32) (i : Fin 1024) (j : Fin 512) (h : idx (ix2 j 0) = BitVec.ofNat 32 (orig j.val)) :
    Host.gather gather_S1024x512_S512x1_S1024x512_0_1_n_n_1_1_10241 (extractStridedSlice S1024x512 ![0, 0] W slices_S1024x7200_S1024x512_0_0) idx (ix2 i j)
      = W (ix2 i ⟨orig j.val, by have := orig_lt _ j.isLt; omega⟩) := by
  rw [gather_at]
  pointwise []
  exact congrArg (fun a => W (ix2 i a)) (Fin.ext (by dsimp only; rw [h, clamp]))

theorem slice_k (W : S1024x7200.Idx → EReal) (idx : IVec S512x1 32) (i : Fin 1024) (j : Fin 512) (h : idx (ix2 j 0) = BitVec.ofNat 32 (orig j.val)) :
    Host.gather gather_S1024x512_S512x1_S1024x512_0_1_n_n_1_1_10241 (extractStridedSlice S1024x512 ![0, 512] W slices_S1024x7200_S1024x512_0_512) idx (ix2 i j)
      = W (ix2 i ⟨512 + orig j.val, by have := orig_lt _ j.isLt; omega⟩) := by
  rw [gather_at]
  pointwise []
  exact congrArg (fun a => W (ix2 i a)) (Fin.ext (by dsimp only; rw [h, clamp]))

section Host
variable (m : (ℓ : Loc nD τ sig) → Buf (Elt Ideal) ℓ) (c : Dev nD)

theorem argW_col (i : Fin 1024) {a b : ℕ} (ha : a < 7200) (hb : b < 7200) (h : a = b) : argW m c (ix2 i ⟨a, ha⟩) = argW m c (ix2 i ⟨b, hb⟩) := by
  subst h; rfl

theorem weight_q (i : Fin 1024) (j : Fin 512) : buf33 m c (ix2 i j) = argW m c (ix2 i ⟨orig j.val, by have := orig_lt _ j.isLt; omega⟩) := by
  rw [gather_q]
  exact slice_q (argW m c) _ i j (lanes_q m c j)

theorem weight_k (i : Fin 1024) (j : Fin 512) : buf41 m c (ix2 i j) = argW m c (ix2 i ⟨512 + orig j.val, by have := orig_lt _ j.isLt; omega⟩) := by
  rw [gather_k]
  exact slice_k (argW m c) _ i j (lanes_k m c j)

theorem weight_at (i : Fin 1024) (n : Fin 7168) : buf52 m c (ix2 i n) = argW m c (ix2 i ⟨colOf n.val, colOf_lt _ n.isLt⟩) := by
  have hn := n.isLt
  rw [w_at]
  split_ifs
  · rw [weight_q]
    exact argW_col m c i _ _ (by unfold colOf; rw [if_pos (by omega)])
  · rw [weight_k]
    exact argW_col m c i _ _ (by unfold colOf; rw [if_neg (by omega), if_pos (by omega)])
  all_goals exact argW_col m c i _ _ (by unfold colOf; repeat rw [if_neg (by omega)]
                                         first | (rw [if_pos (by omega)]; omega) | omega)

theorem angles_of (l : Fin 2048) (n : Fin 32) : (if h : n.val < 16 then (FloatOps.sitofp (F := Ideal) FTy.f32 ((V m c main_v61 : S2048.Idx → BitVec 32) (ix1 l)) : EReal) * buf60 m c (ix1 ⟨n.val, h⟩)
      else (FloatOps.sitofp (F := Ideal) FTy.f32 ((V m c main_v68 : S2048.Idx → BitVec 32) (ix1 l)) : EReal) * buf60 m c (ix1 ⟨n.val - 16, by omega⟩))
    = angles (ix3 l ⟨n.val / 16, by omega⟩ ⟨n.val % 16, by omega⟩) := by
  have hn := n.isLt
  rw [angles_at, row_at, col_at]
  split_ifs with h1 h2 h2
  · rw [inv_at]
    have e : n.val % 16 = n.val := by omega
    simp only [e]
  · exact absurd h2 (by dsimp only; omega)
  · exact absurd h1 (by dsimp only at h2; omega)
  · rw [inv_at]
    have e : n.val % 16 = n.val - 16 := by omega
    simp only [e]

theorem halfcos (l : Fin 2048) (n : Fin 32) : buf77 m c (ix2 l n) = Ideal.cos (angles (ix3 l ⟨n.val / 16, by omega⟩ ⟨n.val % 16, by omega⟩)) := by
  rw [halfcos_at, ← angles_of m c l n]
  split_ifs <;> rfl

theorem halfsin (l : Fin 2048) (n : Fin 32) : buf80 m c (ix2 l n) = Ideal.sin (angles (ix3 l ⟨n.val / 16, by omega⟩ ⟨n.val % 16, by omega⟩)) := by
  rw [halfsin_at, ← angles_of m c l n]
  split_ifs <;> rfl

theorem angles_congr (l : Fin 2048) {a a' : Fin 2} {f f' : Fin 16} (ha : a.val = a'.val) (hf : f.val = f'.val) : angles (ix3 l a f) = angles (ix3 l a' f') := by
  obtain rfl := Fin.ext ha
  obtain rfl := Fin.ext hf
  rfl

/-- The tables of a lane `n`, from the angle of its axis and frequency. -/
theorem table_cos (l : Fin 2048) (n : Fin 128) (a : Fin 2) (f : Fin 16) (ha : n.val % 32 / 16 = a.val) (hf : n.val % 16 = f.val) :
    buf83 m c (ix2 l n) = Ideal.cos (angles (ix3 l a f)) := by
  rw [cos_at, halfcos]
  exact congrArg Ideal.cos (angles_congr l ha (by dsimp only; omega))

theorem table_sin_low (l : Fin 2048) (n : Fin 128) (a : Fin 2) (f : Fin 16) (h : n.val < 64) (ha : n.val % 32 / 16 = a.val) (hf : n.val % 16 = f.val) :
    buf86 m c (ix2 l n) = -Ideal.sin (angles (ix3 l a f)) := by
  rw [signed_at]
  split_ifs
  · rw [halfsin]; exact congrArg (fun x => -Ideal.sin x) (angles_congr l (by dsimp only; omega) (by dsimp only; omega))
  · rw [halfsin]; exact congrArg (fun x => -Ideal.sin x) (angles_congr l (by dsimp only; omega) (by dsimp only; omega))
  all_goals omega

theorem table_sin_high (l : Fin 2048) (n : Fin 128) (a : Fin 2) (f : Fin 16) (h : ¬ n.val < 64) (ha : n.val % 32 / 16 = a.val) (hf : n.val % 16 = f.val) :
    buf86 m c (ix2 l n) = Ideal.sin (angles (ix3 l a f)) := by
  have hn := n.isLt
  rw [signed_at]
  split_ifs
  · omega
  · omega
  · rw [halfsin]; exact congrArg Ideal.sin (angles_congr l (by dsimp only; omega) (by dsimp only; omega))
  · rw [halfsin]; exact congrArg Ideal.sin (angles_congr l (by dsimp only; omega) (by dsimp only; omega))

end Host
end Proof.Proj
end
-- ==== Proof.ProjValue.lean ====
module

public import proofs.«01_k».proof.Proof.ProjPoint
public import proofs.«01_k».proof.Proof.ProjRun
public import proofs.«01_k».proof.Proof.ProjTables

/-! The arrays the input projection leaves, from the arguments. -/

@[expose] public section
set_option maxRecDepth 65536
noncomputable section
namespace Proof.Proj
open Cert.Kernel5Ideal Cert.Kernel5Ideal.Gen
open Idealize.ShloMosaic Idealize.ShloMosaic.TcCoe Idealize.SL.Sem
open scoped BigOperators

theorem index0 : ∀ t : Fin cfg0.N, win0_0.index t = ![t.val / 7, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 7, 0, 0] := (by decide +kernel : ∀ t : Fin grid0.N, _)
theorem index3 : ∀ t : Fin cfg0.N, win0_3.index t = ![t.val / 7, 0, 1] := (by decide +kernel : ∀ t : Fin grid0.N, _)
theorem index4 : ∀ t : Fin cfg0.N, win0_4.index t = ![0, t.val % 7] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val / 7, t.val % 7] := (by decide +kernel : ∀ t : Fin grid0.N, _)
theorem index11 : ∀ t : Fin cfg0.N, win0_11.index t = ![t.val / 7, 0] := (by decide +kernel : ∀ t : Fin grid0.N, _)

theorem points (t : Fin cfg0.N) : t.val < 224 := Nat.lt_of_lt_of_eq t.isLt N_0

/-- The batch entry of a grid point. -/
def batch (t : Fin cfg0.N) : Fin 32 := ⟨t.val / 7, by have := points t; omega⟩

section Values
variable (m : (ℓ : Loc nD τ sig) → Buf (Elt Ideal) ℓ) (c : Dev nD)

theorem argX_row {a b : Fin 32} {r s : Fin 2048} (k : Fin 1024) (h : a.val = b.val) (h' : r.val = s.val) : argX m c (ix3 a r k) = argX m c (ix3 b s k) := by
  obtain rfl := Fin.ext h
  obtain rfl := Fin.ext h'
  rfl

theorem blkX_at (t : Fin cfg0.N) (r : Fin 2048) (k : Fin 1024) : blkX m c t (ix2 r k) = argX m c (ix3 (batch t) r k) := by
  have ht := points t
  have hr := r.isLt
  refine Eq.trans ?_ ((x_at m c ⟨t.val / 7 * 2048 + r.val, by omega⟩ k).trans (argX_row m c k (by show (t.val / 7 * 2048 + r.val) / 2048 = t.val / 7; omega) (by show (t.val / 7 * 2048 + r.val) % 2048 = r.val; omega)))
  blk_simp [iblk]
  congr 1
  blk_ext [index0]

theorem blkG_at (t : Fin cfg0.N) (k : Fin 1024) : blkG m c t (ix2 0 k) = argG m c (ix1 k) := by
  rw [← g_at m c k]
  blk_simp [iblk]
  congr 1
  blk_ext [index1]

theorem blkSh_at (t : Fin cfg0.N) (k : Fin 1024) : blkSh m c t (ix3 0 0 k) = argM m c (ix2 ⟨(batch t).val, by have := (batch t).isLt; omega⟩ ⟨k.val, by have := k.isLt; omega⟩) := by
  rw [← mod_at m c]
  blk_simp [iblk]
  congr 1
  blk_ext [index2, batch]

theorem blkSc_at (t : Fin cfg0.N) (k : Fin 1024) : blkSc m c t (ix3 0 0 k) = argM m c (ix2 ⟨(batch t).val, by have := (batch t).isLt; omega⟩ ⟨1024 + k.val, by have := k.isLt; omega⟩) := by
  rw [← mod_at m c]
  blk_simp [iblk]
  congr 1
  blk_ext [index3, batch]

theorem blkW_at (t : Fin cfg0.N) (k n : Fin 1024) : blkW m c t (ix2 k n) = buf52 m c (ix2 k ⟨t.val % 7 * 1024 + n.val, by have := n.isLt; omega⟩) := by
  blk_simp [iblk]
  congr 1
  blk_ext [index4]

theorem blkWa_at (t : Fin cfg0.N) (k : Fin 1024) (n : Fin 128) : blkWa m c t (ix2 k n) = buf53 m c (ix2 k n) := by
  blk_simp [iblk]
  congr 1
  blk_ext [index5]

theorem blkQc_at (t : Fin cfg0.N) (r : Fin 2048) (l : Fin 128) : blkQc m c t (ix2 r l) = buf88 m c (ix2 r l) := by
  blk_simp [iblk]
  congr 1
  blk_ext [index6]

theorem blkQs_at (t : Fin cfg0.N) (r : Fin 2048) (l : Fin 128) : blkQs m c t (ix2 r l) = buf90 m c (ix2 r l) := by
  blk_simp [iblk]
  congr 1
  blk_ext [index7]

theorem blkKc_at (t : Fin cfg0.N) (r : Fin 2048) (l : Fin 128) : blkKc m c t (ix2 r l) = buf83 m c (ix2 r l) := by
  blk_simp [iblk]
  congr 1
  blk_ext [index8]

theorem blkKs_at (t : Fin cfg0.N) (r : Fin 2048) (l : Fin 128) : blkKs m c t (ix2 r l) = buf86 m c (ix2 r l) := by
  blk_simp [iblk]
  congr 1
  blk_ext [index9]

/-- The tokens, normalised and modulated, and their projection. -/
abbrev hid : S32x2048x1024.Idx → EReal := hidden (argX m c) (argM m c) (argG m c)
abbrev prj : (⟨3, ![32, 2048, 7200]⟩ : Shape).Idx → EReal := proj (argX m c) (argM m c) (argG m c) (argW m c)

theorem first_hidden (t : Fin cfg0.N) (r : Fin 2048) (k : Fin 1024) :
    hOf (blkX m c t) (blkG m c t) (blkSh m c t) (blkSc m c t) (ix2 r k) = hid m c (ix3 (batch t) r k) := by
  refine (hOf_at _ _ _ _ r k).trans (Eq.trans ?_ (hidden_at (argX m c) (argM m c) (argG m c) (batch t) r k).symm)
  rw [blkSh_at, blkSc_at, blkG_at]
  simp only [blkX_at]

/-- The gate input's column `n` of a row. -/
def gaCol (b : Fin 32) (s : Fin 2048) (n : Fin 128) : EReal := ∑ k : Fin 1024, hid m c (ix3 b s k) * buf53 m c (ix2 k n)

theorem first_ga (t : Fin cfg0.N) (r : Fin 2048) (n : Fin 128) :
    gaOf (blkX m c t) (blkG m c t) (blkSh m c t) (blkSc m c t) (blkWa m c t) (ix2 r n) = gaCol m c (batch t) r n := by
  rw [gaOf_at]
  exact Finset.sum_congr rfl fun k _ => by rw [first_hidden, blkWa_at]

/-- After every point of a batch entry the scratch array holds the entry's tokens, and the second result its gate input. -/
theorem state_holds : ∀ (n : ℕ) (hn : n < cfg0.N), (∀ (r : Fin 2048) (k : Fin 1024), (stateAt m c (n + 1)).h (ix2 r k) = hid m c (ix3 (batch ⟨n, hn⟩) r k))
    ∧ ∀ (r : Fin 2048) (k : Fin 128), (stateAt m c (n + 1)).ga (ix2 r k) = gaCol m c (batch ⟨n, hn⟩) r k
  | n, hn => by
    by_cases h : n % 7 = 0
    · rw [stateAt_first m c ⟨n, hn⟩ h]
      exact ⟨first_hidden m c ⟨n, hn⟩, first_ga m c ⟨n, hn⟩⟩
    · rw [stateAt_plain m c ⟨n, hn⟩ h]
      match n, hn, h with
      | 0, _, h => exact absurd rfl h
      | n + 1, hn, h =>
        have e : batch ⟨n + 1, hn⟩ = batch ⟨n, Nat.lt_of_succ_lt hn⟩ := Fin.ext (by show (n + 1) / 7 = n / 7; omega)
        rw [e]
        exact state_holds n (Nat.lt_of_succ_lt hn)

/-- Column `n` of the wide result at a row: the projected column, and in the query and key columns its rotation. -/
def zCol (b : Fin 32) (s : Fin 2048) (n : Fin 7168) : EReal :=
  if n.val < 1024 then
    prj m c (ix3 b s ⟨colOf n.val, colOf_lt _ n.isLt⟩) * (if n.val < 512 then buf88 m c else buf83 m c) (ix2 s ⟨n.val % 128, Nat.mod_lt _ (by decide)⟩)
      + prj m c (ix3 b s ⟨colOf (n.val / 128 * 128 + (n.val + 64) % 128), colOf_lt _ (by have := n.isLt; omega)⟩)
        * (if n.val < 512 then buf90 m c else buf86 m c) (ix2 s ⟨n.val % 128, Nat.mod_lt _ (by decide)⟩)
  else prj m c (ix3 b s ⟨colOf n.val, colOf_lt _ n.isLt⟩)

theorem column_at (t : Fin cfg0.N) (r : Fin 2048) (n : Fin 1024) (a : ℕ) (ha : a < 7168) (h : a = t.val % 7 * 1024 + n.val) :
    (∑ k : Fin 1024, ((stateAt m c (t.val + 1)).h (ix2 r k) : EReal) * blkW m c t (ix2 k n) : EReal) = prj m c (ix3 (batch t) r ⟨colOf a, colOf_lt _ ha⟩) := by
  subst h
  refine Eq.trans ?_ (proj_at (argX m c) (argM m c) (argG m c) (argW m c) (batch t) r _).symm
  exact Finset.sum_congr rfl fun k _ => by rw [(state_holds m c t.val t.isLt).1, blkW_at, weight_at]

theorem zAt_at (t : Fin cfg0.N) (r : Fin 2048) (n : Fin 1024) :
    zAt m c t (ix2 r n) = zCol m c (batch t) r ⟨t.val % 7 * 1024 + n.val, by have := n.isLt; omega⟩ := by
  have hn := n.isLt
  unfold zAt zCol
  by_cases h : t.val % 7 = 0
  · have e : t.val % 7 * 1024 + n.val = n.val := by omega
    have hp : n.val / 128 * 128 + (n.val + 64) % 128 < 1024 := by omega
    rw [if_pos h, rotatedOf_at]
    simp only [e]
    rw [if_pos hn]
    unfold turned
    by_cases h5 : n.val < 512
    · simp only [if_pos h5]
      rw [acc_at, acc_at, column_at m c t r n n.val (by omega) (by omega), column_at m c t r ⟨_, hp⟩ (n.val / 128 * 128 + (n.val + 64) % 128) (by omega) (by show _ = t.val % 7 * 1024 + (n.val / 128 * 128 + (n.val + 64) % 128); omega), blkQc_at, blkQs_at]
    · simp only [if_neg h5]
      rw [acc_at, acc_at, column_at m c t r n n.val (by omega) (by omega), column_at m c t r ⟨_, hp⟩ (n.val / 128 * 128 + (n.val + 64) % 128) (by omega) (by show _ = t.val % 7 * 1024 + (n.val / 128 * 128 + (n.val + 64) % 128); omega), blkKc_at, blkKs_at]
  · rw [if_neg h, if_neg (by dsimp only; omega), plainOf_at]
    exact column_at m c t r n (t.val % 7 * 1024 + n.val) (by omega) rfl

/-- The two arrays. -/
def zRows : S65536x7168.Idx → EReal := fun x => zCol m c ⟨(x 0).val / 2048, by have h : (x 0).val < 65536 := (x 0).isLt; omega⟩ ⟨(x 0).val % 2048, Nat.mod_lt _ (by decide)⟩ (x 1)
def gaRows : S65536x128.Idx → EReal := fun x => gaCol m c ⟨(x 0).val / 2048, by have h : (x 0).val < 65536 := (x 0).isLt; omega⟩ ⟨(x 0).val % 2048, Nat.mod_lt _ (by decide)⟩ (x 1)

theorem z_rows : (dats m 0 c).arrAt 10 cfg0.N = zRows m c := by
  refine (dats m 0 c).arrAt_eq_of_covers 10 (zRows m c) (by decide +kernel) fun t _ y => ?_
  obtain ⟨r, n, rfl⟩ : ∃ (r : Fin 2048) (n : Fin 1024), y = ix2 r n := ⟨y 0, y 1, by funext a; match a with | 0 => rfl | 1 => rfl⟩
  have ht := points t
  have hr := r.isLt
  have he : ((cfg0.win 10).blk t).view.emb (ix2 r n) = ix2 (⟨t.val / 7 * 2048 + r.val, by omega⟩ : Fin 65536) (⟨t.val % 7 * 1024 + n.val, by have := n.isLt; omega⟩ : Fin 7168) := by
    blk_ext [index10]
  have hb : (⟨(t.val / 7 * 2048 + r.val) / 2048, by omega⟩ : Fin 32) = batch t := Fin.ext (by show (t.val / 7 * 2048 + r.val) / 2048 = t.val / 7; omega)
  have hs : (⟨(t.val / 7 * 2048 + r.val) % 2048, Nat.mod_lt _ (by decide)⟩ : Fin 2048) = r := Fin.ext (by show (t.val / 7 * 2048 + r.val) % 2048 = r.val; omega)
  blk_simp
  refine (zAt_at m c t r n).trans ?_
  rw [he]
  show _ = zCol m c ⟨(t.val / 7 * 2048 + r.val) / 2048, _⟩ ⟨(t.val / 7 * 2048 + r.val) % 2048, _⟩ _
  rw [hb, hs]
  rfl

theorem ga_rows : (dats m 0 c).arrAt 11 cfg0.N = gaRows m c := by
  refine (dats m 0 c).arrAt_eq_of_covers 11 (gaRows m c) (by decide +kernel) fun t _ y => ?_
  obtain ⟨r, n, rfl⟩ : ∃ (r : Fin 2048) (n : Fin 128), y = ix2 r n := ⟨y 0, y 1, by funext a; match a with | 0 => rfl | 1 => rfl⟩
  have ht := points t
  have hr := r.isLt
  have he : ((cfg0.win 11).blk t).view.emb (ix2 r n) = ix2 (⟨t.val / 7 * 2048 + r.val, by omega⟩ : Fin 65536) n := by
    blk_ext [index11]
  have hb : (⟨(t.val / 7 * 2048 + r.val) / 2048, by omega⟩ : Fin 32) = batch t := Fin.ext (by show (t.val / 7 * 2048 + r.val) / 2048 = t.val / 7; omega)
  have hs : (⟨(t.val / 7 * 2048 + r.val) % 2048, Nat.mod_lt _ (by decide)⟩ : Fin 2048) = r := Fin.ext (by show (t.val / 7 * 2048 + r.val) % 2048 = r.val; omega)
  blk_simp
  refine ((state_holds m c t.val t.isLt).2 r n).trans ?_
  rw [he]
  show _ = gaCol m c ⟨(t.val / 7 * 2048 + r.val) / 2048, _⟩ ⟨(t.val / 7 * 2048 + r.val) % 2048, _⟩ _
  rw [hb, hs]
  rfl

end Values
end Proof.Proj
end
-- ==== Proof.ProjCols.lean ====
module

public import proofs.«01_k».proof.Proof.ProjScale
public import proofs.«01_k».proof.Proof.ProjValue

/-! The columns of the input projection's results are the reference's. -/

@[expose] public section
set_option maxRecDepth 65536
noncomputable section
namespace Proof.Proj
open Cert.Kernel5Ideal Cert.Kernel5Ideal.Gen
open Idealize.ShloMosaic Idealize.ShloMosaic.TcCoe Idealize.SL.Sem
open scoped BigOperators

section Values
variable (m : (ℓ : Loc nD τ sig) → Buf (Elt Ideal) ℓ) (c : Dev nD)

theorem prj_col (b : Fin 32) (s : Fin 2048) {i j : ℕ} (hi : i < 7200) (hj : j < 7200) (h : i = j) : prj m c (ix3 b s ⟨i, hi⟩) = prj m c (ix3 b s ⟨j, hj⟩) := by
  subst h; rfl

/-- The lane of a head's component and coordinate. -/
def lane (h : Fin 4) (p : Fin 2) (d : Fin 64) : ℕ := h.val * 128 + d.val / 16 % 2 * 64 + p.val * 32 + d.val / 32 * 16 + d.val % 16

theorem lane_lt : ∀ (h : Fin 4) (p : Fin 2) (d : Fin 64), lane h p d < 512 := by decide +kernel
theorem partner_lt : ∀ (h : Fin 4) (p : Fin 2) (d : Fin 64), lane h p d / 128 * 128 + (lane h p d + 64) % 128 < 512 := by decide +kernel
theorem lane_axis : ∀ (h : Fin 4) (p : Fin 2) (d : Fin 64), lane h p d % 128 % 32 / 16 = d.val / 32 := by decide +kernel
theorem lane_freq : ∀ (h : Fin 4) (p : Fin 2) (d : Fin 64), lane h p d % 128 % 16 = d.val % 16 := by decide +kernel
theorem lane_low : ∀ (h : Fin 4) (p : Fin 2) (d : Fin 64), d.val / 16 % 2 < 1 → lane h p d % 128 < 64 := by decide +kernel
theorem lane_high : ∀ (h : Fin 4) (p : Fin 2) (d : Fin 64), ¬ d.val / 16 % 2 < 1 → ¬ lane h p d % 128 < 64 := by decide +kernel
theorem orig_low : ∀ (h : Fin 4) (p : Fin 2) (d : Fin 64), d.val / 16 % 2 < 1 → orig (lane h p d) = h.val * 128 + p.val * 64 + d.val / 32 * 32 + d.val % 16 := by decide +kernel
theorem orig_high : ∀ (h : Fin 4) (p : Fin 2) (d : Fin 64), ¬ d.val / 16 % 2 < 1 → orig (lane h p d) = h.val * 128 + p.val * 64 + d.val / 32 * 32 + 16 + d.val % 16 := by decide +kernel
theorem partner_low : ∀ (h : Fin 4) (p : Fin 2) (d : Fin 64), d.val / 16 % 2 < 1 → orig (lane h p d / 128 * 128 + (lane h p d + 64) % 128) = h.val * 128 + p.val * 64 + d.val / 32 * 32 + 16 + d.val % 16 := by decide +kernel
theorem partner_high : ∀ (h : Fin 4) (p : Fin 2) (d : Fin 64), ¬ d.val / 16 % 2 < 1 → orig (lane h p d / 128 * 128 + (lane h p d + 64) % 128) = h.val * 128 + p.val * 64 + d.val / 32 * 32 + d.val % 16 := by decide +kernel
theorem shifted_mod : ∀ n : Fin 512, (512 + n.val) % 128 = n.val % 128 := by decide +kernel
theorem shifted_partner : ∀ n : Fin 512, (512 + n.val) / 128 * 128 + (512 + n.val + 64) % 128 = 512 + (n.val / 128 * 128 + (n.val + 64) % 128) := by decide +kernel

theorem colOf_q (n : ℕ) (h : n < 512) : colOf n = orig n := if_pos h
theorem colOf_k (n : ℕ) (h : n < 512) : colOf (512 + n) = 512 + orig n := by
  unfold colOf
  rw [if_neg (by omega), if_pos (by omega), Nat.add_sub_cancel_left]

theorem q_col (b : Fin 32) (s : Fin 2048) (h : Fin 4) (p : Fin 2) (d : Fin 64) :
    zCol m c b s ⟨lane h p d, by have := lane_lt h p d; omega⟩ = qRef (prj m c) (Host.cos angles) (Host.sin angles) (ix5 b s h p d) := by
  have hl := lane_lt h p d
  have hlt := partner_lt h p d
  unfold zCol
  simp only [if_pos hl, if_pos (Nat.lt_trans hl (by decide : 512 < 1024))]
  rw [qRef_at, qcos_at, qsin_at, table_cos m c s _ ⟨d.val / 32, by omega⟩ ⟨d.val % 16, by omega⟩ (lane_axis h p d) (lane_freq h p d)]
  split_ifs with hh
  · rw [table_sin_low m c s _ ⟨d.val / 32, by omega⟩ ⟨d.val % 16, by omega⟩ (lane_low h p d hh) (lane_axis h p d) (lane_freq h p d),
      prj_col m c b s _ (by omega) ((colOf_q _ hl).trans (orig_low h p d hh)),
      prj_col m c b s _ (by omega) ((colOf_q _ hlt).trans (partner_low h p d hh))]
    exact scale_low _ _ _ _
  · rw [table_sin_high m c s _ ⟨d.val / 32, by omega⟩ ⟨d.val % 16, by omega⟩ (lane_high h p d hh) (lane_axis h p d) (lane_freq h p d),
      prj_col m c b s _ (by omega) ((colOf_q _ hl).trans (orig_high h p d hh)),
      prj_col m c b s _ (by omega) ((colOf_q _ hlt).trans (partner_high h p d hh))]
    exact scale_high _ _ _ _

theorem k_col (b : Fin 32) (s : Fin 2048) (h : Fin 4) (p : Fin 2) (d : Fin 64) :
    zCol m c b s ⟨512 + lane h p d, by have := lane_lt h p d; omega⟩ = kRef (prj m c) (Host.cos angles) (Host.sin angles) (ix5 b s h p d) := by
  have hl := lane_lt h p d
  have hlt := partner_lt h p d
  have hm := shifted_mod ⟨_, hl⟩
  have he := shifted_partner ⟨_, hl⟩
  have ha := (congrArg (· % 32 / 16) hm).trans (lane_axis h p d)
  have hf := (congrArg (· % 16) hm).trans (lane_freq h p d)
  unfold zCol
  simp only [if_neg (Nat.not_lt.mpr (Nat.le_add_right 512 (lane h p d))), if_pos (Nat.add_lt_add_left hl 512)]
  rw [kRef_at, table_cos m c s _ ⟨d.val / 32, by omega⟩ ⟨d.val % 16, by omega⟩ ha hf]
  split_ifs with hh
  · rw [table_sin_low m c s _ ⟨d.val / 32, by omega⟩ ⟨d.val % 16, by omega⟩ (hm.trans_lt (lane_low h p d hh)) ha hf,
      prj_col m c b s _ (by omega) ((colOf_k _ hl).trans (congrArg (512 + ·) (orig_low h p d hh))),
      prj_col m c b s _ (by omega) ((congrArg colOf he).trans ((colOf_k _ hlt).trans (congrArg (512 + ·) (partner_low h p d hh))))]
    exact turn_low _ _ _ _
  · rw [table_sin_high m c s _ ⟨d.val / 32, by omega⟩ ⟨d.val % 16, by omega⟩ (fun h' => lane_high h p d hh (hm.symm.trans_lt h')) ha hf,
      prj_col m c b s _ (by omega) ((colOf_k _ hl).trans (congrArg (512 + ·) (orig_high h p d hh))),
      prj_col m c b s _ (by omega) ((congrArg colOf he).trans ((colOf_k _ hlt).trans (congrArg (512 + ·) (partner_high h p d hh))))]
    rfl

theorem rest_col (b : Fin 32) (s : Fin 2048) (j : Fin 6144) : zCol m c b s ⟨1024 + j.val, by omega⟩ = restRef (prj m c) (ix3 b s j) := by
  have hj := j.isLt
  unfold zCol
  rw [if_neg (by dsimp only; omega), restRef_at]
  split_ifs <;> exact prj_col m c b s _ _ (by
    show colOf (1024 + j.val) = _
    unfold colOf
    rw [if_neg (by omega), if_neg (by omega)]
    split_ifs <;> omega)

theorem ga_col (b : Fin 32) (s : Fin 2048) (j : Fin 32) : gaCol m c b s ⟨j.val, by omega⟩ = gaRef (prj m c) (ix3 b s j) := by
  rw [gaRef_at]
  refine Eq.trans ?_ (proj_at (argX m c) (argM m c) (argG m c) (argW m c) b s _).symm
  unfold gaCol
  exact Finset.sum_congr rfl fun k _ => by rw [ga_at m c k ⟨j.val, by omega⟩ j.isLt]

theorem zRows_at (y : S65536x7168.Idx) (b : Fin 32) (s : Fin 2048) (n : Fin 7168) (h0 : (y 0).val = b.val * 2048 + s.val) (h1 : (y 1).val = n.val) :
    zRows m c y = zCol m c b s n := by
  have hb := b.isLt
  have hs := s.isLt
  unfold zRows
  rw [show (⟨(y 0).val / 2048, by omega⟩ : Fin 32) = b from Fin.ext (by show (y 0).val / 2048 = b.val; omega),
    show (⟨(y 0).val % 2048, Nat.mod_lt _ (by decide)⟩ : Fin 2048) = s from Fin.ext (by show (y 0).val % 2048 = s.val; omega),
    show y 1 = n from Fin.ext h1]

theorem gaRows_at (y : S65536x128.Idx) (b : Fin 32) (s : Fin 2048) (n : Fin 128) (h0 : (y 0).val = b.val * 2048 + s.val) (h1 : (y 1).val = n.val) :
    gaRows m c y = gaCol m c b s n := by
  have hb := b.isLt
  have hs := s.isLt
  unfold gaRows
  rw [show (⟨(y 0).val / 2048, by omega⟩ : Fin 32) = b from Fin.ext (by show (y 0).val / 2048 = b.val; omega),
    show (⟨(y 0).val % 2048, Nat.mod_lt _ (by decide)⟩ : Fin 2048) = s from Fin.ext (by show (y 0).val % 2048 = s.val; omega),
    show y 1 = n from Fin.ext h1]

end Values
end Proof.Proj
end
-- ==== Proof.ProjResult.lean ====
module

public import proofs.«01_k».proof.Defs
public import proofs.«01_k».proof.Proof.ProjCols

/-! The host's results of the input projection are the reference's. -/

@[expose] public section
set_option maxRecDepth 65536
noncomputable section
namespace Proof.Proj
open Cert.Kernel5Ideal Cert.Kernel5Ideal.Gen
open Idealize.ShloMosaic Idealize.ShloMosaic.TcCoe Idealize.SL.Sem
open scoped BigOperators

section Values
variable (m : (ℓ : Loc nD τ sig) → Buf (Elt Ideal) ℓ) (c : Dev nD)

theorem z_array : Pipeline.withArrays (cfgs 0).spec c (V0 m c) (fun w => (dats m 0 c).arrAt w (cfgs 0).N) (Proc.tc.devRef main_v93_0) = zRows m c :=
  (Pipeline.withArrays_arr_shared spec0 c (V0 m c) (fun w => (dats m 0 c).arrAt w cfg0.N)
    ((dats m 0 c).arrAt_sharedIn sharedIn0 (V0 m c) (dats_A m c) cfg0.N) 10).trans (z_rows m c)

theorem ga_array : Pipeline.withArrays (cfgs 0).spec c (V0 m c) (fun w => (dats m 0 c).arrAt w (cfgs 0).N) (Proc.tc.devRef main_v93_1) = gaRows m c :=
  (Pipeline.withArrays_arr_shared spec0 c (V0 m c) (fun w => (dats m 0 c).arrAt w cfg0.N)
    ((dats m 0 c).arrAt_sharedIn sharedIn0 (V0 m c) (dats_A m c) cfg0.N) 11).trans (ga_rows m c)

theorem zRows_q (b : Fin 32) (s : Fin 2048) (h : Fin 4) (p : Fin 2) (d : Fin 64) (y : S65536x7168.Idx) (h0 : (y 0).val = b.val * 2048 + s.val)
    (h1 : (y 1).val = h.val * 128 + d.val / 16 % 2 * 64 + p.val * 32 + d.val / 32 * 16 + d.val % 16) :
    zRows m c y = qRef (prj m c) (Host.cos angles) (Host.sin angles) (ix5 b s h p d) :=
  (zRows_at m c y b s ⟨lane h p d, Nat.lt_trans (lane_lt h p d) (by decide)⟩ h0 h1).trans (q_col m c b s h p d)

theorem zRows_k (b : Fin 32) (s : Fin 2048) (h : Fin 4) (p : Fin 2) (d : Fin 64) (y : S65536x7168.Idx) (h0 : (y 0).val = b.val * 2048 + s.val)
    (h1 : (y 1).val = 512 + (h.val * 128 + d.val / 16 % 2 * 64 + p.val * 32 + d.val / 32 * 16 + d.val % 16)) :
    zRows m c y = kRef (prj m c) (Host.cos angles) (Host.sin angles) (ix5 b s h p d) :=
  (zRows_at m c y b s ⟨512 + lane h p d, Nat.lt_trans (Nat.add_lt_add_left (lane_lt h p d) 512) (by decide)⟩ h0 h1).trans (k_col m c b s h p d)

theorem q_result : Pipeline.afterTail₀ cfgs (dats m) 0 (V0 m) [hostOps1] c main_v99 = qRef (prj m c) (Host.cos angles) (Host.sin angles) := by
  funext x
  obtain ⟨b, s, h, p, d, rfl⟩ : ∃ (b : Fin 32) (s : Fin 2048) (h : Fin 4) (p : Fin 2) (d : Fin 64), x = ix5 b s h p d :=
    ⟨x 0, x 1, x 2, x 3, x 4, by funext a; match a with | 0 => rfl | 1 => rfl | 2 => rfl | 3 => rfl | 4 => rfl⟩
  have hb := b.isLt
  have hs := s.isLt
  unfold Pipeline.afterTail₀
  after_reads_at
  refine (congrFun (z_array m c) _).trans ?_
  exact zRows_q m c b s h p d _ rfl rfl

theorem k_result : Pipeline.afterTail₀ cfgs (dats m) 0 (V0 m) [hostOps1] c main_v103 = kRef (prj m c) (Host.cos angles) (Host.sin angles) := by
  funext x
  obtain ⟨b, s, h, p, d, rfl⟩ : ∃ (b : Fin 32) (s : Fin 2048) (h : Fin 4) (p : Fin 2) (d : Fin 64), x = ix5 b s h p d :=
    ⟨x 0, x 1, x 2, x 3, x 4, by funext a; match a with | 0 => rfl | 1 => rfl | 2 => rfl | 3 => rfl | 4 => rfl⟩
  have hb := b.isLt
  have hs := s.isLt
  unfold Pipeline.afterTail₀
  after_reads_at
  refine (congrFun (z_array m c) _).trans ?_
  exact zRows_k m c b s h p d _ rfl rfl

theorem rest_result : Pipeline.afterTail₀ cfgs (dats m) 0 (V0 m) [hostOps1] c main_v104 = restRef (prj m c) := by
  funext x
  obtain ⟨b, s, j, rfl⟩ : ∃ (b : Fin 32) (s : Fin 2048) (j : Fin 6144), x = ix3 b s j :=
    ⟨x 0, x 1, x 2, by funext a; match a with | 0 => rfl | 1 => rfl | 2 => rfl⟩
  have hb := b.isLt
  have hs := s.isLt
  have hj := j.isLt
  unfold Pipeline.afterTail₀
  after_reads_at
  refine (congrFun (z_array m c) _).trans ?_
  exact (zRows_at m c _ b s ⟨1024 + j.val, by omega⟩ rfl rfl).trans (rest_col m c b s j)

theorem ga_result : Pipeline.afterTail₀ cfgs (dats m) 0 (V0 m) [hostOps1] c main_v107 = gaRef (prj m c) := by
  funext x
  obtain ⟨b, s, j, rfl⟩ : ∃ (b : Fin 32) (s : Fin 2048) (j : Fin 32), x = ix3 b s j :=
    ⟨x 0, x 1, x 2, by funext a; match a with | 0 => rfl | 1 => rfl | 2 => rfl⟩
  have hb := b.isLt
  have hs := s.isLt
  have hj := j.isLt
  unfold Pipeline.afterTail₀
  after_reads_at
  refine (congrFun (ga_array m c) _).trans ?_
  exact (gaRows_at m c _ b s ⟨j.val, by omega⟩ rfl rfl).trans (ga_col m c b s j)

end Values

theorem proj_congr {x0 y0 : S32x2048x1024.Idx → EReal} {x1 y1 : S40x6144.Idx → EReal} {x2 y2 : S1024.Idx → EReal} {x3 y3 : S1024x7200.Idx → EReal}
    (h0 : x0 = y0) (h1 : x1 = y1) (h2 : x2 = y2) (h3 : x3 = y3) : proj x0 x1 x2 x3 = proj y0 y1 y2 y3 := by
  rw [h0, h1, h2, h3]

/-- The kernel and the reference end with the same results. -/
theorem algebraic_inproj : Cert.algebraic_Kernel5Ideal_Reference5Ideal := fun m ρ m' ρ' _ hagree => by
  refine ⟨fun c => qRef (prj m c) (Host.cos angles) (Host.sin angles), fun c => kRef (prj m c) (Host.cos angles) (Host.sin angles),
    fun c => restRef (prj m c), fun c => gaRef (prj m c), ?_, ?_⟩
  · refine (θ_run Cert.Kernel5Ideal.defs _ _).mono (fun r h c => ⟨?_, ?_, ?_, ?_, Ends.args m h c⟩) (run_main (F := Ideal) m ρ)
    · exact ((h.1 c).2 Cert.Kernel5Ideal.main_v99 (Pipeline.mem_restRefs_of Cert.Kernel5Ideal.main_v99 (by decide) (by decide))).trans (q_result m c)
    · exact ((h.1 c).2 Cert.Kernel5Ideal.main_v103 (Pipeline.mem_restRefs_of Cert.Kernel5Ideal.main_v103 (by decide) (by decide))).trans (k_result m c)
    · exact ((h.1 c).2 Cert.Kernel5Ideal.main_v104 (Pipeline.mem_restRefs_of Cert.Kernel5Ideal.main_v104 (by decide) (by decide))).trans (rest_result m c)
    · exact ((h.1 c).2 Cert.Kernel5Ideal.main_v107 (Pipeline.mem_restRefs_of Cert.Kernel5Ideal.main_v107 (by decide) (by decide))).trans (ga_result m c)
  · refine (θ_run Cert.Reference5Ideal.defs _ _).mono (fun r h c => ?_) (Cert.Reference5Ideal.Value.run (F := Ideal) m' ρ')
    obtain ⟨h0, h1, h2, h3⟩ := hagree c
    have e : projAt m' c = prj m c := proj_congr h0 h1 h2 h3
    refine ⟨(h c).1.trans ((q_run m' c).trans ?_), (h c).2.1.trans ((k_run m' c).trans ?_), (h c).2.2.1.trans ((rest_run m' c).trans ?_),
      (h c).2.2.2.1.trans (Eq.trans (b := gaRef (projAt m' c)) rfl ?_), (h c).2.2.2.2⟩ <;> rw [e]

end Proof.Proj
end
-- ==== Proof.lean ====
/- The claims about the experts, the dense feed-forward, the merge, the last residual and the input projection: every program runs, and each kernel's
   results are its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Reference5Ideal.Run
public import proofs.«01_k».proof.Proof.Frames
public import proofs.«01_k».proof.Proof.Equation
public import proofs.«01_k».proof.Proof.Dense
public import proofs.«01_k».proof.Proof.Merge
public import proofs.«01_k».proof.Proof.Residual
public import proofs.«01_k».proof.Proof.ProjFrames
public import proofs.«01_k».proof.Proof.ProjResult
public import Idealize.ShloMosaic.Adequacy
public import Idealize.ShloMosaic.Init

@[expose] public section

noncomputable section

namespace Cert.Proof

open Idealize.ShloMosaic Idealize.SL.Sem Cert.Kernel

/-- The references of the other calls end from every memory, their arguments as launched. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Proof.Moe in
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts,
    frame_kernel, frame_kernelIdeal, frame_kernelIdeal_pre, frame_referenceIdeal, frame_referenceIdeal_pre,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    Proof.Proj.frame_kernel5, Proof.Proj.frame_kernel5Ideal, Proof.Proj.frame_reference5Ideal,
    trivial, algebraic_moe, trivial, Proof.Dense.algebraic_dense, trivial, Proof.Merge.algebraic_merge,
    trivial, Proof.Residual.algebraic_residual,
    trivial, Proof.Proj.algebraic_inproj⟩

end Cert.Proof

end
